-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_ReferenceGlaIdeal (m : (ℓ : Loc Cert.ReferenceGlaIdeal.nD Cert.ReferenceGlaIdeal.τ Cert.ReferenceGlaIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelDecay (m : (ℓ : Loc Cert.KernelDecay.nD Cert.KernelDecay.τ Cert.KernelDecay.sig) → Buf (Elt Bits) ℓ) : Prop :=
  True

def Pre_KernelDecayIdeal (m : (ℓ : Loc Cert.KernelDecayIdeal.nD Cert.KernelDecayIdeal.τ Cert.KernelDecayIdeal.sig) → Buf (Elt Ideal) ℓ) : Prop :=
  True

def Pre_ReferenceDecayIdeal (m : (ℓ : Loc Cert.ReferenceDecayIdeal.nD Cert.ReferenceDecayIdeal.τ Cert.ReferenceDecayIdeal.sig) → Buf (Elt Ideal) ℓ) : Prop :=
  True

def Pre_KernelLora (m : (ℓ : Loc Cert.KernelLora.nD Cert.KernelLora.τ Cert.KernelLora.sig) → Buf (Elt Bits) ℓ) : Prop :=
  True

def Pre_KernelLoraIdeal (m : (ℓ : Loc Cert.KernelLoraIdeal.nD Cert.KernelLoraIdeal.τ Cert.KernelLoraIdeal.sig) → Buf (Elt Ideal) ℓ) : Prop :=
  True

def Pre_ReferenceLoraIdeal (m : (ℓ : Loc Cert.ReferenceLoraIdeal.nD Cert.ReferenceLoraIdeal.τ Cert.ReferenceLoraIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_ReferenceSampleIdeal (m : (ℓ : Loc Cert.ReferenceSampleIdeal.nD Cert.ReferenceSampleIdeal.τ Cert.ReferenceSampleIdeal.sig) → Buf (Elt Ideal) ℓ) : Prop :=
  True

def Pre_KernelOutSample (m : (ℓ : Loc Cert.KernelOutSample.nD Cert.KernelOutSample.τ Cert.KernelOutSample.sig) → Buf (Elt Bits) ℓ) : Prop :=
  True

def Pre_KernelOutSampleIdeal (m : (ℓ : Loc Cert.KernelOutSampleIdeal.nD Cert.KernelOutSampleIdeal.τ Cert.KernelOutSampleIdeal.sig) → Buf (Elt Ideal) ℓ) : Prop :=
  True

def Pre_ReferenceOutSampleIdeal (m : (ℓ : Loc Cert.ReferenceOutSampleIdeal.nD Cert.ReferenceOutSampleIdeal.τ Cert.ReferenceOutSampleIdeal.sig) → Buf (Elt Ideal) ℓ) : Prop :=
  True

def Pre_KernelChunk (m : (ℓ : Loc Cert.KernelChunk.nD Cert.KernelChunk.τ Cert.KernelChunk.sig) → Buf (Elt Bits) ℓ) : Prop :=
  True

def Pre_KernelChunkIdeal (m : (ℓ : Loc Cert.KernelChunkIdeal.nD Cert.KernelChunkIdeal.τ Cert.KernelChunkIdeal.sig) → Buf (Elt Ideal) ℓ) : Prop :=
  True

def Pre_ReferenceChunkIdeal (m : (ℓ : Loc Cert.ReferenceChunkIdeal.nD Cert.ReferenceChunkIdeal.τ Cert.ReferenceChunkIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3))
      ∧ r.2.sem = fun _ => 0)

def quiescent_KernelDecay [hKernelDecay : Cert.KernelDecay.Facts] : Prop :=
  ∀ (m : (ℓ : Loc Cert.KernelDecay.nD Cert.KernelDecay.τ Cert.KernelDecay.sig) → Buf (Elt Bits) ℓ) (g : Dev Cert.KernelDecay.nD → PrngReg), Pre_KernelDecay m →
    θ_run (Cert.KernelDecay.defs (F := Bits)) (onTc (τ := Cert.KernelDecay.τ) (Cert.KernelDecay.main (F := Bits))) ⟨m, fun _ => 0, g⟩ (fun r => (∀ c : Dev Cert.KernelDecay.nD,
      r.2.mem ((c.tc : Thread Cert.KernelDecay.nD Cert.KernelDecay.τ).loc Cert.KernelDecay.main_arg0) = m ((c.tc : Thread Cert.KernelDecay.nD Cert.KernelDecay.τ).loc Cert.KernelDecay.main_arg0)
      ∧ r.2.mem ((c.tc : Thread Cert.KernelDecay.nD Cert.KernelDecay.τ).loc Cert.KernelDecay.main_arg1) = m ((c.tc : Thread Cert.KernelDecay.nD Cert.KernelDecay.τ).loc Cert.KernelDecay.main_arg1)
      ∧ r.2.mem ((c.tc : Thread Cert.KernelDecay.nD Cert.KernelDecay.τ).loc Cert.KernelDecay.main_arg2) = m ((c.tc : Thread Cert.KernelDecay.nD Cert.KernelDecay.τ).loc Cert.KernelDecay.main_arg2)
      ∧ r.2.mem ((c.tc : Thread Cert.KernelDecay.nD Cert.KernelDecay.τ).loc Cert.KernelDecay.main_arg3) = m ((c.tc : Thread Cert.KernelDecay.nD Cert.KernelDecay.τ).loc Cert.KernelDecay.main_arg3))
      ∧ r.2.sem = fun _ => 0)

def quiescent_KernelDecayIdeal [hKernelDecayIdeal : Cert.KernelDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg), Pre_KernelDecayIdeal m →
    θ_run (Cert.KernelDecayIdeal.defs (F := Ideal)) (onTc (τ := Cert.KernelDecayIdeal.τ) (Cert.KernelDecayIdeal.main (F := Ideal))) ⟨m, fun _ => 0, g⟩ (fun r => (∀ c : Dev Cert.KernelDecayIdeal.nD,
      r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
      ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
      ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2)
      ∧ r.2.mem ((c.tc : Thread Cert.KernelDecayIdeal.nD Cert.KernelDecayIdeal.τ).loc Cert.KernelDecayIdeal.main_arg3) = m ((c.tc : Thread Cert.KernelDecayIdeal.nD Cert.KernelDecayIdeal.τ).loc Cert.KernelDecayIdeal.main_arg3))
      ∧ r.2.sem = fun _ => 0)

def quiescent_ReferenceDecayIdeal [hReferenceDecayIdeal : Cert.ReferenceDecayIdeal.Facts] : Prop :=
  ∀ (m : (ℓ : Loc Cert.ReferenceDecayIdeal.nD Cert.ReferenceDecayIdeal.τ Cert.ReferenceDecayIdeal.sig) → Buf (Elt Ideal) ℓ) (g : Dev Cert.ReferenceDecayIdeal.nD → PrngReg), Pre_ReferenceDecayIdeal m →
    θ_run (Cert.ReferenceDecayIdeal.defs (F := Ideal)) (onTc (τ := Cert.ReferenceDecayIdeal.τ) (Cert.ReferenceDecayIdeal.main (F := Ideal))) ⟨m, fun _ => 0, g⟩ (fun r => (∀ c : Dev Cert.ReferenceDecayIdeal.nD,
      r.2.mem ((c.tc : Thread Cert.ReferenceDecayIdeal.nD Cert.ReferenceDecayIdeal.τ).loc Cert.ReferenceDecayIdeal.main_arg0) = m ((c.tc : Thread Cert.ReferenceDecayIdeal.nD Cert.ReferenceDecayIdeal.τ).loc Cert.ReferenceDecayIdeal.main_arg0)
      ∧ r.2.mem ((c.tc : Thread Cert.ReferenceDecayIdeal.nD Cert.ReferenceDecayIdeal.τ).loc Cert.ReferenceDecayIdeal.main_arg1) = m ((c.tc : Thread Cert.ReferenceDecayIdeal.nD Cert.ReferenceDecayIdeal.τ).loc Cert.ReferenceDecayIdeal.main_arg1)
      ∧ r.2.mem ((c.tc : Thread Cert.ReferenceDecayIdeal.nD Cert.ReferenceDecayIdeal.τ).loc Cert.ReferenceDecayIdeal.main_arg2) = m ((c.tc : Thread Cert.ReferenceDecayIdeal.nD Cert.ReferenceDecayIdeal.τ).loc Cert.ReferenceDecayIdeal.main_arg2)
      ∧ r.2.mem ((c.tc : Thread Cert.ReferenceDecayIdeal.nD Cert.ReferenceDecayIdeal.τ).loc Cert.ReferenceDecayIdeal.main_arg3) = m ((c.tc : Thread Cert.ReferenceDecayIdeal.nD Cert.ReferenceDecayIdeal.τ).loc Cert.ReferenceDecayIdeal.main_arg3))
      ∧ r.2.sem = fun _ => 0)

def quiescent_KernelLora [hKernelLora : Cert.KernelLora.Facts] : Prop :=
  ∀ (m : (ℓ : Loc Cert.KernelLora.nD Cert.KernelLora.τ Cert.KernelLora.sig) → Buf (Elt Bits) ℓ) (g : Dev Cert.KernelLora.nD → PrngReg), Pre_KernelLora m →
    θ_run (Cert.KernelLora.defs (F := Bits)) (onTc (τ := Cert.KernelLora.τ) (Cert.KernelLora.main (F := Bits))) ⟨m, fun _ => 0, g⟩ (fun r => (∀ c : Dev Cert.KernelLora.nD,
      r.2.mem ((c.tc : Thread Cert.KernelLora.nD Cert.KernelLora.τ).loc Cert.KernelLora.main_arg0) = m ((c.tc : Thread Cert.KernelLora.nD Cert.KernelLora.τ).loc Cert.KernelLora.main_arg0)
      ∧ r.2.mem ((c.tc : Thread Cert.KernelLora.nD Cert.KernelLora.τ).loc Cert.KernelLora.main_arg1) = m ((c.tc : Thread Cert.KernelLora.nD Cert.KernelLora.τ).loc Cert.KernelLora.main_arg1)
      ∧ r.2.mem ((c.tc : Thread Cert.KernelLora.nD Cert.KernelLora.τ).loc Cert.KernelLora.main_arg2) = m ((c.tc : Thread Cert.KernelLora.nD Cert.KernelLora.τ).loc Cert.KernelLora.main_arg2)
      ∧ r.2.mem ((c.tc : Thread Cert.KernelLora.nD Cert.KernelLora.τ).loc Cert.KernelLora.main_arg3) = m ((c.tc : Thread Cert.KernelLora.nD Cert.KernelLora.τ).loc Cert.KernelLora.main_arg3)
      ∧ r.2.mem ((c.tc : Thread Cert.KernelLora.nD Cert.KernelLora.τ).loc Cert.KernelLora.main_arg4) = m ((c.tc : Thread Cert.KernelLora.nD Cert.KernelLora.τ).loc Cert.KernelLora.main_arg4)
      ∧ r.2.mem ((c.tc : Thread Cert.KernelLora.nD Cert.KernelLora.τ).loc Cert.KernelLora.main_arg5) = m ((c.tc : Thread Cert.KernelLora.nD Cert.KernelLora.τ).loc Cert.KernelLora.main_arg5)
      ∧ r.2.mem ((c.tc : Thread Cert.KernelLora.nD Cert.KernelLora.τ).loc Cert.KernelLora.main_arg6) = m ((c.tc : Thread Cert.KernelLora.nD Cert.KernelLora.τ).loc Cert.KernelLora.main_arg6)
      ∧ r.2.mem ((c.tc : Thread Cert.KernelLora.nD Cert.KernelLora.τ).loc Cert.KernelLora.main_arg7) = m ((c.tc : Thread Cert.KernelLora.nD Cert.KernelLora.τ).loc Cert.KernelLora.main_arg7)
      ∧ r.2.mem ((c.tc : Thread Cert.KernelLora.nD Cert.KernelLora.τ).loc Cert.KernelLora.main_arg8) = m ((c.tc : Thread Cert.KernelLora.nD Cert.KernelLora.τ).loc Cert.KernelLora.main_arg8))
      ∧ r.2.sem = fun _ => 0)

def quiescent_KernelLoraIdeal [hKernelLoraIdeal : Cert.KernelLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg), Pre_KernelLoraIdeal m →
    θ_run (Cert.KernelLoraIdeal.defs (F := Ideal)) (onTc (τ := Cert.KernelLoraIdeal.τ) (Cert.KernelLoraIdeal.main (F := Ideal))) ⟨m, fun _ => 0, g⟩ (fun r => (∀ c : Dev Cert.KernelLoraIdeal.nD,
      r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
      ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
      ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
      ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
      ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
      ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5)
      ∧ r.2.mem ((c.tc : Thread Cert.KernelLoraIdeal.nD Cert.KernelLoraIdeal.τ).loc Cert.KernelLoraIdeal.main_arg6) = m ((c.tc : Thread Cert.KernelLoraIdeal.nD Cert.KernelLoraIdeal.τ).loc Cert.KernelLoraIdeal.main_arg6)
      ∧ r.2.mem ((c.tc : Thread Cert.KernelLoraIdeal.nD Cert.KernelLoraIdeal.τ).loc Cert.KernelLoraIdeal.main_arg7) = m ((c.tc : Thread Cert.KernelLoraIdeal.nD Cert.KernelLoraIdeal.τ).loc Cert.KernelLoraIdeal.main_arg7)
      ∧ r.2.mem ((c.tc : Thread Cert.KernelLoraIdeal.nD Cert.KernelLoraIdeal.τ).loc Cert.KernelLoraIdeal.main_arg8) = m ((c.tc : Thread Cert.KernelLoraIdeal.nD Cert.KernelLoraIdeal.τ).loc Cert.KernelLoraIdeal.main_arg8))
      ∧ r.2.sem = fun _ => 0)

def quiescent_ReferenceLoraIdeal [hReferenceLoraIdeal : Cert.ReferenceLoraIdeal.Facts] : Prop :=
  ∀ (m : (ℓ : Loc Cert.ReferenceLoraIdeal.nD Cert.ReferenceLoraIdeal.τ Cert.ReferenceLoraIdeal.sig) → Buf (Elt Ideal) ℓ) (g : Dev Cert.ReferenceLoraIdeal.nD → PrngReg), Pre_ReferenceLoraIdeal m →
    θ_run (Cert.ReferenceLoraIdeal.defs (F := Ideal)) (onTc (τ := Cert.ReferenceLoraIdeal.τ) (Cert.ReferenceLoraIdeal.main (F := Ideal))) ⟨m, fun _ => 0, g⟩ (fun r => (∀ c : Dev Cert.ReferenceLoraIdeal.nD,
      r.2.mem ((c.tc : Thread Cert.ReferenceLoraIdeal.nD Cert.ReferenceLoraIdeal.τ).loc Cert.ReferenceLoraIdeal.main_arg0) = m ((c.tc : Thread Cert.ReferenceLoraIdeal.nD Cert.ReferenceLoraIdeal.τ).loc Cert.ReferenceLoraIdeal.main_arg0)
      ∧ r.2.mem ((c.tc : Thread Cert.ReferenceLoraIdeal.nD Cert.ReferenceLoraIdeal.τ).loc Cert.ReferenceLoraIdeal.main_arg1) = m ((c.tc : Thread Cert.ReferenceLoraIdeal.nD Cert.ReferenceLoraIdeal.τ).loc Cert.ReferenceLoraIdeal.main_arg1)
      ∧ r.2.mem ((c.tc : Thread Cert.ReferenceLoraIdeal.nD Cert.ReferenceLoraIdeal.τ).loc Cert.ReferenceLoraIdeal.main_arg2) = m ((c.tc : Thread Cert.ReferenceLoraIdeal.nD Cert.ReferenceLoraIdeal.τ).loc Cert.ReferenceLoraIdeal.main_arg2)
      ∧ r.2.mem ((c.tc : Thread Cert.ReferenceLoraIdeal.nD Cert.ReferenceLoraIdeal.τ).loc Cert.ReferenceLoraIdeal.main_arg3) = m ((c.tc : Thread Cert.ReferenceLoraIdeal.nD Cert.ReferenceLoraIdeal.τ).loc Cert.ReferenceLoraIdeal.main_arg3)
      ∧ r.2.mem ((c.tc : Thread Cert.ReferenceLoraIdeal.nD Cert.ReferenceLoraIdeal.τ).loc Cert.ReferenceLoraIdeal.main_arg4) = m ((c.tc : Thread Cert.ReferenceLoraIdeal.nD Cert.ReferenceLoraIdeal.τ).loc Cert.ReferenceLoraIdeal.main_arg4)
      ∧ r.2.mem ((c.tc : Thread Cert.ReferenceLoraIdeal.nD Cert.ReferenceLoraIdeal.τ).loc Cert.ReferenceLoraIdeal.main_arg5) = m ((c.tc : Thread Cert.ReferenceLoraIdeal.nD Cert.ReferenceLoraIdeal.τ).loc Cert.ReferenceLoraIdeal.main_arg5)
      ∧ r.2.mem ((c.tc : Thread Cert.ReferenceLoraIdeal.nD Cert.ReferenceLoraIdeal.τ).loc Cert.ReferenceLoraIdeal.main_arg6) = m ((c.tc : Thread Cert.ReferenceLoraIdeal.nD Cert.ReferenceLoraIdeal.τ).loc Cert.ReferenceLoraIdeal.main_arg6)
      ∧ r.2.mem ((c.tc : Thread Cert.ReferenceLoraIdeal.nD Cert.ReferenceLoraIdeal.τ).loc Cert.ReferenceLoraIdeal.main_arg7) = m ((c.tc : Thread Cert.ReferenceLoraIdeal.nD Cert.ReferenceLoraIdeal.τ).loc Cert.ReferenceLoraIdeal.main_arg7)
      ∧ r.2.mem ((c.tc : Thread Cert.ReferenceLoraIdeal.nD Cert.ReferenceLoraIdeal.τ).loc Cert.ReferenceLoraIdeal.main_arg8) = m ((c.tc : Thread Cert.ReferenceLoraIdeal.nD Cert.ReferenceLoraIdeal.τ).loc Cert.ReferenceLoraIdeal.main_arg8))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2)
      ∧ r.2.mem ((c.tc : Thread Cert.KernelSample.nD Cert.KernelSample.τ).loc Cert.KernelSample.main_arg3) = m ((c.tc : Thread Cert.KernelSample.nD Cert.KernelSample.τ).loc Cert.KernelSample.main_arg3)
      ∧ r.2.mem ((c.tc : Thread Cert.KernelSample.nD Cert.KernelSample.τ).loc Cert.KernelSample.main_arg4) = m ((c.tc : Thread Cert.KernelSample.nD Cert.KernelSample.τ).loc Cert.KernelSample.main_arg4))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4))
      ∧ r.2.sem = fun _ => 0)

def quiescent_KernelOutSample [hKernelOutSample : Cert.KernelOutSample.Facts] : Prop :=
  ∀ (m : (ℓ : Loc Cert.KernelOutSample.nD Cert.KernelOutSample.τ Cert.KernelOutSample.sig) → Buf (Elt Bits) ℓ) (g : Dev Cert.KernelOutSample.nD → PrngReg), Pre_KernelOutSample m →
    θ_run (Cert.KernelOutSample.defs (F := Bits)) (onTc (τ := Cert.KernelOutSample.τ) (Cert.KernelOutSample.main (F := Bits))) ⟨m, fun _ => 0, g⟩ (fun r => (∀ c : Dev Cert.KernelOutSample.nD,
      r.2.mem ((c.tc : Thread Cert.KernelOutSample.nD Cert.KernelOutSample.τ).loc Cert.KernelOutSample.main_arg0) = m ((c.tc : Thread Cert.KernelOutSample.nD Cert.KernelOutSample.τ).loc Cert.KernelOutSample.main_arg0)
      ∧ r.2.mem ((c.tc : Thread Cert.KernelOutSample.nD Cert.KernelOutSample.τ).loc Cert.KernelOutSample.main_arg1) = m ((c.tc : Thread Cert.KernelOutSample.nD Cert.KernelOutSample.τ).loc Cert.KernelOutSample.main_arg1)
      ∧ r.2.mem ((c.tc : Thread Cert.KernelOutSample.nD Cert.KernelOutSample.τ).loc Cert.KernelOutSample.main_arg2) = m ((c.tc : Thread Cert.KernelOutSample.nD Cert.KernelOutSample.τ).loc Cert.KernelOutSample.main_arg2)
      ∧ r.2.mem ((c.tc : Thread Cert.KernelOutSample.nD Cert.KernelOutSample.τ).loc Cert.KernelOutSample.main_arg3) = m ((c.tc : Thread Cert.KernelOutSample.nD Cert.KernelOutSample.τ).loc Cert.KernelOutSample.main_arg3)
      ∧ r.2.mem ((c.tc : Thread Cert.KernelOutSample.nD Cert.KernelOutSample.τ).loc Cert.KernelOutSample.main_arg4) = m ((c.tc : Thread Cert.KernelOutSample.nD Cert.KernelOutSample.τ).loc Cert.KernelOutSample.main_arg4))
      ∧ r.2.sem = fun _ => 0)

def quiescent_KernelOutSampleIdeal [hKernelOutSampleIdeal : Cert.KernelOutSampleIdeal.Facts] : Prop :=
  ∀ (m : (ℓ : Loc Cert.KernelOutSampleIdeal.nD Cert.KernelOutSampleIdeal.τ Cert.KernelOutSampleIdeal.sig) → Buf (Elt Ideal) ℓ) (g : Dev Cert.KernelOutSampleIdeal.nD → PrngReg), Pre_KernelOutSampleIdeal m →
    θ_run (Cert.KernelOutSampleIdeal.defs (F := Ideal)) (onTc (τ := Cert.KernelOutSampleIdeal.τ) (Cert.KernelOutSampleIdeal.main (F := Ideal))) ⟨m, fun _ => 0, g⟩ (fun r => (∀ c : Dev Cert.KernelOutSampleIdeal.nD,
      r.2.mem ((c.tc : Thread Cert.KernelOutSampleIdeal.nD Cert.KernelOutSampleIdeal.τ).loc Cert.KernelOutSampleIdeal.main_arg0) = m ((c.tc : Thread Cert.KernelOutSampleIdeal.nD Cert.KernelOutSampleIdeal.τ).loc Cert.KernelOutSampleIdeal.main_arg0)
      ∧ r.2.mem ((c.tc : Thread Cert.KernelOutSampleIdeal.nD Cert.KernelOutSampleIdeal.τ).loc Cert.KernelOutSampleIdeal.main_arg1) = m ((c.tc : Thread Cert.KernelOutSampleIdeal.nD Cert.KernelOutSampleIdeal.τ).loc Cert.KernelOutSampleIdeal.main_arg1)
      ∧ r.2.mem ((c.tc : Thread Cert.KernelOutSampleIdeal.nD Cert.KernelOutSampleIdeal.τ).loc Cert.KernelOutSampleIdeal.main_arg2) = m ((c.tc : Thread Cert.KernelOutSampleIdeal.nD Cert.KernelOutSampleIdeal.τ).loc Cert.KernelOutSampleIdeal.main_arg2)
      ∧ r.2.mem ((c.tc : Thread Cert.KernelOutSampleIdeal.nD Cert.KernelOutSampleIdeal.τ).loc Cert.KernelOutSampleIdeal.main_arg3) = m ((c.tc : Thread Cert.KernelOutSampleIdeal.nD Cert.KernelOutSampleIdeal.τ).loc Cert.KernelOutSampleIdeal.main_arg3)
      ∧ r.2.mem ((c.tc : Thread Cert.KernelOutSampleIdeal.nD Cert.KernelOutSampleIdeal.τ).loc Cert.KernelOutSampleIdeal.main_arg4) = m ((c.tc : Thread Cert.KernelOutSampleIdeal.nD Cert.KernelOutSampleIdeal.τ).loc Cert.KernelOutSampleIdeal.main_arg4))
      ∧ r.2.sem = fun _ => 0)

def quiescent_ReferenceOutSampleIdeal [hReferenceOutSampleIdeal : Cert.ReferenceOutSampleIdeal.Facts] : Prop :=
  ∀ (m : (ℓ : Loc Cert.ReferenceOutSampleIdeal.nD Cert.ReferenceOutSampleIdeal.τ Cert.ReferenceOutSampleIdeal.sig) → Buf (Elt Ideal) ℓ) (g : Dev Cert.ReferenceOutSampleIdeal.nD → PrngReg), Pre_ReferenceOutSampleIdeal m →
    θ_run (Cert.ReferenceOutSampleIdeal.defs (F := Ideal)) (onTc (τ := Cert.ReferenceOutSampleIdeal.τ) (Cert.ReferenceOutSampleIdeal.main (F := Ideal))) ⟨m, fun _ => 0, g⟩ (fun r => (∀ c : Dev Cert.ReferenceOutSampleIdeal.nD,
      r.2.mem ((c.tc : Thread Cert.ReferenceOutSampleIdeal.nD Cert.ReferenceOutSampleIdeal.τ).loc Cert.ReferenceOutSampleIdeal.main_arg0) = m ((c.tc : Thread Cert.ReferenceOutSampleIdeal.nD Cert.ReferenceOutSampleIdeal.τ).loc Cert.ReferenceOutSampleIdeal.main_arg0)
      ∧ r.2.mem ((c.tc : Thread Cert.ReferenceOutSampleIdeal.nD Cert.ReferenceOutSampleIdeal.τ).loc Cert.ReferenceOutSampleIdeal.main_arg1) = m ((c.tc : Thread Cert.ReferenceOutSampleIdeal.nD Cert.ReferenceOutSampleIdeal.τ).loc Cert.ReferenceOutSampleIdeal.main_arg1)
      ∧ r.2.mem ((c.tc : Thread Cert.ReferenceOutSampleIdeal.nD Cert.ReferenceOutSampleIdeal.τ).loc Cert.ReferenceOutSampleIdeal.main_arg2) = m ((c.tc : Thread Cert.ReferenceOutSampleIdeal.nD Cert.ReferenceOutSampleIdeal.τ).loc Cert.ReferenceOutSampleIdeal.main_arg2)
      ∧ r.2.mem ((c.tc : Thread Cert.ReferenceOutSampleIdeal.nD Cert.ReferenceOutSampleIdeal.τ).loc Cert.ReferenceOutSampleIdeal.main_arg3) = m ((c.tc : Thread Cert.ReferenceOutSampleIdeal.nD Cert.ReferenceOutSampleIdeal.τ).loc Cert.ReferenceOutSampleIdeal.main_arg3)
      ∧ r.2.mem ((c.tc : Thread Cert.ReferenceOutSampleIdeal.nD Cert.ReferenceOutSampleIdeal.τ).loc Cert.ReferenceOutSampleIdeal.main_arg4) = m ((c.tc : Thread Cert.ReferenceOutSampleIdeal.nD Cert.ReferenceOutSampleIdeal.τ).loc Cert.ReferenceOutSampleIdeal.main_arg4))
      ∧ r.2.sem = fun _ => 0)

def quiescent_KernelChunk [hKernelChunk : Cert.KernelChunk.Facts] : Prop :=
  ∀ (m : (ℓ : Loc Cert.KernelChunk.nD Cert.KernelChunk.τ Cert.KernelChunk.sig) → Buf (Elt Bits) ℓ) (g : Dev Cert.KernelChunk.nD → PrngReg), Pre_KernelChunk m →
    θ_run (Cert.KernelChunk.defs (F := Bits)) (onTc (τ := Cert.KernelChunk.τ) (Cert.KernelChunk.main (F := Bits))) ⟨m, fun _ => 0, g⟩ (fun r => (∀ c : Dev Cert.KernelChunk.nD,
      r.2.mem ((c.tc : Thread Cert.KernelChunk.nD Cert.KernelChunk.τ).loc Cert.KernelChunk.main_arg0) = m ((c.tc : Thread Cert.KernelChunk.nD Cert.KernelChunk.τ).loc Cert.KernelChunk.main_arg0)
      ∧ r.2.mem ((c.tc : Thread Cert.KernelChunk.nD Cert.KernelChunk.τ).loc Cert.KernelChunk.main_arg1) = m ((c.tc : Thread Cert.KernelChunk.nD Cert.KernelChunk.τ).loc Cert.KernelChunk.main_arg1)
      ∧ r.2.mem ((c.tc : Thread Cert.KernelChunk.nD Cert.KernelChunk.τ).loc Cert.KernelChunk.main_arg2) = m ((c.tc : Thread Cert.KernelChunk.nD Cert.KernelChunk.τ).loc Cert.KernelChunk.main_arg2)
      ∧ r.2.mem ((c.tc : Thread Cert.KernelChunk.nD Cert.KernelChunk.τ).loc Cert.KernelChunk.main_arg3) = m ((c.tc : Thread Cert.KernelChunk.nD Cert.KernelChunk.τ).loc Cert.KernelChunk.main_arg3))
      ∧ r.2.sem = fun _ => 0)

def quiescent_KernelChunkIdeal [hKernelChunkIdeal : Cert.KernelChunkIdeal.Facts] : Prop :=
  ∀ (m : (ℓ : Loc Cert.KernelChunkIdeal.nD Cert.KernelChunkIdeal.τ Cert.KernelChunkIdeal.sig) → Buf (Elt Ideal) ℓ) (g : Dev Cert.KernelChunkIdeal.nD → PrngReg), Pre_KernelChunkIdeal m →
    θ_run (Cert.KernelChunkIdeal.defs (F := Ideal)) (onTc (τ := Cert.KernelChunkIdeal.τ) (Cert.KernelChunkIdeal.main (F := Ideal))) ⟨m, fun _ => 0, g⟩ (fun r => (∀ c : Dev Cert.KernelChunkIdeal.nD,
      r.2.mem ((c.tc : Thread Cert.KernelChunkIdeal.nD Cert.KernelChunkIdeal.τ).loc Cert.KernelChunkIdeal.main_arg0) = m ((c.tc : Thread Cert.KernelChunkIdeal.nD Cert.KernelChunkIdeal.τ).loc Cert.KernelChunkIdeal.main_arg0)
      ∧ r.2.mem ((c.tc : Thread Cert.KernelChunkIdeal.nD Cert.KernelChunkIdeal.τ).loc Cert.KernelChunkIdeal.main_arg1) = m ((c.tc : Thread Cert.KernelChunkIdeal.nD Cert.KernelChunkIdeal.τ).loc Cert.KernelChunkIdeal.main_arg1)
      ∧ r.2.mem ((c.tc : Thread Cert.KernelChunkIdeal.nD Cert.KernelChunkIdeal.τ).loc Cert.KernelChunkIdeal.main_arg2) = m ((c.tc : Thread Cert.KernelChunkIdeal.nD Cert.KernelChunkIdeal.τ).loc Cert.KernelChunkIdeal.main_arg2)
      ∧ r.2.mem ((c.tc : Thread Cert.KernelChunkIdeal.nD Cert.KernelChunkIdeal.τ).loc Cert.KernelChunkIdeal.main_arg3) = m ((c.tc : Thread Cert.KernelChunkIdeal.nD Cert.KernelChunkIdeal.τ).loc Cert.KernelChunkIdeal.main_arg3))
      ∧ r.2.sem = fun _ => 0)

def quiescent_ReferenceChunkIdeal [hReferenceChunkIdeal : Cert.ReferenceChunkIdeal.Facts] : Prop :=
  ∀ (m : (ℓ : Loc Cert.ReferenceChunkIdeal.nD Cert.ReferenceChunkIdeal.τ Cert.ReferenceChunkIdeal.sig) → Buf (Elt Ideal) ℓ) (g : Dev Cert.ReferenceChunkIdeal.nD → PrngReg), Pre_ReferenceChunkIdeal m →
    θ_run (Cert.ReferenceChunkIdeal.defs (F := Ideal)) (onTc (τ := Cert.ReferenceChunkIdeal.τ) (Cert.ReferenceChunkIdeal.main (F := Ideal))) ⟨m, fun _ => 0, g⟩ (fun r => (∀ c : Dev Cert.ReferenceChunkIdeal.nD,
      r.2.mem ((c.tc : Thread Cert.ReferenceChunkIdeal.nD Cert.ReferenceChunkIdeal.τ).loc Cert.ReferenceChunkIdeal.main_arg0) = m ((c.tc : Thread Cert.ReferenceChunkIdeal.nD Cert.ReferenceChunkIdeal.τ).loc Cert.ReferenceChunkIdeal.main_arg0)
      ∧ r.2.mem ((c.tc : Thread Cert.ReferenceChunkIdeal.nD Cert.ReferenceChunkIdeal.τ).loc Cert.ReferenceChunkIdeal.main_arg1) = m ((c.tc : Thread Cert.ReferenceChunkIdeal.nD Cert.ReferenceChunkIdeal.τ).loc Cert.ReferenceChunkIdeal.main_arg1)
      ∧ r.2.mem ((c.tc : Thread Cert.ReferenceChunkIdeal.nD Cert.ReferenceChunkIdeal.τ).loc Cert.ReferenceChunkIdeal.main_arg2) = m ((c.tc : Thread Cert.ReferenceChunkIdeal.nD Cert.ReferenceChunkIdeal.τ).loc Cert.ReferenceChunkIdeal.main_arg2)
      ∧ r.2.mem ((c.tc : Thread Cert.ReferenceChunkIdeal.nD Cert.ReferenceChunkIdeal.τ).loc Cert.ReferenceChunkIdeal.main_arg3) = m ((c.tc : Thread Cert.ReferenceChunkIdeal.nD Cert.ReferenceChunkIdeal.τ).loc Cert.ReferenceChunkIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v1)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v1) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v1) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v1) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelGla_KernelGlaIdeal : Prop :=
  True

def algebraic_KernelGlaIdeal_ReferenceGlaIdeal [hKernelGlaIdeal : Cert.KernelGlaIdeal.Facts] [hReferenceGlaIdeal : Cert.ReferenceGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)) →
    ∃ (v0 : (c : Dev Cert.KernelGlaIdeal.nD) → Buf (Elt Ideal) ((c.tc : Thread Cert.KernelGlaIdeal.nD Cert.KernelGlaIdeal.τ).loc Cert.KernelGlaIdeal.main_v1)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v1) = v0 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v1) = v0 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v28) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)) →
    ∃ (v0 : (c : Dev Cert.KernelMixIdeal.nD) → Buf (Elt Ideal) ((c.tc : Thread Cert.KernelMixIdeal.nD Cert.KernelMixIdeal.τ).loc Cert.KernelMixIdeal.main_v7)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v7) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v49) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3))

def preserves_KernelDecay_KernelDecayIdeal : Prop :=
  True

def algebraic_KernelDecayIdeal_ReferenceDecayIdeal [hKernelDecayIdeal : Cert.KernelDecayIdeal.Facts] [hReferenceDecayIdeal : Cert.ReferenceDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg)
    (m' : (ℓ : Loc Cert.ReferenceDecayIdeal.nD Cert.ReferenceDecayIdeal.τ Cert.ReferenceDecayIdeal.sig) → Buf (Elt Ideal) ℓ) (g' : Dev Cert.ReferenceDecayIdeal.nD → PrngReg), Pre_KernelDecayIdeal m →
    (∀ c : Dev Cert.KernelDecayIdeal.nD,
      m' ((c.tc : Thread Cert.ReferenceDecayIdeal.nD Cert.ReferenceDecayIdeal.τ).loc Cert.ReferenceDecayIdeal.main_arg0) = m ((c.tc : Thread Cert.KernelDecayIdeal.nD Cert.KernelDecayIdeal.τ).loc Cert.KernelDecayIdeal.main_arg0)
      ∧ m' ((c.tc : Thread Cert.ReferenceDecayIdeal.nD Cert.ReferenceDecayIdeal.τ).loc Cert.ReferenceDecayIdeal.main_arg1) = m ((c.tc : Thread Cert.KernelDecayIdeal.nD Cert.KernelDecayIdeal.τ).loc Cert.KernelDecayIdeal.main_arg1)
      ∧ m' ((c.tc : Thread Cert.ReferenceDecayIdeal.nD Cert.ReferenceDecayIdeal.τ).loc Cert.ReferenceDecayIdeal.main_arg2) = m ((c.tc : Thread Cert.KernelDecayIdeal.nD Cert.KernelDecayIdeal.τ).loc Cert.KernelDecayIdeal.main_arg2)
      ∧ m' ((c.tc : Thread Cert.ReferenceDecayIdeal.nD Cert.ReferenceDecayIdeal.τ).loc Cert.ReferenceDecayIdeal.main_arg3) = m ((c.tc : Thread Cert.KernelDecayIdeal.nD Cert.KernelDecayIdeal.τ).loc Cert.KernelDecayIdeal.main_arg3)) →
    ∃ (v0 : (c : Dev Cert.KernelDecayIdeal.nD) → Buf (Elt Ideal) ((c.tc : Thread Cert.KernelDecayIdeal.nD Cert.KernelDecayIdeal.τ).loc Cert.KernelDecayIdeal.main_v6)),
      θ_run (Cert.KernelDecayIdeal.defs (F := Ideal)) (onTc (τ := Cert.KernelDecayIdeal.τ) (Cert.KernelDecayIdeal.main (F := Ideal))) ⟨m, fun _ => 0, g⟩ (fun r => ∀ c : Dev Cert.KernelDecayIdeal.nD,
          r.2.mem ((c.tc : Thread Cert.KernelDecayIdeal.nD Cert.KernelDecayIdeal.τ).loc Cert.KernelDecayIdeal.main_v6) = v0 c
          ∧ r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
          ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1)
          ∧ r.2.mem ((c.tc : Thread Cert.KernelDecayIdeal.nD Cert.KernelDecayIdeal.τ).loc Cert.KernelDecayIdeal.main_arg2) = m ((c.tc : Thread Cert.KernelDecayIdeal.nD Cert.KernelDecayIdeal.τ).loc Cert.KernelDecayIdeal.main_arg2)
          ∧ r.2.mem ((c.tc : Thread Cert.KernelDecayIdeal.nD Cert.KernelDecayIdeal.τ).loc Cert.KernelDecayIdeal.main_arg3) = m ((c.tc : Thread Cert.KernelDecayIdeal.nD Cert.KernelDecayIdeal.τ).loc Cert.KernelDecayIdeal.main_arg3))
      ∧ θ_run (Cert.ReferenceDecayIdeal.defs (F := Ideal)) (onTc (τ := Cert.ReferenceDecayIdeal.τ) (Cert.ReferenceDecayIdeal.main (F := Ideal))) ⟨m', fun _ => 0, g'⟩ (fun r => ∀ c : Dev Cert.ReferenceDecayIdeal.nD,
          r.2.mem ((c.tc : Thread Cert.ReferenceDecayIdeal.nD Cert.ReferenceDecayIdeal.τ).loc Cert.ReferenceDecayIdeal.main_v8) = v0 c
          ∧ r.2.mem ((c.tc : Thread Cert.ReferenceDecayIdeal.nD Cert.ReferenceDecayIdeal.τ).loc Cert.ReferenceDecayIdeal.main_arg0) = m' ((c.tc : Thread Cert.ReferenceDecayIdeal.nD Cert.ReferenceDecayIdeal.τ).loc Cert.ReferenceDecayIdeal.main_arg0)
          ∧ r.2.mem ((c.tc : Thread Cert.ReferenceDecayIdeal.nD Cert.ReferenceDecayIdeal.τ).loc Cert.ReferenceDecayIdeal.main_arg1) = m' ((c.tc : Thread Cert.ReferenceDecayIdeal.nD Cert.ReferenceDecayIdeal.τ).loc Cert.ReferenceDecayIdeal.main_arg1)
          ∧ r.2.mem ((c.tc : Thread Cert.ReferenceDecayIdeal.nD Cert.ReferenceDecayIdeal.τ).loc Cert.ReferenceDecayIdeal.main_arg2) = m' ((c.tc : Thread Cert.ReferenceDecayIdeal.nD Cert.ReferenceDecayIdeal.τ).loc Cert.ReferenceDecayIdeal.main_arg2)
          ∧ r.2.mem ((c.tc : Thread Cert.ReferenceDecayIdeal.nD Cert.ReferenceDecayIdeal.τ).loc Cert.ReferenceDecayIdeal.main_arg3) = m' ((c.tc : Thread Cert.ReferenceDecayIdeal.nD Cert.ReferenceDecayIdeal.τ).loc Cert.ReferenceDecayIdeal.main_arg3))

def preserves_KernelLora_KernelLoraIdeal : Prop :=
  True

def algebraic_KernelLoraIdeal_ReferenceLoraIdeal [hKernelLoraIdeal : Cert.KernelLoraIdeal.Facts] [hReferenceLoraIdeal : Cert.ReferenceLoraIdeal.Facts] : Prop :=
  ∀ (m : (ℓ : Loc Cert.KernelLoraIdeal.nD Cert.KernelLoraIdeal.τ Cert.KernelLoraIdeal.sig) → Buf (Elt Ideal) ℓ) (g : Dev Cert.KernelLoraIdeal.nD → PrngReg)
    (m' : (ℓ : Loc Cert.ReferenceLoraIdeal.nD Cert.ReferenceLoraIdeal.τ Cert.ReferenceLoraIdeal.sig) → Buf (Elt Ideal) ℓ) (g' : Dev Cert.ReferenceLoraIdeal.nD → PrngReg), Pre_KernelLoraIdeal m →
    (∀ c : Dev Cert.KernelLoraIdeal.nD,
      m' ((c.tc : Thread Cert.ReferenceLoraIdeal.nD Cert.ReferenceLoraIdeal.τ).loc Cert.ReferenceLoraIdeal.main_arg0) = m ((c.tc : Thread Cert.KernelLoraIdeal.nD Cert.KernelLoraIdeal.τ).loc Cert.KernelLoraIdeal.main_arg0)
      ∧ m' ((c.tc : Thread Cert.ReferenceLoraIdeal.nD Cert.ReferenceLoraIdeal.τ).loc Cert.ReferenceLoraIdeal.main_arg1) = m ((c.tc : Thread Cert.KernelLoraIdeal.nD Cert.KernelLoraIdeal.τ).loc Cert.KernelLoraIdeal.main_arg1)
      ∧ m' ((c.tc : Thread Cert.ReferenceLoraIdeal.nD Cert.ReferenceLoraIdeal.τ).loc Cert.ReferenceLoraIdeal.main_arg2) = m ((c.tc : Thread Cert.KernelLoraIdeal.nD Cert.KernelLoraIdeal.τ).loc Cert.KernelLoraIdeal.main_arg2)
      ∧ m' ((c.tc : Thread Cert.ReferenceLoraIdeal.nD Cert.ReferenceLoraIdeal.τ).loc Cert.ReferenceLoraIdeal.main_arg3) = m ((c.tc : Thread Cert.KernelLoraIdeal.nD Cert.KernelLoraIdeal.τ).loc Cert.KernelLoraIdeal.main_arg3)
      ∧ m' ((c.tc : Thread Cert.ReferenceLoraIdeal.nD Cert.ReferenceLoraIdeal.τ).loc Cert.ReferenceLoraIdeal.main_arg4) = m ((c.tc : Thread Cert.KernelLoraIdeal.nD Cert.KernelLoraIdeal.τ).loc Cert.KernelLoraIdeal.main_arg4)
      ∧ m' ((c.tc : Thread Cert.ReferenceLoraIdeal.nD Cert.ReferenceLoraIdeal.τ).loc Cert.ReferenceLoraIdeal.main_arg5) = m ((c.tc : Thread Cert.KernelLoraIdeal.nD Cert.KernelLoraIdeal.τ).loc Cert.KernelLoraIdeal.main_arg5)
      ∧ m' ((c.tc : Thread Cert.ReferenceLoraIdeal.nD Cert.ReferenceLoraIdeal.τ).loc Cert.ReferenceLoraIdeal.main_arg6) = m ((c.tc : Thread Cert.KernelLoraIdeal.nD Cert.KernelLoraIdeal.τ).loc Cert.KernelLoraIdeal.main_arg6)
      ∧ m' ((c.tc : Thread Cert.ReferenceLoraIdeal.nD Cert.ReferenceLoraIdeal.τ).loc Cert.ReferenceLoraIdeal.main_arg7) = m ((c.tc : Thread Cert.KernelLoraIdeal.nD Cert.KernelLoraIdeal.τ).loc Cert.KernelLoraIdeal.main_arg7)
      ∧ m' ((c.tc : Thread Cert.ReferenceLoraIdeal.nD Cert.ReferenceLoraIdeal.τ).loc Cert.ReferenceLoraIdeal.main_arg8) = m ((c.tc : Thread Cert.KernelLoraIdeal.nD Cert.KernelLoraIdeal.τ).loc Cert.KernelLoraIdeal.main_arg8)) →
    ∃ (v0 : (c : Dev Cert.KernelLoraIdeal.nD) → Buf (Elt Ideal) ((c.tc : Thread Cert.KernelLoraIdeal.nD Cert.KernelLoraIdeal.τ).loc Cert.KernelLoraIdeal.main_v16_0)) (v1 : (c : Dev Cert.KernelLoraIdeal.nD) → Buf (Elt Ideal) ((c.tc : Thread Cert.KernelLoraIdeal.nD Cert.KernelLoraIdeal.τ).loc Cert.KernelLoraIdeal.main_v16_1)),
      θ_run (Cert.KernelLoraIdeal.defs (F := Ideal)) (onTc (τ := Cert.KernelLoraIdeal.τ) (Cert.KernelLoraIdeal.main (F := Ideal))) ⟨m, fun _ => 0, g⟩ (fun r => ∀ c : Dev Cert.KernelLoraIdeal.nD,
          r.2.mem ((c.tc : Thread Cert.KernelLoraIdeal.nD Cert.KernelLoraIdeal.τ).loc Cert.KernelLoraIdeal.main_v16_0) = v0 c
          ∧ r.2.mem ((c.tc : Thread Cert.KernelLoraIdeal.nD Cert.KernelLoraIdeal.τ).loc Cert.KernelLoraIdeal.main_v16_1) = v1 c
          ∧ r.2.mem ((c.tc : Thread Cert.KernelLoraIdeal.nD Cert.KernelLoraIdeal.τ).loc Cert.KernelLoraIdeal.main_arg0) = m ((c.tc : Thread Cert.KernelLoraIdeal.nD Cert.KernelLoraIdeal.τ).loc Cert.KernelLoraIdeal.main_arg0)
          ∧ r.2.mem ((c.tc : Thread Cert.KernelLoraIdeal.nD Cert.KernelLoraIdeal.τ).loc Cert.KernelLoraIdeal.main_arg1) = m ((c.tc : Thread Cert.KernelLoraIdeal.nD Cert.KernelLoraIdeal.τ).loc Cert.KernelLoraIdeal.main_arg1)
          ∧ r.2.mem ((c.tc : Thread Cert.KernelLoraIdeal.nD Cert.KernelLoraIdeal.τ).loc Cert.KernelLoraIdeal.main_arg2) = m ((c.tc : Thread Cert.KernelLoraIdeal.nD Cert.KernelLoraIdeal.τ).loc Cert.KernelLoraIdeal.main_arg2)
          ∧ r.2.mem ((c.tc : Thread Cert.KernelLoraIdeal.nD Cert.KernelLoraIdeal.τ).loc Cert.KernelLoraIdeal.main_arg3) = m ((c.tc : Thread Cert.KernelLoraIdeal.nD Cert.KernelLoraIdeal.τ).loc Cert.KernelLoraIdeal.main_arg3)
          ∧ r.2.mem ((c.tc : Thread Cert.KernelLoraIdeal.nD Cert.KernelLoraIdeal.τ).loc Cert.KernelLoraIdeal.main_arg4) = m ((c.tc : Thread Cert.KernelLoraIdeal.nD Cert.KernelLoraIdeal.τ).loc Cert.KernelLoraIdeal.main_arg4)
          ∧ r.2.mem ((c.tc : Thread Cert.KernelLoraIdeal.nD Cert.KernelLoraIdeal.τ).loc Cert.KernelLoraIdeal.main_arg5) = m ((c.tc : Thread Cert.KernelLoraIdeal.nD Cert.KernelLoraIdeal.τ).loc Cert.KernelLoraIdeal.main_arg5)
          ∧ r.2.mem ((c.tc : Thread Cert.KernelLoraIdeal.nD Cert.KernelLoraIdeal.τ).loc Cert.KernelLoraIdeal.main_arg6) = m ((c.tc : Thread Cert.KernelLoraIdeal.nD Cert.KernelLoraIdeal.τ).loc Cert.KernelLoraIdeal.main_arg6)
          ∧ r.2.mem ((c.tc : Thread Cert.KernelLoraIdeal.nD Cert.KernelLoraIdeal.τ).loc Cert.KernelLoraIdeal.main_arg7) = m ((c.tc : Thread Cert.KernelLoraIdeal.nD Cert.KernelLoraIdeal.τ).loc Cert.KernelLoraIdeal.main_arg7)
          ∧ r.2.mem ((c.tc : Thread Cert.KernelLoraIdeal.nD Cert.KernelLoraIdeal.τ).loc Cert.KernelLoraIdeal.main_arg8) = m ((c.tc : Thread Cert.KernelLoraIdeal.nD Cert.KernelLoraIdeal.τ).loc Cert.KernelLoraIdeal.main_arg8))
      ∧ θ_run (Cert.ReferenceLoraIdeal.defs (F := Ideal)) (onTc (τ := Cert.ReferenceLoraIdeal.τ) (Cert.ReferenceLoraIdeal.main (F := Ideal))) ⟨m', fun _ => 0, g'⟩ (fun r => ∀ c : Dev Cert.ReferenceLoraIdeal.nD,
          r.2.mem ((c.tc : Thread Cert.ReferenceLoraIdeal.nD Cert.ReferenceLoraIdeal.τ).loc Cert.ReferenceLoraIdeal.main_v42) = v0 c
          ∧ r.2.mem ((c.tc : Thread Cert.ReferenceLoraIdeal.nD Cert.ReferenceLoraIdeal.τ).loc Cert.ReferenceLoraIdeal.main_v43) = v1 c
          ∧ r.2.mem ((c.tc : Thread Cert.ReferenceLoraIdeal.nD Cert.ReferenceLoraIdeal.τ).loc Cert.ReferenceLoraIdeal.main_arg0) = m' ((c.tc : Thread Cert.ReferenceLoraIdeal.nD Cert.ReferenceLoraIdeal.τ).loc Cert.ReferenceLoraIdeal.main_arg0)
          ∧ r.2.mem ((c.tc : Thread Cert.ReferenceLoraIdeal.nD Cert.ReferenceLoraIdeal.τ).loc Cert.ReferenceLoraIdeal.main_arg1) = m' ((c.tc : Thread Cert.ReferenceLoraIdeal.nD Cert.ReferenceLoraIdeal.τ).loc Cert.ReferenceLoraIdeal.main_arg1)
          ∧ r.2.mem ((c.tc : Thread Cert.ReferenceLoraIdeal.nD Cert.ReferenceLoraIdeal.τ).loc Cert.ReferenceLoraIdeal.main_arg2) = m' ((c.tc : Thread Cert.ReferenceLoraIdeal.nD Cert.ReferenceLoraIdeal.τ).loc Cert.ReferenceLoraIdeal.main_arg2)
          ∧ r.2.mem ((c.tc : Thread Cert.ReferenceLoraIdeal.nD Cert.ReferenceLoraIdeal.τ).loc Cert.ReferenceLoraIdeal.main_arg3) = m' ((c.tc : Thread Cert.ReferenceLoraIdeal.nD Cert.ReferenceLoraIdeal.τ).loc Cert.ReferenceLoraIdeal.main_arg3)
          ∧ r.2.mem ((c.tc : Thread Cert.ReferenceLoraIdeal.nD Cert.ReferenceLoraIdeal.τ).loc Cert.ReferenceLoraIdeal.main_arg4) = m' ((c.tc : Thread Cert.ReferenceLoraIdeal.nD Cert.ReferenceLoraIdeal.τ).loc Cert.ReferenceLoraIdeal.main_arg4)
          ∧ r.2.mem ((c.tc : Thread Cert.ReferenceLoraIdeal.nD Cert.ReferenceLoraIdeal.τ).loc Cert.ReferenceLoraIdeal.main_arg5) = m' ((c.tc : Thread Cert.ReferenceLoraIdeal.nD Cert.ReferenceLoraIdeal.τ).loc Cert.ReferenceLoraIdeal.main_arg5)
          ∧ r.2.mem ((c.tc : Thread Cert.ReferenceLoraIdeal.nD Cert.ReferenceLoraIdeal.τ).loc Cert.ReferenceLoraIdeal.main_arg6) = m' ((c.tc : Thread Cert.ReferenceLoraIdeal.nD Cert.ReferenceLoraIdeal.τ).loc Cert.ReferenceLoraIdeal.main_arg6)
          ∧ r.2.mem ((c.tc : Thread Cert.ReferenceLoraIdeal.nD Cert.ReferenceLoraIdeal.τ).loc Cert.ReferenceLoraIdeal.main_arg7) = m' ((c.tc : Thread Cert.ReferenceLoraIdeal.nD Cert.ReferenceLoraIdeal.τ).loc Cert.ReferenceLoraIdeal.main_arg7)
          ∧ r.2.mem ((c.tc : Thread Cert.ReferenceLoraIdeal.nD Cert.ReferenceLoraIdeal.τ).loc Cert.ReferenceLoraIdeal.main_arg8) = m' ((c.tc : Thread Cert.ReferenceLoraIdeal.nD Cert.ReferenceLoraIdeal.τ).loc Cert.ReferenceLoraIdeal.main_arg8))

def preserves_KernelSample_KernelSampleIdeal : Prop :=
  IdealRules.named_const.Statement Cert.KernelSampleIdeal.κ "mask" .f32 0xF149F2CA#32 ⊥

def algebraic_KernelSampleIdeal_ReferenceSampleIdeal [hKernelSampleIdeal : Cert.KernelSampleIdeal.Facts] [hReferenceSampleIdeal : Cert.ReferenceSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)
      ∧ m' ((c.tc : Thread Cert.ReferenceSampleIdeal.nD Cert.ReferenceSampleIdeal.τ).loc Cert.ReferenceSampleIdeal.main_arg2) = m ((c.tc : Thread Cert.KernelSampleIdeal.nD Cert.KernelSampleIdeal.τ).loc Cert.KernelSampleIdeal.main_arg2)
      ∧ m' ((c.tc : Thread Cert.ReferenceSampleIdeal.nD Cert.ReferenceSampleIdeal.τ).loc Cert.ReferenceSampleIdeal.main_arg3) = m ((c.tc : Thread Cert.KernelSampleIdeal.nD Cert.KernelSampleIdeal.τ).loc Cert.KernelSampleIdeal.main_arg3)
      ∧ m' ((c.tc : Thread Cert.ReferenceSampleIdeal.nD Cert.ReferenceSampleIdeal.τ).loc Cert.ReferenceSampleIdeal.main_arg4) = m ((c.tc : Thread Cert.KernelSampleIdeal.nD Cert.KernelSampleIdeal.τ).loc Cert.KernelSampleIdeal.main_arg4)) →
    ∃ (v0 : (c : Dev Cert.KernelSampleIdeal.nD) → Buf (Elt Ideal) ((c.tc : Thread Cert.KernelSampleIdeal.nD Cert.KernelSampleIdeal.τ).loc Cert.KernelSampleIdeal.main_v38_0)) (v1 : (c : Dev Cert.KernelSampleIdeal.nD) → Buf (Elt Ideal) ((c.tc : Thread Cert.KernelSampleIdeal.nD Cert.KernelSampleIdeal.τ).loc Cert.KernelSampleIdeal.main_v38_1)) (v2 : (c : Dev Cert.KernelSampleIdeal.nD) → Buf (Elt Ideal) ((c.tc : Thread Cert.KernelSampleIdeal.nD Cert.KernelSampleIdeal.τ).loc Cert.KernelSampleIdeal.main_v38_2)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v38_0) = v0 c
          ∧ r.2.mem ((c.tc : Thread Cert.KernelSampleIdeal.nD Cert.KernelSampleIdeal.τ).loc Cert.KernelSampleIdeal.main_v38_1) = v1 c
          ∧ r.2.mem ((c.tc : Thread Cert.KernelSampleIdeal.nD Cert.KernelSampleIdeal.τ).loc Cert.KernelSampleIdeal.main_v38_2) = v2 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
          ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
          ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v118) = v0 c
          ∧ r.2.mem ((c.tc : Thread Cert.ReferenceSampleIdeal.nD Cert.ReferenceSampleIdeal.τ).loc Cert.ReferenceSampleIdeal.main_v120) = v1 c
          ∧ r.2.mem ((c.tc : Thread Cert.ReferenceSampleIdeal.nD Cert.ReferenceSampleIdeal.τ).loc Cert.ReferenceSampleIdeal.main_v122) = v2 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1)
          ∧ r.2.mem ((c.tc : Thread Cert.ReferenceSampleIdeal.nD Cert.ReferenceSampleIdeal.τ).loc Cert.ReferenceSampleIdeal.main_arg2) = m' ((c.tc : Thread Cert.ReferenceSampleIdeal.nD Cert.ReferenceSampleIdeal.τ).loc Cert.ReferenceSampleIdeal.main_arg2)
          ∧ r.2.mem ((c.tc : Thread Cert.ReferenceSampleIdeal.nD Cert.ReferenceSampleIdeal.τ).loc Cert.ReferenceSampleIdeal.main_arg3) = m' ((c.tc : Thread Cert.ReferenceSampleIdeal.nD Cert.ReferenceSampleIdeal.τ).loc Cert.ReferenceSampleIdeal.main_arg3)
          ∧ r.2.mem ((c.tc : Thread Cert.ReferenceSampleIdeal.nD Cert.ReferenceSampleIdeal.τ).loc Cert.ReferenceSampleIdeal.main_arg4) = m' ((c.tc : Thread Cert.ReferenceSampleIdeal.nD Cert.ReferenceSampleIdeal.τ).loc Cert.ReferenceSampleIdeal.main_arg4))

def preserves_KernelOutSample_KernelOutSampleIdeal : Prop :=
  True

def algebraic_KernelOutSampleIdeal_ReferenceOutSampleIdeal [hKernelOutSampleIdeal : Cert.KernelOutSampleIdeal.Facts] [hReferenceOutSampleIdeal : Cert.ReferenceOutSampleIdeal.Facts] : Prop :=
  ∀ (m : (ℓ : Loc Cert.KernelOutSampleIdeal.nD Cert.KernelOutSampleIdeal.τ Cert.KernelOutSampleIdeal.sig) → Buf (Elt Ideal) ℓ) (g : Dev Cert.KernelOutSampleIdeal.nD → PrngReg)
    (m' : (ℓ : Loc Cert.ReferenceOutSampleIdeal.nD Cert.ReferenceOutSampleIdeal.τ Cert.ReferenceOutSampleIdeal.sig) → Buf (Elt Ideal) ℓ) (g' : Dev Cert.ReferenceOutSampleIdeal.nD → PrngReg), Pre_KernelOutSampleIdeal m →
    (∀ c : Dev Cert.KernelOutSampleIdeal.nD,
      m' ((c.tc : Thread Cert.ReferenceOutSampleIdeal.nD Cert.ReferenceOutSampleIdeal.τ).loc Cert.ReferenceOutSampleIdeal.main_arg0) = m ((c.tc : Thread Cert.KernelOutSampleIdeal.nD Cert.KernelOutSampleIdeal.τ).loc Cert.KernelOutSampleIdeal.main_arg0)
      ∧ m' ((c.tc : Thread Cert.ReferenceOutSampleIdeal.nD Cert.ReferenceOutSampleIdeal.τ).loc Cert.ReferenceOutSampleIdeal.main_arg1) = m ((c.tc : Thread Cert.KernelOutSampleIdeal.nD Cert.KernelOutSampleIdeal.τ).loc Cert.KernelOutSampleIdeal.main_arg1)
      ∧ m' ((c.tc : Thread Cert.ReferenceOutSampleIdeal.nD Cert.ReferenceOutSampleIdeal.τ).loc Cert.ReferenceOutSampleIdeal.main_arg2) = m ((c.tc : Thread Cert.KernelOutSampleIdeal.nD Cert.KernelOutSampleIdeal.τ).loc Cert.KernelOutSampleIdeal.main_arg2)
      ∧ m' ((c.tc : Thread Cert.ReferenceOutSampleIdeal.nD Cert.ReferenceOutSampleIdeal.τ).loc Cert.ReferenceOutSampleIdeal.main_arg3) = m ((c.tc : Thread Cert.KernelOutSampleIdeal.nD Cert.KernelOutSampleIdeal.τ).loc Cert.KernelOutSampleIdeal.main_arg3)
      ∧ m' ((c.tc : Thread Cert.ReferenceOutSampleIdeal.nD Cert.ReferenceOutSampleIdeal.τ).loc Cert.ReferenceOutSampleIdeal.main_arg4) = m ((c.tc : Thread Cert.KernelOutSampleIdeal.nD Cert.KernelOutSampleIdeal.τ).loc Cert.KernelOutSampleIdeal.main_arg4)) →
    ∃ (v0 : (c : Dev Cert.KernelOutSampleIdeal.nD) → Buf (Elt Ideal) ((c.tc : Thread Cert.KernelOutSampleIdeal.nD Cert.KernelOutSampleIdeal.τ).loc Cert.KernelOutSampleIdeal.main_v3)),
      θ_run (Cert.KernelOutSampleIdeal.defs (F := Ideal)) (onTc (τ := Cert.KernelOutSampleIdeal.τ) (Cert.KernelOutSampleIdeal.main (F := Ideal))) ⟨m, fun _ => 0, g⟩ (fun r => ∀ c : Dev Cert.KernelOutSampleIdeal.nD,
          r.2.mem ((c.tc : Thread Cert.KernelOutSampleIdeal.nD Cert.KernelOutSampleIdeal.τ).loc Cert.KernelOutSampleIdeal.main_v3) = v0 c
          ∧ r.2.mem ((c.tc : Thread Cert.KernelOutSampleIdeal.nD Cert.KernelOutSampleIdeal.τ).loc Cert.KernelOutSampleIdeal.main_arg0) = m ((c.tc : Thread Cert.KernelOutSampleIdeal.nD Cert.KernelOutSampleIdeal.τ).loc Cert.KernelOutSampleIdeal.main_arg0)
          ∧ r.2.mem ((c.tc : Thread Cert.KernelOutSampleIdeal.nD Cert.KernelOutSampleIdeal.τ).loc Cert.KernelOutSampleIdeal.main_arg1) = m ((c.tc : Thread Cert.KernelOutSampleIdeal.nD Cert.KernelOutSampleIdeal.τ).loc Cert.KernelOutSampleIdeal.main_arg1)
          ∧ r.2.mem ((c.tc : Thread Cert.KernelOutSampleIdeal.nD Cert.KernelOutSampleIdeal.τ).loc Cert.KernelOutSampleIdeal.main_arg2) = m ((c.tc : Thread Cert.KernelOutSampleIdeal.nD Cert.KernelOutSampleIdeal.τ).loc Cert.KernelOutSampleIdeal.main_arg2)
          ∧ r.2.mem ((c.tc : Thread Cert.KernelOutSampleIdeal.nD Cert.KernelOutSampleIdeal.τ).loc Cert.KernelOutSampleIdeal.main_arg3) = m ((c.tc : Thread Cert.KernelOutSampleIdeal.nD Cert.KernelOutSampleIdeal.τ).loc Cert.KernelOutSampleIdeal.main_arg3)
          ∧ r.2.mem ((c.tc : Thread Cert.KernelOutSampleIdeal.nD Cert.KernelOutSampleIdeal.τ).loc Cert.KernelOutSampleIdeal.main_arg4) = m ((c.tc : Thread Cert.KernelOutSampleIdeal.nD Cert.KernelOutSampleIdeal.τ).loc Cert.KernelOutSampleIdeal.main_arg4))
      ∧ θ_run (Cert.ReferenceOutSampleIdeal.defs (F := Ideal)) (onTc (τ := Cert.ReferenceOutSampleIdeal.τ) (Cert.ReferenceOutSampleIdeal.main (F := Ideal))) ⟨m', fun _ => 0, g'⟩ (fun r => ∀ c : Dev Cert.ReferenceOutSampleIdeal.nD,
          r.2.mem ((c.tc : Thread Cert.ReferenceOutSampleIdeal.nD Cert.ReferenceOutSampleIdeal.τ).loc Cert.ReferenceOutSampleIdeal.main_v28) = v0 c
          ∧ r.2.mem ((c.tc : Thread Cert.ReferenceOutSampleIdeal.nD Cert.ReferenceOutSampleIdeal.τ).loc Cert.ReferenceOutSampleIdeal.main_arg0) = m' ((c.tc : Thread Cert.ReferenceOutSampleIdeal.nD Cert.ReferenceOutSampleIdeal.τ).loc Cert.ReferenceOutSampleIdeal.main_arg0)
          ∧ r.2.mem ((c.tc : Thread Cert.ReferenceOutSampleIdeal.nD Cert.ReferenceOutSampleIdeal.τ).loc Cert.ReferenceOutSampleIdeal.main_arg1) = m' ((c.tc : Thread Cert.ReferenceOutSampleIdeal.nD Cert.ReferenceOutSampleIdeal.τ).loc Cert.ReferenceOutSampleIdeal.main_arg1)
          ∧ r.2.mem ((c.tc : Thread Cert.ReferenceOutSampleIdeal.nD Cert.ReferenceOutSampleIdeal.τ).loc Cert.ReferenceOutSampleIdeal.main_arg2) = m' ((c.tc : Thread Cert.ReferenceOutSampleIdeal.nD Cert.ReferenceOutSampleIdeal.τ).loc Cert.ReferenceOutSampleIdeal.main_arg2)
          ∧ r.2.mem ((c.tc : Thread Cert.ReferenceOutSampleIdeal.nD Cert.ReferenceOutSampleIdeal.τ).loc Cert.ReferenceOutSampleIdeal.main_arg3) = m' ((c.tc : Thread Cert.ReferenceOutSampleIdeal.nD Cert.ReferenceOutSampleIdeal.τ).loc Cert.ReferenceOutSampleIdeal.main_arg3)
          ∧ r.2.mem ((c.tc : Thread Cert.ReferenceOutSampleIdeal.nD Cert.ReferenceOutSampleIdeal.τ).loc Cert.ReferenceOutSampleIdeal.main_arg4) = m' ((c.tc : Thread Cert.ReferenceOutSampleIdeal.nD Cert.ReferenceOutSampleIdeal.τ).loc Cert.ReferenceOutSampleIdeal.main_arg4))

def preserves_KernelChunk_KernelChunkIdeal : Prop :=
  True

def algebraic_KernelChunkIdeal_ReferenceChunkIdeal [hKernelChunkIdeal : Cert.KernelChunkIdeal.Facts] [hReferenceChunkIdeal : Cert.ReferenceChunkIdeal.Facts] : Prop :=
  ∀ (m : (ℓ : Loc Cert.KernelChunkIdeal.nD Cert.KernelChunkIdeal.τ Cert.KernelChunkIdeal.sig) → Buf (Elt Ideal) ℓ) (g : Dev Cert.KernelChunkIdeal.nD → PrngReg)
    (m' : (ℓ : Loc Cert.ReferenceChunkIdeal.nD Cert.ReferenceChunkIdeal.τ Cert.ReferenceChunkIdeal.sig) → Buf (Elt Ideal) ℓ) (g' : Dev Cert.ReferenceChunkIdeal.nD → PrngReg), Pre_KernelChunkIdeal m →
    (∀ c : Dev Cert.KernelChunkIdeal.nD,
      m' ((c.tc : Thread Cert.ReferenceChunkIdeal.nD Cert.ReferenceChunkIdeal.τ).loc Cert.ReferenceChunkIdeal.main_arg0) = m ((c.tc : Thread Cert.KernelChunkIdeal.nD Cert.KernelChunkIdeal.τ).loc Cert.KernelChunkIdeal.main_arg0)
      ∧ m' ((c.tc : Thread Cert.ReferenceChunkIdeal.nD Cert.ReferenceChunkIdeal.τ).loc Cert.ReferenceChunkIdeal.main_arg1) = m ((c.tc : Thread Cert.KernelChunkIdeal.nD Cert.KernelChunkIdeal.τ).loc Cert.KernelChunkIdeal.main_arg1)
      ∧ m' ((c.tc : Thread Cert.ReferenceChunkIdeal.nD Cert.ReferenceChunkIdeal.τ).loc Cert.ReferenceChunkIdeal.main_arg2) = m ((c.tc : Thread Cert.KernelChunkIdeal.nD Cert.KernelChunkIdeal.τ).loc Cert.KernelChunkIdeal.main_arg2)
      ∧ m' ((c.tc : Thread Cert.ReferenceChunkIdeal.nD Cert.ReferenceChunkIdeal.τ).loc Cert.ReferenceChunkIdeal.main_arg3) = m ((c.tc : Thread Cert.KernelChunkIdeal.nD Cert.KernelChunkIdeal.τ).loc Cert.KernelChunkIdeal.main_arg3)) →
    ∃ (v0 : (c : Dev Cert.KernelChunkIdeal.nD) → Buf (Elt Ideal) ((c.tc : Thread Cert.KernelChunkIdeal.nD Cert.KernelChunkIdeal.τ).loc Cert.KernelChunkIdeal.main_v1_0)) (v1 : (c : Dev Cert.KernelChunkIdeal.nD) → Buf (Elt Ideal) ((c.tc : Thread Cert.KernelChunkIdeal.nD Cert.KernelChunkIdeal.τ).loc Cert.KernelChunkIdeal.main_v1_1)),
      θ_run (Cert.KernelChunkIdeal.defs (F := Ideal)) (onTc (τ := Cert.KernelChunkIdeal.τ) (Cert.KernelChunkIdeal.main (F := Ideal))) ⟨m, fun _ => 0, g⟩ (fun r => ∀ c : Dev Cert.KernelChunkIdeal.nD,
          r.2.mem ((c.tc : Thread Cert.KernelChunkIdeal.nD Cert.KernelChunkIdeal.τ).loc Cert.KernelChunkIdeal.main_v1_0) = v0 c
          ∧ r.2.mem ((c.tc : Thread Cert.KernelChunkIdeal.nD Cert.KernelChunkIdeal.τ).loc Cert.KernelChunkIdeal.main_v1_1) = v1 c
          ∧ r.2.mem ((c.tc : Thread Cert.KernelChunkIdeal.nD Cert.KernelChunkIdeal.τ).loc Cert.KernelChunkIdeal.main_arg0) = m ((c.tc : Thread Cert.KernelChunkIdeal.nD Cert.KernelChunkIdeal.τ).loc Cert.KernelChunkIdeal.main_arg0)
          ∧ r.2.mem ((c.tc : Thread Cert.KernelChunkIdeal.nD Cert.KernelChunkIdeal.τ).loc Cert.KernelChunkIdeal.main_arg1) = m ((c.tc : Thread Cert.KernelChunkIdeal.nD Cert.KernelChunkIdeal.τ).loc Cert.KernelChunkIdeal.main_arg1)
          ∧ r.2.mem ((c.tc : Thread Cert.KernelChunkIdeal.nD Cert.KernelChunkIdeal.τ).loc Cert.KernelChunkIdeal.main_arg2) = m ((c.tc : Thread Cert.KernelChunkIdeal.nD Cert.KernelChunkIdeal.τ).loc Cert.KernelChunkIdeal.main_arg2)
          ∧ r.2.mem ((c.tc : Thread Cert.KernelChunkIdeal.nD Cert.KernelChunkIdeal.τ).loc Cert.KernelChunkIdeal.main_arg3) = m ((c.tc : Thread Cert.KernelChunkIdeal.nD Cert.KernelChunkIdeal.τ).loc Cert.KernelChunkIdeal.main_arg3))
      ∧ θ_run (Cert.ReferenceChunkIdeal.defs (F := Ideal)) (onTc (τ := Cert.ReferenceChunkIdeal.τ) (Cert.ReferenceChunkIdeal.main (F := Ideal))) ⟨m', fun _ => 0, g'⟩ (fun r => ∀ c : Dev Cert.ReferenceChunkIdeal.nD,
          r.2.mem ((c.tc : Thread Cert.ReferenceChunkIdeal.nD Cert.ReferenceChunkIdeal.τ).loc Cert.ReferenceChunkIdeal.main_v63) = v0 c
          ∧ r.2.mem ((c.tc : Thread Cert.ReferenceChunkIdeal.nD Cert.ReferenceChunkIdeal.τ).loc Cert.ReferenceChunkIdeal.main_v45) = v1 c
          ∧ r.2.mem ((c.tc : Thread Cert.ReferenceChunkIdeal.nD Cert.ReferenceChunkIdeal.τ).loc Cert.ReferenceChunkIdeal.main_arg0) = m' ((c.tc : Thread Cert.ReferenceChunkIdeal.nD Cert.ReferenceChunkIdeal.τ).loc Cert.ReferenceChunkIdeal.main_arg0)
          ∧ r.2.mem ((c.tc : Thread Cert.ReferenceChunkIdeal.nD Cert.ReferenceChunkIdeal.τ).loc Cert.ReferenceChunkIdeal.main_arg1) = m' ((c.tc : Thread Cert.ReferenceChunkIdeal.nD Cert.ReferenceChunkIdeal.τ).loc Cert.ReferenceChunkIdeal.main_arg1)
          ∧ r.2.mem ((c.tc : Thread Cert.ReferenceChunkIdeal.nD Cert.ReferenceChunkIdeal.τ).loc Cert.ReferenceChunkIdeal.main_arg2) = m' ((c.tc : Thread Cert.ReferenceChunkIdeal.nD Cert.ReferenceChunkIdeal.τ).loc Cert.ReferenceChunkIdeal.main_arg2)
          ∧ r.2.mem ((c.tc : Thread Cert.ReferenceChunkIdeal.nD Cert.ReferenceChunkIdeal.τ).loc Cert.ReferenceChunkIdeal.main_arg3) = m' ((c.tc : Thread Cert.ReferenceChunkIdeal.nD Cert.ReferenceChunkIdeal.τ).loc Cert.ReferenceChunkIdeal.main_arg3))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelGate : Cert.KernelGate.Facts) (hKernelGateIdeal : Cert.KernelGateIdeal.Facts) (hReferenceGateIdeal : Cert.ReferenceGateIdeal.Facts) (hKernelGla : Cert.KernelGla.Facts) (hKernelGlaIdeal : Cert.KernelGlaIdeal.Facts) (hReferenceGlaIdeal : Cert.ReferenceGlaIdeal.Facts) (hKernelOut : Cert.KernelOut.Facts) (hKernelOutIdeal : Cert.KernelOutIdeal.Facts) (hReferenceOutIdeal : Cert.ReferenceOutIdeal.Facts) (hKernelMix : Cert.KernelMix.Facts) (hKernelMixIdeal : Cert.KernelMixIdeal.Facts) (hReferenceMixIdeal : Cert.ReferenceMixIdeal.Facts) (hKernelDecay : Cert.KernelDecay.Facts) (hKernelDecayIdeal : Cert.KernelDecayIdeal.Facts) (hReferenceDecayIdeal : Cert.ReferenceDecayIdeal.Facts) (hKernelLora : Cert.KernelLora.Facts) (hKernelLoraIdeal : Cert.KernelLoraIdeal.Facts) (hReferenceLoraIdeal : Cert.ReferenceLoraIdeal.Facts) (hKernelSample : Cert.KernelSample.Facts) (hKernelSampleIdeal : Cert.KernelSampleIdeal.Facts) (hReferenceSampleIdeal : Cert.ReferenceSampleIdeal.Facts) (hKernelOutSample : Cert.KernelOutSample.Facts) (hKernelOutSampleIdeal : Cert.KernelOutSampleIdeal.Facts) (hReferenceOutSampleIdeal : Cert.ReferenceOutSampleIdeal.Facts) (hKernelChunk : Cert.KernelChunk.Facts) (hKernelChunkIdeal : Cert.KernelChunkIdeal.Facts) (hReferenceChunkIdeal : Cert.ReferenceChunkIdeal.Facts),
    quiescent_Kernel (hKernel := hKernel)
    ∧ quiescent_KernelIdeal (hKernelIdeal := hKernelIdeal)
    ∧ quiescent_ReferenceIdeal (hReferenceIdeal := hReferenceIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelGla (hKernelGla := hKernelGla)
    ∧ quiescent_KernelGlaIdeal (hKernelGlaIdeal := hKernelGlaIdeal)
    ∧ quiescent_ReferenceGlaIdeal (hReferenceGlaIdeal := hReferenceGlaIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelDecay (hKernelDecay := hKernelDecay)
    ∧ quiescent_KernelDecayIdeal (hKernelDecayIdeal := hKernelDecayIdeal)
    ∧ quiescent_ReferenceDecayIdeal (hReferenceDecayIdeal := hReferenceDecayIdeal)
    ∧ quiescent_KernelLora (hKernelLora := hKernelLora)
    ∧ quiescent_KernelLoraIdeal (hKernelLoraIdeal := hKernelLoraIdeal)
    ∧ quiescent_ReferenceLoraIdeal (hReferenceLoraIdeal := hReferenceLoraIdeal)
    ∧ quiescent_KernelSample (hKernelSample := hKernelSample)
    ∧ quiescent_KernelSampleIdeal (hKernelSampleIdeal := hKernelSampleIdeal)
    ∧ quiescent_ReferenceSampleIdeal (hReferenceSampleIdeal := hReferenceSampleIdeal)
    ∧ quiescent_KernelOutSample (hKernelOutSample := hKernelOutSample)
    ∧ quiescent_KernelOutSampleIdeal (hKernelOutSampleIdeal := hKernelOutSampleIdeal)
    ∧ quiescent_ReferenceOutSampleIdeal (hReferenceOutSampleIdeal := hReferenceOutSampleIdeal)
    ∧ quiescent_KernelChunk (hKernelChunk := hKernelChunk)
    ∧ quiescent_KernelChunkIdeal (hKernelChunkIdeal := hKernelChunkIdeal)
    ∧ quiescent_ReferenceChunkIdeal (hReferenceChunkIdeal := hReferenceChunkIdeal)
    ∧ preserves_Kernel_KernelIdeal
    ∧ algebraic_KernelIdeal_ReferenceIdeal (hKernelIdeal := hKernelIdeal) (hReferenceIdeal := hReferenceIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelGate_KernelGateIdeal
    ∧ algebraic_KernelGateIdeal_ReferenceGateIdeal (hKernelGateIdeal := hKernelGateIdeal) (hReferenceGateIdeal := hReferenceGateIdeal)
    ∧ preserves_KernelGla_KernelGlaIdeal
    ∧ algebraic_KernelGlaIdeal_ReferenceGlaIdeal (hKernelGlaIdeal := hKernelGlaIdeal) (hReferenceGlaIdeal := hReferenceGlaIdeal)
    ∧ preserves_KernelOut_KernelOutIdeal
    ∧ algebraic_KernelOutIdeal_ReferenceOutIdeal (hKernelOutIdeal := hKernelOutIdeal) (hReferenceOutIdeal := hReferenceOutIdeal)
    ∧ preserves_KernelMix_KernelMixIdeal
    ∧ algebraic_KernelMixIdeal_ReferenceMixIdeal (hKernelMixIdeal := hKernelMixIdeal) (hReferenceMixIdeal := hReferenceMixIdeal)
    ∧ preserves_KernelDecay_KernelDecayIdeal
    ∧ algebraic_KernelDecayIdeal_ReferenceDecayIdeal (hKernelDecayIdeal := hKernelDecayIdeal) (hReferenceDecayIdeal := hReferenceDecayIdeal)
    ∧ preserves_KernelLora_KernelLoraIdeal
    ∧ algebraic_KernelLoraIdeal_ReferenceLoraIdeal (hKernelLoraIdeal := hKernelLoraIdeal) (hReferenceLoraIdeal := hReferenceLoraIdeal)
    ∧ preserves_KernelSample_KernelSampleIdeal
    ∧ algebraic_KernelSampleIdeal_ReferenceSampleIdeal (hKernelSampleIdeal := hKernelSampleIdeal) (hReferenceSampleIdeal := hReferenceSampleIdeal)
    ∧ preserves_KernelOutSample_KernelOutSampleIdeal
    ∧ algebraic_KernelOutSampleIdeal_ReferenceOutSampleIdeal (hKernelOutSampleIdeal := hKernelOutSampleIdeal) (hReferenceOutSampleIdeal := hReferenceOutSampleIdeal)
    ∧ preserves_KernelChunk_KernelChunkIdeal
    ∧ algebraic_KernelChunkIdeal_ReferenceChunkIdeal (hKernelChunkIdeal := hKernelChunkIdeal) (hReferenceChunkIdeal := hReferenceChunkIdeal)
-- ==== Kernel.lean ====
abbrev S8192x2560 : Shape := ⟨2, ![8192, 2560]⟩
abbrev S8192x2048 : Shape := ⟨2, ![8192, 2048]⟩
abbrev S32 : Shape := ⟨1, ![32]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S3x2048x128 : Shape := ⟨3, ![3, 2048, 128]⟩
abbrev S4x128x256 : Shape := ⟨3, ![4, 128, 256]⟩
abbrev S128x2048 : Shape := ⟨2, ![128, 2048]⟩
abbrev S128x256 : Shape := ⟨2, ![128, 256]⟩
abbrev S3x128x128 : Shape := ⟨3, ![3, 128, 128]⟩
abbrev S1x128x256 : Shape := ⟨3, ![1, 128, 256]⟩
abbrev S1x128x128 : Shape := ⟨3, ![1, 128, 128]⟩
abbrev S128x128 : Shape := ⟨2, ![128, 128]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 48
  | .vmem => 22
  | .smem => 1
  | _ => 0

abbrev bufTy : (tb : Table) → Fin (tcTables nBuf tb) → BufTy
  | .hbm, ⟨0, _⟩ => ⟨S8192x2560, .f32⟩
  | .hbm, ⟨1, _⟩ => ⟨S8192x2048, .f32⟩
  | .hbm, ⟨2, _⟩ => ⟨S32, .f32⟩
  | .hbm, ⟨3, _⟩ => ⟨S2048, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S2048x1, .f32⟩
  | .hbm, ⟨16, _⟩ => ⟨S1x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x8, .f32⟩
  | .hbm, ⟨28, _⟩ => ⟨S2048x64, .f32⟩
  | .hbm, ⟨29, _⟩ => ⟨S2048x8, .f32⟩
  | .hbm, ⟨30, _⟩ => ⟨S2048x64, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S1x2048x128, .f32⟩
  | .hbm, ⟨42, _⟩ => ⟨S1x2048x128, .f32⟩
  | .hbm, ⟨43, _⟩ => ⟨S1x2048x128, .f32⟩
  | .hbm, ⟨44, _⟩ => ⟨S3x2048x128, .f32⟩
  | .hbm, ⟨45, _⟩ => ⟨S8192x2048, .bf16⟩
  | .hbm, ⟨46, _⟩ => ⟨S4x128x256, .f32⟩
  | .hbm, ⟨47, _⟩ => ⟨S4x128x256, .f32⟩
  | .local _ .vmem, ⟨0, _⟩ => ⟨S128x2048, .f32⟩
  | .local _ .vmem, ⟨1, _⟩ => ⟨S128x2048, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x2048, .f32⟩
  | .local _ .vmem, ⟨11, _⟩ => ⟨S128x2048, .f32⟩
  | .local _ .vmem, ⟨12, _⟩ => ⟨S3x128x128, .f32⟩
  | .local _ .vmem, ⟨13, _⟩ => ⟨S3x128x128, .f32⟩
  | .local _ .vmem, ⟨14, _⟩ => ⟨S3x128x128, .f32⟩
  | .local _ .vmem, ⟨15, _⟩ => ⟨S3x128x128, .f32⟩
  | .local _ .vmem, ⟨16, _⟩ => ⟨S128x2048, .bf16⟩
  | .local _ .vmem, ⟨17, _⟩ => ⟨S128x2048, .bf16⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .smem, ⟨0, _⟩ => ⟨S32, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x2560 : Shape := ⟨2, ![8192, 2560]⟩
abbrev S8192x2048 : Shape := ⟨2, ![8192, 2048]⟩
abbrev S32 : Shape := ⟨1, ![32]⟩
abbrev S2048 : Shape := ⟨1, ![2048]⟩
abbrev S4x2048x2560 : Shape := ⟨3, ![4, 2048, 2560]⟩
abbrev S4x2048x2048 : Shape := ⟨3, ![4, 2048, 2048]⟩
abbrev S4x2048x256 : Shape := ⟨3, ![4, 2048, 256]⟩
abbrev S4x2048x32x64 : Shape := ⟨4, ![4, 2048, 32, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S4x2048x32x8 : Shape := ⟨4, ![4, 2048, 32, 8]⟩
abbrev S4x2048x32x48 : Shape := ⟨4, ![4, 2048, 32, 48]⟩
abbrev S4x2048x4x64 : Shape := ⟨4, ![4, 2048, 4, 64]⟩
abbrev S4x2048x4x8 : Shape := ⟨4, ![4, 2048, 4, 8]⟩
abbrev S4x2048x4x48 : Shape := ⟨4, ![4, 2048, 4, 48]⟩
abbrev S4x16x128x4x8x64 : Shape := ⟨6, ![4, 16, 128, 4, 8, 64]⟩
abbrev S4x16x128x4x64 : Shape := ⟨5, ![4, 16, 128, 4, 64]⟩
abbrev S4x1x128x4x64 : Shape := ⟨5, ![4, 1, 128, 4, 64]⟩
abbrev S4x15x128x4x64 : Shape := ⟨5, ![4, 15, 128, 4, 64]⟩
abbrev S4x16x256x4x64 : Shape := ⟨5, ![4, 16, 256, 4, 64]⟩
abbrev S4x16x4x256x128x8 : Shape := ⟨6, ![4, 16, 4, 256, 128, 8]⟩
abbrev S4x16x4x8x128x256 : Shape := ⟨6, ![4, 16, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x8 : Shape := ⟨2, ![4, 8]⟩
abbrev S1x1x4x8x1x1 : Shape := ⟨6, ![1, 1, 4, 8, 1, 1]⟩
abbrev S4x16x4x8x128 : Shape := ⟨5, ![4, 16, 4, 8, 128]⟩
abbrev S4x16x4x8x128x1 : Shape := ⟨6, ![4, 16, 4, 8, 128, 1]⟩
abbrev S4x16x4x64x8x128 : Shape := ⟨6, ![4, 16, 4, 64, 8, 128]⟩
abbrev S4x128x4x64 : Shape := ⟨4, ![4, 128, 4, 64]⟩
abbrev S4x128x256 : Shape := ⟨3, ![4, 128, 256]⟩

abbrev nBuf : Space → Nat
  | .hbm => 175
  | .vmem => 0
  | .smem => 0
  | _ => 0

abbrev hbmTy0_0 (i : Nat) : BufTy := match i % 128 with
  | 0 => ⟨S8192x2560, .f32⟩
  | 1 => ⟨S8192x2048, .f32⟩
  | 2 => ⟨S32, .f32⟩
  | 3 => ⟨S2048, .f32⟩
  | 4 => ⟨S4x2048x2560, .f32⟩
  | 5 => ⟨S4x2048x2048, .f32⟩
  | 6 => ⟨S4x2048x256, .f32⟩
  | 7 => ⟨S4x2048x256, .f32⟩
  | 8 => ⟨S4x2048x32x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S2048x1, .f32⟩
  | 21 => ⟨S1x8, .f32⟩
  | 22 => ⟨S2048x8, .f32⟩
  | 23 => ⟨S2048x8, .f32⟩
  | 24 => ⟨S2048x8, .f32⟩
  | 25 => ⟨S2048x8, .f32⟩
  | 26 => ⟨S1x2048x1x8, .f32⟩
  | 27 => ⟨S2048x8, .f32⟩
  | 28 => ⟨S1x2048x1x8, .f32⟩
  | 29 => ⟨S4x2048x32x8, .f32⟩
  | 30 => ⟨S4x2048x32x8, .f32⟩
  | 31 => ⟨S4x2048x32x48, .f32⟩
  | 32 => ⟨S4x2048x32x8, .f32⟩
  | 33 => ⟨S4x2048x32x8, .f32⟩
  | 34 => ⟨S4x2048x32x8, .f32⟩
  | 35 => ⟨S4x2048x32x8, .f32⟩
  | 36 => ⟨S4x2048x32x8, .f32⟩
  | 37 => ⟨S4x2048x32x8, .f32⟩
  | 38 => ⟨S4x2048x32x8, .f32⟩
  | 39 => ⟨S4x2048x32x8, .f32⟩
  | 40 => ⟨S4x2048x32x8, .f32⟩
  | 41 => ⟨S4x2048x32x8, .f32⟩
  | 42 => ⟨S4x2048x32x64, .f32⟩
  | 43 => ⟨S4x2048x4x64, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S_, .f32⟩
  | 53 => ⟨S8, .f32⟩
  | 54 => ⟨S8, .f32⟩
  | 55 => ⟨S2048x1, .f32⟩
  | 56 => ⟨S1x8, .f32⟩
  | 57 => ⟨S2048x8, .f32⟩
  | 58 => ⟨S2048x8, .f32⟩
  | 59 => ⟨S2048x8, .f32⟩
  | 60 => ⟨S2048x8, .f32⟩
  | 61 => ⟨S1x2048x1x8, .f32⟩
  | 62 => ⟨S2048x8, .f32⟩
  | 63 => ⟨S1x2048x1x8, .f32⟩
  | 64 => ⟨S4x2048x4x8, .f32⟩
  | 65 => ⟨S4x2048x4x8, .f32⟩
  | 66 => ⟨S4x2048x4x48, .f32⟩
  | 67 => ⟨S4x2048x4x8, .f32⟩
  | 68 => ⟨S4x2048x4x8, .f32⟩
  | 69 => ⟨S4x2048x4x8, .f32⟩
  | 70 => ⟨S4x2048x4x8, .f32⟩
  | 71 => ⟨S4x2048x4x8, .f32⟩
  | 72 => ⟨S4x2048x4x8, .f32⟩
  | 73 => ⟨S4x2048x4x8, .f32⟩
  | 74 => ⟨S4x2048x4x8, .f32⟩
  | 75 => ⟨S4x2048x4x8, .f32⟩
  | 76 => ⟨S4x2048x4x8, .f32⟩
  | 77 => ⟨S4x2048x4x64, .f32⟩
  | 78 => ⟨S4x2048x4x64, .f32⟩
  | 79 => ⟨S4x16x128x4x8x64, .f32⟩
  | 80 => ⟨S4x16x128x4x64, .f32⟩
  | 81 => ⟨S4x1x128x4x64, .f32⟩
  | 82 => ⟨S_, .f32⟩
  | 83 => ⟨S4x1x128x4x64, .f32⟩
  | 84 => ⟨S4x15x128x4x64, .f32⟩
  | 85 => ⟨S4x16x128x4x64, .f32⟩
  | 86 => ⟨S4x16x256x4x64, .f32⟩
  | 87 => ⟨S4x16x128x4x64, .f32⟩
  | 88 => ⟨S4x1x128x4x64, .f32⟩
  | 89 => ⟨S_, .f32⟩
  | 90 => ⟨S4x1x128x4x64, .f32⟩
  | 91 => ⟨S4x15x128x4x64, .f32⟩
  | 92 => ⟨S4x16x128x4x64, .f32⟩
  | 93 => ⟨S4x16x256x4x64, .f32⟩
  | 94 => ⟨S4x16x4x256x128x8, .f32⟩
  | 95 => ⟨S4x16x4x8x128x256, .f32⟩
  | 96 => ⟨S_, .f32⟩
  | 97 => ⟨S4x16x4x8x128x256, .f32⟩
  | 98 => ⟨S4x16x4x8x128x256, .f32⟩
  | 99 => ⟨S128, .i32⟩
  | 100 => ⟨S128x1, .i32⟩
  | 101 => ⟨S256, .i32⟩
  | 102 => ⟨S1x256, .i32⟩
  | 103 => ⟨S_, .i32⟩
  | 104 => ⟨S128x1, .i32⟩
  | 105 => ⟨S128x1, .i32⟩
  | 106 => ⟨S128x256, .i32⟩
  | 107 => ⟨S128x256, .i32⟩
  | 108 => ⟨S128x256, .i32⟩
  | 109 => ⟨S_, .i32⟩
  | 110 => ⟨S128x256, .i32⟩
  | 111 => ⟨S128x256, .i1⟩
  | 112 => ⟨S_, .i32⟩
  | 113 => ⟨S128x256, .i32⟩
  | 114 => ⟨S128x256, .i1⟩
  | 115 => ⟨S128x256, .i1⟩
  | 116 => ⟨S16, .i32⟩
  | 117 => ⟨S16x1x1, .i32⟩
  | 118 => ⟨S_, .i32⟩
  | 119 => ⟨S16x1x1, .i32⟩
  | 120 => ⟨S16x1x1, .i1⟩
  | 121 => ⟨S_, .i32⟩
  | 122 => ⟨S1x256, .i32⟩
  | 123 => ⟨S1x256, .i1⟩
  | 124 => ⟨S1x1x256, .i1⟩
  | 125 => ⟨S16x1x256, .i1⟩
  | 126 => ⟨S16x1x256, .i1⟩
  | 127 => ⟨S16x1x256, .i1⟩
  | _ => ⟨S8192x2560, .f32⟩

abbrev hbmTy0_1 (i : Nat) : BufTy := match i % 128 with
  | 0 => ⟨S1x128x256, .i1⟩
  | 1 => ⟨S16x128x256, .i1⟩
  | 2 => ⟨S16x128x256, .i1⟩
  | 3 => ⟨S16x128x256, .i1⟩
  | 4 => ⟨S1x16x1x1x128x256, .i1⟩
  | 5 => ⟨S4x8, .f32⟩
  | 6 => ⟨S1x1x4x8x1x1, .f32⟩
  | 7 => ⟨S_, .f32⟩
  | 8 => ⟨S_, .f32⟩
  | 9 => ⟨S4x16x4x8x128x256, .i1⟩
  | 10 => ⟨S4x16x4x8x128x256, .f32⟩
  | 11 => ⟨S4x16x4x8x128x256, .f32⟩
  | 12 => ⟨S_, .f32⟩
  | 13 => ⟨S4x16x4x8x128, .f32⟩
  | 14 => ⟨S4x16x4x8x128x1, .f32⟩
  | 15 => ⟨S4x16x4x8x128x1, .f32⟩
  | 16 => ⟨S4x16x4x8x128x1, .f32⟩
  | 17 => ⟨S4x16x4x8x128x256, .f32⟩
  | 18 => ⟨S4x16x4x8x128x256, .f32⟩
  | 19 => ⟨S4x16x4x8x128x256, .f32⟩
  | 20 => ⟨S_, .f32⟩
  | 21 => ⟨S4x16x4x8x128, .f32⟩
  | 22 => ⟨S4x16x4x8x128x1, .f32⟩
  | 23 => ⟨S4x16x4x8x128x1, .f32⟩
  | 24 => ⟨S4x16x4x8x128x1, .f32⟩
  | 25 => ⟨S4x16x4x8x128x1, .f32⟩
  | 26 => ⟨S4x16x4x8x128x1, .f32⟩
  | 27 => ⟨S4x16x4x8x128x256, .f32⟩
  | 28 => ⟨S4x16x4x8x128x256, .f32⟩
  | 29 => ⟨S4x16x4x64x8x128, .f32⟩
  | 30 => ⟨S4x16x128x4x8x64, .f32⟩
  | 31 => ⟨S8192x2048, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S8192x2048, .f32⟩
  | 41 => ⟨S8192x2048, .f32⟩
  | 42 => ⟨S8192x2048, .bf16⟩
  | 43 => ⟨S4x128x4x64, .f32⟩
  | 44 => ⟨S4x128x256, .f32⟩
  | 45 => ⟨S4x128x4x64, .f32⟩
  | 46 => ⟨S4x128x256, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_5 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_c : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_c_8 : Ref sig .tc := ⟨.hbm, 109, rfl⟩
abbrev main_v96 : Ref sig .tc := ⟨.hbm, 110, rfl⟩
abbrev main_v97 : Ref sig .tc := ⟨.hbm, 111, rfl⟩
abbrev main_c_9 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_c_10 : Ref sig .tc := ⟨.hbm, 118, rfl⟩
abbrev main_v103 : Ref sig .tc := ⟨.hbm, 119, rfl⟩
abbrev main_v104 : Ref sig .tc := ⟨.hbm, 120, rfl⟩
abbrev main_c_11 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_12 : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_v118 : Ref sig .tc := ⟨.hbm, 139, rfl⟩
abbrev main_cst_13 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_cst_14 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_call1_v0 : Ref sig .tc := ⟨.hbm, 160, rfl⟩
abbrev main_call1_v1 : Ref sig .tc := ⟨.hbm, 161, rfl⟩
abbrev main_call1_cst : Ref sig .tc := ⟨.hbm, 162, rfl⟩
abbrev main_call1_v2 : Ref sig .tc := ⟨.hbm, 163, rfl⟩
abbrev main_call1_v3 : Ref sig .tc := ⟨.hbm, 164, rfl⟩
abbrev main_call1_cst_0 : Ref sig .tc := ⟨.hbm, 165, rfl⟩
abbrev main_call1_v4 : Ref sig .tc := ⟨.hbm, 166, rfl⟩
abbrev main_call1_v5 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== KernelQkv.lean ====
abbrev S8192x2048 : Shape := ⟨2, ![8192, 2048]⟩
abbrev S2048x4608 : Shape := ⟨2, ![2048, 4608]⟩
abbrev S8192x2560 : Shape := ⟨2, ![8192, 2560]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S2048x4608, .bf16⟩
  | .hbm, ⟨3, _⟩ => ⟨S8192x2560, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S8192x2048 : Shape := ⟨2, ![8192, 2048]⟩
abbrev S2048x4608 : Shape := ⟨2, ![2048, 4608]⟩
abbrev S8192x4608 : Shape := ⟨2, ![8192, 4608]⟩
abbrev S8192x2560 : Shape := ⟨2, ![8192, 2560]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x2560, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGate.lean ====
abbrev S8192x2048 : Shape := ⟨2, ![8192, 2048]⟩
abbrev S2048x4608 : Shape := ⟨2, ![2048, 4608]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S2048x4608, .bf16⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .f32⟩
  | .hbm, ⟨2, _⟩ => ⟨S8192x4608, .f32⟩
  | .hbm, ⟨3, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGla.lean ====
abbrev S8192x2048 : Shape := ⟨2, ![8192, 2048]⟩
abbrev S2048x6160 : Shape := ⟨2, ![2048, 6160]⟩
abbrev S8192x6144 : Shape := ⟨2, ![8192, 6144]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S2048x6160, .bf16⟩
  | .hbm, ⟨3, _⟩ => ⟨S8192x6144, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGlaIdeal.lean ====
abbrev S8192x2048 : Shape := ⟨2, ![8192, 2048]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelOutIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelMix.lean ====
abbrev S8192x2048 : Shape := ⟨2, ![8192, 2048]⟩
abbrev S4x2048 : Shape := ⟨2, ![4, 2048]⟩
abbrev S4x2048x2048 : Shape := ⟨3, ![4, 2048, 2048]⟩
abbrev S4x1x2048 : Shape := ⟨3, ![4, 1, 2048]⟩
abbrev S4x2047x2048 : Shape := ⟨3, ![4, 2047, 2048]⟩
abbrev S4x8192x2048 : Shape := ⟨3, ![4, 8192, 2048]⟩
abbrev S512x2048 : Shape := ⟨2, ![512, 2048]⟩
abbrev S1x1x2048 : Shape := ⟨3, ![1, 1, 2048]⟩
abbrev S1x2048x512 : Shape := ⟨3, ![1, 2048, 512]⟩
abbrev S1x512x512 : Shape := ⟨3, ![1, 512, 512]⟩
abbrev S1x2048 : Shape := ⟨2, ![1, 2048]⟩
abbrev S2048x512 : Shape := ⟨2, ![2048, 512]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S4x2048x2048, .f32⟩
  | .hbm, ⟨4, _⟩ => ⟨S4x2048x2048, .f32⟩
  | .hbm, ⟨5, _⟩ => ⟨S4x1x2048, .f32⟩
  | .hbm, ⟨6, _⟩ => ⟨S4x2047x2048, .f32⟩
  | .hbm, ⟨7, _⟩ => ⟨S4x2048x2048, .f32⟩
  | .hbm, ⟨8, _⟩ => ⟨S8192x2048, .f32⟩
  | .hbm, ⟨9, _⟩ => ⟨S4x1x2048, .f32⟩
  | .hbm, ⟨10, _⟩ => ⟨S4x2048x2048, .bf16⟩
  | .hbm, ⟨11, _⟩ => ⟨S4x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x512, .bf16⟩
  | .local _ .vmem, ⟨7, _⟩ => ⟨S1x2048x512, .bf16⟩
  | .local _ .vmem, ⟨8, _⟩ => ⟨S1x512x512, .f32⟩
  | .local _ .vmem, ⟨9, _⟩ => ⟨S1x512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceMixIdeal.lean ====
abbrev S8192x2048 : Shape := ⟨2, ![8192, 2048]⟩
abbrev S4x2048 : Shape := ⟨2, ![4, 2048]⟩
abbrev S4x2048x2048 : Shape := ⟨3, ![4, 2048, 2048]⟩
abbrev S4x1x2048 : Shape := ⟨3, ![4, 1, 2048]⟩
abbrev S4x2047x2048 : Shape := ⟨3, ![4, 2047, 2048]⟩
abbrev S1x2048 : Shape := ⟨2, ![1, 2048]⟩
abbrev S2048 : Shape := ⟨1, ![2048]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x8192x2048 : Shape := ⟨3, ![1, 8192, 2048]⟩
abbrev S4x8192x2048 : Shape := ⟨3, ![4, 8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S4x2048x2048, .f32⟩
  | .hbm, ⟨4, _⟩ => ⟨S4x2048x2048, .f32⟩
  | .hbm, ⟨5, _⟩ => ⟨S4x1x2048, .f32⟩
  | .hbm, ⟨6, _⟩ => ⟨S4x2047x2048, .f32⟩
  | .hbm, ⟨7, _⟩ => ⟨S4x2048x2048, .f32⟩
  | .hbm, ⟨8, _⟩ => ⟨S4x2048x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S1x2048x2048, .f32⟩
  | .hbm, ⟨34, _⟩ => ⟨S2048x2048, .f32⟩
  | .hbm, ⟨35, _⟩ => ⟨S4x2048x2048, .f32⟩
  | .hbm, ⟨36, _⟩ => ⟨S8192x2048, .f32⟩
  | .hbm, ⟨37, _⟩ => ⟨S1x2048x2048, .f32⟩
  | .hbm, ⟨38, _⟩ => ⟨S2048x2048, .f32⟩
  | .hbm, ⟨39, _⟩ => ⟨S4x2048x2048, .f32⟩
  | .hbm, ⟨40, _⟩ => ⟨S8192x2048, .f32⟩
  | .hbm, ⟨41, _⟩ => ⟨S1x2048x2048, .f32⟩
  | .hbm, ⟨42, _⟩ => ⟨S2048x2048, .f32⟩
  | .hbm, ⟨43, _⟩ => ⟨S4x2048x2048, .f32⟩
  | .hbm, ⟨44, _⟩ => ⟨S8192x2048, .f32⟩
  | .hbm, ⟨45, _⟩ => ⟨S1x2048x2048, .f32⟩
  | .hbm, ⟨46, _⟩ => ⟨S2048x2048, .f32⟩
  | .hbm, ⟨47, _⟩ => ⟨S4x2048x2048, .f32⟩
  | .hbm, ⟨48, _⟩ => ⟨S8192x2048, .f32⟩
  | .hbm, ⟨49, _⟩ => ⟨S1x8192x2048, .f32⟩
  | .hbm, ⟨50, _⟩ => ⟨S1x8192x2048, .f32⟩
  | .hbm, ⟨51, _⟩ => ⟨S1x8192x2048, .f32⟩
  | .hbm, ⟨52, _⟩ => ⟨S1x8192x2048, .f32⟩
  | .hbm, ⟨53, _⟩ => ⟨S4x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== KernelDecay.lean ====
abbrev S8192x2048 : Shape := ⟨2, ![8192, 2048]⟩
abbrev S2048x6160 : Shape := ⟨2, ![2048, 6160]⟩
abbrev S16x1024 : Shape := ⟨2, ![16, 1024]⟩
abbrev S1024 : Shape := ⟨1, ![1024]⟩
abbrev S2048x16 : Shape := ⟨2, ![2048, 16]⟩
abbrev S_ : Shape := ⟨0, ![]⟩
abbrev S2048x128 : Shape := ⟨2, ![2048, 128]⟩
abbrev S128x1024 : Shape := ⟨2, ![128, 1024]⟩
abbrev S1x1024 : Shape := ⟨2, ![1, 1024]⟩
abbrev S8192x1024 : Shape := ⟨2, ![8192, 1024]⟩
abbrev S512x2048 : Shape := ⟨2, ![512, 2048]⟩
abbrev S512x1024 : Shape := ⟨2, ![512, 1024]⟩
abbrev S512x128 : Shape := ⟨2, ![512, 128]⟩

abbrev nBuf : Space → Nat
  | .hbm => 15
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S16x1024, .f32⟩
  | .hbm, ⟨3, _⟩ => ⟨S1024, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S128x1024, .bf16⟩
  | .hbm, ⟨13, _⟩ => ⟨S1x1024, .f32⟩
  | .hbm, ⟨14, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S128x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceDecayIdeal.lean ====
abbrev S8192x2048 : Shape := ⟨2, ![8192, 2048]⟩
abbrev S2048x6160 : Shape := ⟨2, ![2048, 6160]⟩
abbrev S16x1024 : Shape := ⟨2, ![16, 1024]⟩
abbrev S1024 : Shape := ⟨1, ![1024]⟩
abbrev S8192x6160 : Shape := ⟨2, ![8192, 6160]⟩
abbrev S8192x16 : Shape := ⟨2, ![8192, 16]⟩
abbrev S8192x1024 : Shape := ⟨2, ![8192, 1024]⟩
abbrev S1x1024 : Shape := ⟨2, ![1, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S16x1024, .f32⟩
  | .hbm, ⟨3, _⟩ => ⟨S1024, .f32⟩
  | .hbm, ⟨4, _⟩ => ⟨S8192x6160, .f32⟩
  | .hbm, ⟨5, _⟩ => ⟨S8192x16, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .i1⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== KernelLora.lean ====
abbrev S8192x2048 : Shape := ⟨2, ![8192, 2048]⟩
abbrev S4x2048 : Shape := ⟨2, ![4, 2048]⟩
abbrev S2x2048 : Shape := ⟨2, ![2, 2048]⟩
abbrev S2048x96 : Shape := ⟨2, ![2048, 96]⟩
abbrev S96x2048 : Shape := ⟨2, ![96, 2048]⟩
abbrev S2048 : Shape := ⟨1, ![2048]⟩
abbrev S4x2048x2048 : Shape := ⟨3, ![4, 2048, 2048]⟩
abbrev S4x1x2048 : Shape := ⟨3, ![4, 1, 2048]⟩
abbrev S4x2047x2048 : Shape := ⟨3, ![4, 2047, 2048]⟩
abbrev S2x1x2048 : Shape := ⟨3, ![2, 1, 2048]⟩
abbrev S_ : Shape := ⟨0, ![]⟩
abbrev S2048x128 : Shape := ⟨2, ![2048, 128]⟩
abbrev S128x2048 : Shape := ⟨2, ![128, 2048]⟩
abbrev S1x2048 : Shape := ⟨2, ![1, 2048]⟩
abbrev S512x2048 : Shape := ⟨2, ![512, 2048]⟩
abbrev S1x1x2048 : Shape := ⟨3, ![1, 1, 2048]⟩
abbrev S512x128 : Shape := ⟨2, ![512, 128]⟩

abbrev nBuf : Space → Nat
  | .hbm => 35
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x96, .f32⟩
  | .hbm, ⟨7, _⟩ => ⟨S96x2048, .f32⟩
  | .hbm, ⟨8, _⟩ => ⟨S2048, .f32⟩
  | .hbm, ⟨9, _⟩ => ⟨S4x2048x2048, .f32⟩
  | .hbm, ⟨10, _⟩ => ⟨S4x1x2048, .f32⟩
  | .hbm, ⟨11, _⟩ => ⟨S4x2047x2048, .f32⟩
  | .hbm, ⟨12, _⟩ => ⟨S4x2048x2048, .f32⟩
  | .hbm, ⟨13, _⟩ => ⟨S8192x2048, .f32⟩
  | .hbm, ⟨14, _⟩ => ⟨S2x1x2048, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S_, .i32⟩
  | .hbm, ⟨20, _⟩ => ⟨S_, .f32⟩
  | .hbm, ⟨21, _⟩ => ⟨S128x2048, .f32⟩
  | .hbm, ⟨22, _⟩ => ⟨S128x2048, .bf16⟩
  | .hbm, ⟨23, _⟩ => ⟨S_, .i32⟩
  | .hbm, ⟨24, _⟩ => ⟨S_, .f32⟩
  | .hbm, ⟨25, _⟩ => ⟨S2048x128, .f32⟩
  | .hbm, ⟨26, _⟩ => ⟨S2048x128, .bf16⟩
  | .hbm, ⟨27, _⟩ => ⟨S_, .i32⟩
  | .hbm, ⟨28, _⟩ => ⟨S_, .f32⟩
  | .hbm, ⟨29, _⟩ => ⟨S128x2048, .f32⟩
  | .hbm, ⟨30, _⟩ => ⟨S128x2048, .bf16⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x1x2048, .f32⟩
  | .local _ .vmem, ⟨5, _⟩ => ⟨S2048x128, .bf16⟩
  | .local _ .vmem, ⟨6, _⟩ => ⟨S128x2048, .bf16⟩
  | .local _ .vmem, ⟨7, _⟩ => ⟨S1x2048, .f32⟩
  | .local _ .vmem, ⟨8, _⟩ => ⟨S2048x128, .bf16⟩
  | .local _ .vmem, ⟨9, _⟩ => ⟨S128x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_call2_v0 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_call3_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceLoraIdeal.lean ====
abbrev S8192x2048 : Shape := ⟨2, ![8192, 2048]⟩
abbrev S4x2048 : Shape := ⟨2, ![4, 2048]⟩
abbrev S2x2048 : Shape := ⟨2, ![2, 2048]⟩
abbrev S2048x96 : Shape := ⟨2, ![2048, 96]⟩
abbrev S96x2048 : Shape := ⟨2, ![96, 2048]⟩
abbrev S2048 : Shape := ⟨1, ![2048]⟩
abbrev S4x2048x2048 : Shape := ⟨3, ![4, 2048, 2048]⟩
abbrev S4x1x2048 : Shape := ⟨3, ![4, 1, 2048]⟩
abbrev S4x2047x2048 : Shape := ⟨3, ![4, 2047, 2048]⟩
abbrev S1x2048 : Shape := ⟨2, ![1, 2048]⟩
abbrev S1x1x2048 : Shape := ⟨3, ![1, 1, 2048]⟩
abbrev S4x2048x96 : Shape := ⟨3, ![4, 2048, 96]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x96, .f32⟩
  | .hbm, ⟨7, _⟩ => ⟨S96x2048, .f32⟩
  | .hbm, ⟨8, _⟩ => ⟨S2048, .f32⟩
  | .hbm, ⟨9, _⟩ => ⟨S4x2048x2048, .f32⟩
  | .hbm, ⟨10, _⟩ => ⟨S4x1x2048, .f32⟩
  | .hbm, ⟨11, _⟩ => ⟨S4x2047x2048, .f32⟩
  | .hbm, ⟨12, _⟩ => ⟨S4x2048x2048, .f32⟩
  | .hbm, ⟨13, _⟩ => ⟨S4x2048x2048, .f32⟩
  | .hbm, ⟨14, _⟩ => ⟨S1x2048, .f32⟩
  | .hbm, ⟨15, _⟩ => ⟨S2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S4x2048x96, .f32⟩
  | .hbm, ⟨27, _⟩ => ⟨S4x2048x96, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .i1⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S4x2048x96, .f32⟩
  | .hbm, ⟨55, _⟩ => ⟨S4x2048x2048, .f32⟩
  | .hbm, ⟨56, _⟩ => ⟨S1x1x2048, .f32⟩
  | .hbm, ⟨57, _⟩ => ⟨S4x2048x2048, .f32⟩
  | .hbm, ⟨58, _⟩ => ⟨S4x2048x2048, .f32⟩
  | .hbm, ⟨59, _⟩ => ⟨S4x2048x2048, .f32⟩
  | .hbm, ⟨60, _⟩ => ⟨S4x2048x2048, .f32⟩
  | .hbm, ⟨61, _⟩ => ⟨S_, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048x2048, .f32⟩
  | .hbm, ⟨66, _⟩ => ⟨S4x2048x2048, .f32⟩
  | .hbm, ⟨67, _⟩ => ⟨S8192x2048, .f32⟩
  | .hbm, ⟨68, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_0 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== KernelSample.lean ====
abbrev S256x2560 : Shape := ⟨2, ![256, 2560]⟩
abbrev S256x2048 : Shape := ⟨2, ![256, 2048]⟩
abbrev S32 : Shape := ⟨1, ![32]⟩
abbrev S32x128x256 : Shape := ⟨3, ![32, 128, 256]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x128 : Shape := ⟨3, ![1, 8, 128]⟩
abbrev S3x8x128 : Shape := ⟨3, ![3, 8, 128]⟩
abbrev S8x2048 : Shape := ⟨2, ![8, 2048]⟩
abbrev S8x256 : Shape := ⟨2, ![8, 256]⟩
abbrev S1x128x256 : Shape := ⟨3, ![1, 128, 256]⟩
abbrev S128x256 : Shape := ⟨2, ![128, 256]⟩
abbrev S120x256 : Shape := ⟨2, ![120, 256]⟩
abbrev S256x256 : Shape := ⟨2, ![256, 256]⟩
abbrev S256x64 : Shape := ⟨2, ![256, 64]⟩
abbrev S1 : Shape := ⟨1, ![1]⟩

abbrev nBuf : Space → Nat
  | .hbm => 53
  | .vmem => 20
  | .smem => 1
  | _ => 0

abbrev bufTy : (tb : Table) → Fin (tcTables nBuf tb) → BufTy
  | .hbm, ⟨0, _⟩ => ⟨S256x2560, .f32⟩
  | .hbm, ⟨1, _⟩ => ⟨S256x2048, .f32⟩
  | .hbm, ⟨2, _⟩ => ⟨S32, .f32⟩
  | .hbm, ⟨3, _⟩ => ⟨S32x128x256, .f32⟩
  | .hbm, ⟨4, _⟩ => ⟨S32x128x256, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S1x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S_, .f32⟩
  | .hbm, ⟨28, _⟩ => ⟨S8x48, .f32⟩
  | .hbm, ⟨29, _⟩ => ⟨S_, .f32⟩
  | .hbm, ⟨30, _⟩ => ⟨S8x48, .f32⟩
  | .hbm, ⟨31, _⟩ => ⟨S_, .f32⟩
  | .hbm, ⟨32, _⟩ => ⟨S8x8, .f32⟩
  | .hbm, ⟨33, _⟩ => ⟨S8x64, .f32⟩
  | .hbm, ⟨34, _⟩ => ⟨S8x8, .f32⟩
  | .hbm, ⟨35, _⟩ => ⟨S8x64, .f32⟩
  | .hbm, ⟨36, _⟩ => ⟨S8x64, .f32⟩
  | .hbm, ⟨37, _⟩ => ⟨S1x8x1x64, .f32⟩
  | .hbm, ⟨38, _⟩ => ⟨S1x8x2x64, .f32⟩
  | .hbm, ⟨39, _⟩ => ⟨S8x128, .f32⟩
  | .hbm, ⟨40, _⟩ => ⟨S1x8x1x64, .f32⟩
  | .hbm, ⟨41, _⟩ => ⟨S1x8x2x64, .f32⟩
  | .hbm, ⟨42, _⟩ => ⟨S8x128, .f32⟩
  | .hbm, ⟨43, _⟩ => ⟨S1x8x1x64, .f32⟩
  | .hbm, ⟨44, _⟩ => ⟨S1x8x2x64, .f32⟩
  | .hbm, ⟨45, _⟩ => ⟨S8x128, .f32⟩
  | .hbm, ⟨46, _⟩ => ⟨S1x8x128, .f32⟩
  | .hbm, ⟨47, _⟩ => ⟨S1x8x128, .f32⟩
  | .hbm, ⟨48, _⟩ => ⟨S1x8x128, .f32⟩
  | .hbm, ⟨49, _⟩ => ⟨S3x8x128, .f32⟩
  | .hbm, ⟨50, _⟩ => ⟨S256x2048, .bf16⟩
  | .hbm, ⟨51, _⟩ => ⟨S32x128x256, .f32⟩
  | .hbm, ⟨52, _⟩ => ⟨S32x128x256, .f32⟩
  | .local _ .vmem, ⟨0, _⟩ => ⟨S8x2048, .f32⟩
  | .local _ .vmem, ⟨1, _⟩ => ⟨S8x2048, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S8x2048, .f32⟩
  | .local _ .vmem, ⟨11, _⟩ => ⟨S8x2048, .f32⟩
  | .local _ .vmem, ⟨12, _⟩ => ⟨S3x8x128, .f32⟩
  | .local _ .vmem, ⟨13, _⟩ => ⟨S3x8x128, .f32⟩
  | .local _ .vmem, ⟨14, _⟩ => ⟨S8x2048, .bf16⟩
  | .local _ .vmem, ⟨15, _⟩ => ⟨S8x2048, .bf16⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .smem, ⟨0, _⟩ => ⟨S32, .f32⟩
  | _, _ => ⟨S256x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelSampleIdeal.lean ====
variable {F : FTy → Type} [FloatOps F] [Named F]
def κ : String → Option EReal := fun
  | "mask" => some ⊥
  | _ => none
-- ==== ReferenceSampleIdeal.lean ====
abbrev S256x2560 : Shape := ⟨2, ![256, 2560]⟩
abbrev S256x2048 : Shape := ⟨2, ![256, 2048]⟩
abbrev S32 : Shape := ⟨1, ![32]⟩
abbrev S32x128x256 : Shape := ⟨3, ![32, 128, 256]⟩
abbrev S8 : Shape := ⟨1, ![8]⟩
abbrev S_ : Shape := ⟨0, ![]⟩
abbrev S32x8x2560 : Shape := ⟨3, ![32, 8, 2560]⟩
abbrev S32x8x2048 : Shape := ⟨3, ![32, 8, 2048]⟩
abbrev S32x8x256 : Shape := ⟨3, ![32, 8, 256]⟩
abbrev S32x8x32x64 : Shape := ⟨4, ![32, 8, 32, 64]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S32x8x32x8 : Shape := ⟨4, ![32, 8, 32, 8]⟩
abbrev S32x8x32x48 : Shape := ⟨4, ![32, 8, 32, 48]⟩
abbrev S32x8x4x64 : Shape := ⟨4, ![32, 8, 4, 64]⟩
abbrev S32x8x4x8 : Shape := ⟨4, ![32, 8, 4, 8]⟩
abbrev S32x8x4x48 : Shape := ⟨4, ![32, 8, 4, 48]⟩
abbrev S32x128x4x64 : Shape := ⟨4, ![32, 128, 4, 64]⟩
abbrev S32x136x4x64 : Shape := ⟨4, ![32, 136, 4, 64]⟩
abbrev S32x8x4x8x64 : Shape := ⟨5, ![32, 8, 4, 8, 64]⟩
abbrev S32x4x136x8x8 : Shape := ⟨5, ![32, 4, 136, 8, 8]⟩
abbrev S32x4x8x8x136 : Shape := ⟨5, ![32, 4, 8, 8, 136]⟩
abbrev S136 : Shape := ⟨1, ![136]⟩
abbrev S1x136 : Shape := ⟨2, ![1, 136]⟩
abbrev S8x136 : Shape := ⟨2, ![8, 136]⟩
abbrev S4x8 : Shape := ⟨2, ![4, 8]⟩
abbrev S1x4x8x1x1 : Shape := ⟨5, ![1, 4, 8, 1, 1]⟩
abbrev S32x4x8x8 : Shape := ⟨4, ![32, 4, 8, 8]⟩
abbrev S32x4x8x8x1 : Shape := ⟨5, ![32, 4, 8, 8, 1]⟩
abbrev S32x4x64x8x8 : Shape := ⟨5, ![32, 4, 64, 8, 8]⟩

abbrev nBuf : Space → Nat
  | .hbm => 153
  | .vmem => 0
  | .smem => 0
  | _ => 0

abbrev hbmTy0_0 (i : Nat) : BufTy := match i % 128 with
  | 0 => ⟨S256x2560, .f32⟩
  | 1 => ⟨S256x2048, .f32⟩
  | 2 => ⟨S32, .f32⟩
  | 3 => ⟨S32x128x256, .f32⟩
  | 4 => ⟨S32x128x256, .f32⟩
  | 5 => ⟨S8, .f32⟩
  | 6 => ⟨S_, .f32⟩
  | 7 => ⟨S8, .f32⟩
  | 8 => ⟨S8, .f32⟩
  | 9 => ⟨S32x8x2560, .f32⟩
  | 10 => ⟨S32x8x2048, .f32⟩
  | 11 => ⟨S32x8x256, .f32⟩
  | 12 => ⟨S32x8x256, .f32⟩
  | 13 => ⟨S32x8x32x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S8x1, .f32⟩
  | 26 => ⟨S1x8, .f32⟩
  | 27 => ⟨S8x8, .f32⟩
  | 28 => ⟨S8x8, .f32⟩
  | 29 => ⟨S8x8, .f32⟩
  | 30 => ⟨S8x8, .f32⟩
  | 31 => ⟨S1x8x1x8, .f32⟩
  | 32 => ⟨S8x8, .f32⟩
  | 33 => ⟨S1x8x1x8, .f32⟩
  | 34 => ⟨S32x8x32x8, .f32⟩
  | 35 => ⟨S32x8x32x8, .f32⟩
  | 36 => ⟨S32x8x32x48, .f32⟩
  | 37 => ⟨S32x8x32x8, .f32⟩
  | 38 => ⟨S32x8x32x8, .f32⟩
  | 39 => ⟨S32x8x32x8, .f32⟩
  | 40 => ⟨S32x8x32x8, .f32⟩
  | 41 => ⟨S32x8x32x8, .f32⟩
  | 42 => ⟨S32x8x32x8, .f32⟩
  | 43 => ⟨S32x8x32x8, .f32⟩
  | 44 => ⟨S32x8x32x8, .f32⟩
  | 45 => ⟨S32x8x32x8, .f32⟩
  | 46 => ⟨S32x8x32x8, .f32⟩
  | 47 => ⟨S32x8x32x64, .f32⟩
  | 48 => ⟨S32x8x4x64, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S_, .f32⟩
  | 58 => ⟨S8, .f32⟩
  | 59 => ⟨S8, .f32⟩
  | 60 => ⟨S8x1, .f32⟩
  | 61 => ⟨S1x8, .f32⟩
  | 62 => ⟨S8x8, .f32⟩
  | 63 => ⟨S8x8, .f32⟩
  | 64 => ⟨S8x8, .f32⟩
  | 65 => ⟨S8x8, .f32⟩
  | 66 => ⟨S1x8x1x8, .f32⟩
  | 67 => ⟨S8x8, .f32⟩
  | 68 => ⟨S1x8x1x8, .f32⟩
  | 69 => ⟨S32x8x4x8, .f32⟩
  | 70 => ⟨S32x8x4x8, .f32⟩
  | 71 => ⟨S32x8x4x48, .f32⟩
  | 72 => ⟨S32x8x4x8, .f32⟩
  | 73 => ⟨S32x8x4x8, .f32⟩
  | 74 => ⟨S32x8x4x8, .f32⟩
  | 75 => ⟨S32x8x4x8, .f32⟩
  | 76 => ⟨S32x8x4x8, .f32⟩
  | 77 => ⟨S32x8x4x8, .f32⟩
  | 78 => ⟨S32x8x4x8, .f32⟩
  | 79 => ⟨S32x8x4x8, .f32⟩
  | 80 => ⟨S32x8x4x8, .f32⟩
  | 81 => ⟨S32x8x4x8, .f32⟩
  | 82 => ⟨S32x8x4x64, .f32⟩
  | 83 => ⟨S32x8x4x64, .f32⟩
  | 84 => ⟨S32x128x4x64, .f32⟩
  | 85 => ⟨S32x136x4x64, .f32⟩
  | 86 => ⟨S32x128x4x64, .f32⟩
  | 87 => ⟨S32x136x4x64, .f32⟩
  | 88 => ⟨S32x8x4x8x64, .f32⟩
  | 89 => ⟨S32x4x136x8x8, .f32⟩
  | 90 => ⟨S32x4x8x8x136, .f32⟩
  | 91 => ⟨S_, .f32⟩
  | 92 => ⟨S32x4x8x8x136, .f32⟩
  | 93 => ⟨S32x4x8x8x136, .f32⟩
  | 94 => ⟨S8, .i32⟩
  | 95 => ⟨S8x1, .i32⟩
  | 96 => ⟨S_, .i32⟩
  | 97 => ⟨S8x1, .i32⟩
  | 98 => ⟨S8x1, .i32⟩
  | 99 => ⟨S136, .i32⟩
  | 100 => ⟨S1x136, .i32⟩
  | 101 => ⟨S8x136, .i32⟩
  | 102 => ⟨S8x136, .i32⟩
  | 103 => ⟨S8x136, .i32⟩
  | 104 => ⟨S_, .i32⟩
  | 105 => ⟨S8x136, .i32⟩
  | 106 => ⟨S8x136, .i1⟩
  | 107 => ⟨S_, .i32⟩
  | 108 => ⟨S8x136, .i32⟩
  | 109 => ⟨S8x136, .i1⟩
  | 110 => ⟨S8x136, .i1⟩
  | 111 => ⟨S4x8, .f32⟩
  | 112 => ⟨S1x4x8x1x1, .f32⟩
  | 113 => ⟨S_, .f32⟩
  | 114 => ⟨S_, .f32⟩
  | 115 => ⟨S32x4x8x8x136, .i1⟩
  | 116 => ⟨S32x4x8x8x136, .f32⟩
  | 117 => ⟨S32x4x8x8x136, .f32⟩
  | 118 => ⟨S_, .f32⟩
  | 119 => ⟨S32x4x8x8, .f32⟩
  | 120 => ⟨S32x4x8x8x1, .f32⟩
  | 121 => ⟨S32x4x8x8x1, .f32⟩
  | 122 => ⟨S32x4x8x8x1, .f32⟩
  | 123 => ⟨S32x4x8x8x136, .f32⟩
  | 124 => ⟨S32x4x8x8x136, .f32⟩
  | 125 => ⟨S32x4x8x8x136, .f32⟩
  | 126 => ⟨S_, .f32⟩
  | 127 => ⟨S32x4x8x8, .f32⟩
  | _ => ⟨S256x2560, .f32⟩

abbrev hbmTy0_1 (i : Nat) : BufTy := match i % 128 with
  | 0 => ⟨S32x4x8x8x1, .f32⟩
  | 1 => ⟨S32x4x8x8x1, .f32⟩
  | 2 => ⟨S32x4x8x8x1, .f32⟩
  | 3 => ⟨S32x4x8x8x1, .f32⟩
  | 4 => ⟨S32x4x8x8x1, .f32⟩
  | 5 => ⟨S32x4x8x8x136, .f32⟩
  | 6 => ⟨S32x4x8x8x136, .f32⟩
  | 7 => ⟨S32x4x64x8x8, .f32⟩
  | 8 => ⟨S32x8x4x8x64, .f32⟩
  | 9 => ⟨S256x2048, .f32⟩
  | 10 => ⟨S256x2048, .f32⟩
  | 11 => ⟨S256x2048, .f32⟩
  | 12 => ⟨S_, .f32⟩
  | 13 => ⟨S256x2048, .f32⟩
  | 14 => ⟨S256x2048, .f32⟩
  | 15 => ⟨S_, .f32⟩
  | 16 => ⟨S256x2048, .f32⟩
  | 17 => ⟨S256x2048, .f32⟩
  | 18 => ⟨S256x2048, .f32⟩
  | 19 => ⟨S256x2048, .f32⟩
  | 20 => ⟨S256x2048, .bf16⟩
  | 21 => ⟨S32x128x4x64, .f32⟩
  | 22 => ⟨S32x128x256, .f32⟩
  | 23 => ⟨S32x128x4x64, .f32⟩
  | 24 => ⟨S32x128x256, .f32⟩
  | _ => ⟨S256x2560, .f32⟩

abbrev hbmTy (i : Nat) : BufTy := match i / 128 with
  | 0 => hbmTy0_0 i
  | 1 => hbmTy0_1 i
  | _ => ⟨S256x2560, .f32⟩

abbrev bufTy : (tb : Table) → Fin (tcTables nBuf tb) → BufTy
  | .hbm, ⟨i, _⟩ => hbmTy i
  | _, _ => ⟨S256x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_6 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_c : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_c_7 : Ref sig .tc := ⟨.hbm, 104, rfl⟩
abbrev main_v90 : Ref sig .tc := ⟨.hbm, 105, rfl⟩
abbrev main_v91 : Ref sig .tc := ⟨.hbm, 106, rfl⟩
abbrev main_c_8 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_9 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v97 : Ref sig .tc := ⟨.hbm, 117, rfl⟩
abbrev main_cst_10 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_11 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_call1_v0 : Ref sig .tc := ⟨.hbm, 138, rfl⟩
abbrev main_call1_v1 : Ref sig .tc := ⟨.hbm, 139, rfl⟩
abbrev main_call1_cst : Ref sig .tc := ⟨.hbm, 140, rfl⟩
abbrev main_call1_v2 : Ref sig .tc := ⟨.hbm, 141, rfl⟩
abbrev main_call1_v3 : Ref sig .tc := ⟨.hbm, 142, rfl⟩
abbrev main_call1_cst_0 : Ref sig .tc := ⟨.hbm, 143, rfl⟩
abbrev main_call1_v4 : Ref sig .tc := ⟨.hbm, 144, rfl⟩
abbrev main_call1_v5 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== KernelOutSample.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S256x2048, .f32⟩
  | .local _ .vmem, ⟨0, _⟩ => ⟨S256x2048, .bf16⟩
  | .local _ .vmem, ⟨1, _⟩ => ⟨S2048x2048, .bf16⟩
  | .local _ .vmem, ⟨2, _⟩ => ⟨S256x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ReferenceOutSampleIdeal.lean ====
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .f32⟩
  | .hbm, ⟨2, _⟩ => ⟨S256x2048, .f32⟩
  | .hbm, ⟨3, _⟩ => ⟨S2048, .f32⟩
  | .hbm, ⟨4, _⟩ => ⟨S2048, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S1x2048, .f32⟩
  | .hbm, ⟨35, _⟩ => ⟨S256x2048, .f32⟩
  | .hbm, ⟨36, _⟩ => ⟨S256x2048, .f32⟩
  | .hbm, ⟨37, _⟩ => ⟨S1x2048, .f32⟩
  | .hbm, ⟨38, _⟩ => ⟨S256x2048, .f32⟩
  | .hbm, ⟨39, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelChunk.lean ====
abbrev S256x6144 : Shape := ⟨2, ![256, 6144]⟩
abbrev S256x1024 : Shape := ⟨2, ![256, 1024]⟩
abbrev S512 : Shape := ⟨1, ![512]⟩
abbrev S32x4x256x512 : Shape := ⟨4, ![32, 4, 256, 512]⟩
abbrev S1x512 : Shape := ⟨2, ![1, 512]⟩
abbrev S256x2048 : Shape := ⟨2, ![256, 2048]⟩
abbrev S8x256 : Shape := ⟨2, ![8, 256]⟩
abbrev S8x512 : Shape := ⟨2, ![8, 512]⟩
abbrev S1x1x256x512 : Shape := ⟨4, ![1, 1, 256, 512]⟩
abbrev S512x256 : Shape := ⟨2, ![512, 256]⟩
abbrev S256x512 : Shape := ⟨2, ![256, 512]⟩
abbrev S8x8 : Shape := ⟨2, ![8, 8]⟩
abbrev S1x256 : Shape := ⟨2, ![1, 256]⟩
abbrev S8 : Shape := ⟨1, ![8]⟩
abbrev S8x1 : Shape := ⟨2, ![8, 1]⟩

abbrev nBuf : Space → Nat
  | .hbm => 7
  | .vmem => 18
  | .smem => 0
  | _ => 0

abbrev bufTy : (tb : Table) → Fin (tcTables nBuf tb) → BufTy
  | .hbm, ⟨0, _⟩ => ⟨S256x6144, .f32⟩
  | .hbm, ⟨1, _⟩ => ⟨S256x1024, .f32⟩
  | .hbm, ⟨2, _⟩ => ⟨S512, .f32⟩
  | .hbm, ⟨3, _⟩ => ⟨S32x4x256x512, .f32⟩
  | .hbm, ⟨4, _⟩ => ⟨S1x512, .f32⟩
  | .hbm, ⟨5, _⟩ => ⟨S256x2048, .bf16⟩
  | .hbm, ⟨6, _⟩ => ⟨S32x4x256x512, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x256, .f32⟩
  | .local _ .vmem, ⟨9, _⟩ => ⟨S8x256, .f32⟩
  | .local _ .vmem, ⟨10, _⟩ => ⟨S1x512, .f32⟩
  | .local _ .vmem, ⟨11, _⟩ => ⟨S1x1x256x512, .f32⟩
  | .local _ .vmem, ⟨12, _⟩ => ⟨S1x1x256x512, .f32⟩
  | .local _ .vmem, ⟨13, _⟩ => ⟨S8x512, .bf16⟩
  | .local _ .vmem, ⟨14, _⟩ => ⟨S8x512, .bf16⟩
  | .local _ .vmem, ⟨15, _⟩ => ⟨S1x1x256x512, .f32⟩
  | .local _ .vmem, ⟨16, _⟩ => ⟨S1x1x256x512, .f32⟩
  | .local _ .vmem, ⟨17, _⟩ => ⟨S512x256, .f32⟩
  | _, _ => ⟨S256x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_19 : BitVec 32 := 0#32
  let v59 : BitVec 1 := Scalar.cmpi .eq arg2 c0_i32_19
  let v60 : BitVec 32 := Scalar.extui v59
  let c0_i32_20 : BitVec 32 := 0#32
  let v61 : BitVec 1 := Scalar.cmpi .ne v60 c0_i32_20
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceChunkIdeal.lean ====
abbrev S256x6144 : Shape := ⟨2, ![256, 6144]⟩
abbrev S256x1024 : Shape := ⟨2, ![256, 1024]⟩
abbrev S512 : Shape := ⟨1, ![512]⟩
abbrev S32x4x256x512 : Shape := ⟨4, ![32, 4, 256, 512]⟩
abbrev S32x8x6144 : Shape := ⟨3, ![32, 8, 6144]⟩
abbrev S32x8x1024 : Shape := ⟨3, ![32, 8, 1024]⟩
abbrev S32x8x2048 : Shape := ⟨3, ![32, 8, 2048]⟩
abbrev S32x8x4x256 : Shape := ⟨4, ![32, 8, 4, 256]⟩
abbrev S_ : Shape := ⟨0, ![]⟩
abbrev S32x8x4x512 : Shape := ⟨4, ![32, 8, 4, 512]⟩
abbrev S32x1x4x256 : Shape := ⟨4, ![32, 1, 4, 256]⟩
abbrev S32x4x256 : Shape := ⟨3, ![32, 4, 256]⟩
abbrev S8x8 : Shape := ⟨2, ![8, 8]⟩
abbrev S1x8x8x1x1 : Shape := ⟨5, ![1, 8, 8, 1, 1]⟩
abbrev S32x8x1x4x256 : Shape := ⟨5, ![32, 8, 1, 4, 256]⟩
abbrev S32x1x8x4x256 : Shape := ⟨5, ![32, 1, 8, 4, 256]⟩
abbrev S32x8x8x4x256 : Shape := ⟨5, ![32, 8, 8, 4, 256]⟩
abbrev S32x4x8x8 : Shape := ⟨4, ![32, 4, 8, 8]⟩
abbrev S32x4x512x8 : Shape := ⟨4, ![32, 4, 512, 8]⟩
abbrev S32x4x256x1 : Shape := ⟨4, ![32, 4, 256, 1]⟩
abbrev S32x8x4 : Shape := ⟨3, ![32, 8, 4]⟩
abbrev S32x8x4x1 : Shape := ⟨4, ![32, 8, 4, 1]⟩
abbrev S1x1x1x512 : Shape := ⟨4, ![1, 1, 1, 512]⟩
abbrev S256x2048 : Shape := ⟨2, ![256, 2048]⟩

abbrev nBuf : Space → Nat
  | .hbm => 95
  | .vmem => 0
  | .smem => 0
  | _ => 0

abbrev bufTy : (tb : Table) → Fin (tcTables nBuf tb) → BufTy
  | .hbm, ⟨0, _⟩ => ⟨S256x6144, .f32⟩
  | .hbm, ⟨1, _⟩ => ⟨S256x1024, .f32⟩
  | .hbm, ⟨2, _⟩ => ⟨S512, .f32⟩
  | .hbm, ⟨3, _⟩ => ⟨S32x4x256x512, .f32⟩
  | .hbm, ⟨4, _⟩ => ⟨S32x8x6144, .f32⟩
  | .hbm, ⟨5, _⟩ => ⟨S32x8x1024, .f32⟩
  | .hbm, ⟨6, _⟩ => ⟨S32x8x1024, .f32⟩
  | .hbm, ⟨7, _⟩ => ⟨S32x8x2048, .f32⟩
  | .hbm, ⟨8, _⟩ => ⟨S32x8x2048, .f32⟩
  | .hbm, ⟨9, _⟩ => ⟨S32x8x4x256, .f32⟩
  | .hbm, ⟨10, _⟩ => ⟨S_, .f32⟩
  | .hbm, ⟨11, _⟩ => ⟨S32x8x4x256, .f32⟩
  | .hbm, ⟨12, _⟩ => ⟨S32x8x4x256, .f32⟩
  | .hbm, ⟨13, _⟩ => ⟨S32x8x4x256, .f32⟩
  | .hbm, ⟨14, _⟩ => ⟨S32x8x4x512, .f32⟩
  | .hbm, ⟨15, _⟩ => ⟨S32x8x4x256, .f32⟩
  | .hbm, ⟨16, _⟩ => ⟨S_, .f32⟩
  | .hbm, ⟨17, _⟩ => ⟨S_, .f32⟩
  | .hbm, ⟨18, _⟩ => ⟨S32x8x4x256, .f32⟩
  | .hbm, ⟨19, _⟩ => ⟨S32x1x4x256, .f32⟩
  | .hbm, ⟨20, _⟩ => ⟨S32x4x256, .f32⟩
  | .hbm, ⟨21, _⟩ => ⟨S_, .i1⟩
  | .hbm, ⟨22, _⟩ => ⟨S8x8, .i1⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S_, .i1⟩
  | .hbm, ⟨30, _⟩ => ⟨S8x8, .i1⟩
  | .hbm, ⟨31, _⟩ => ⟨S8x8, .i1⟩
  | .hbm, ⟨32, _⟩ => ⟨S1x8x8x1x1, .i1⟩
  | .hbm, ⟨33, _⟩ => ⟨S32x8x1x4x256, .f32⟩
  | .hbm, ⟨34, _⟩ => ⟨S32x1x8x4x256, .f32⟩
  | .hbm, ⟨35, _⟩ => ⟨S32x8x8x4x256, .f32⟩
  | .hbm, ⟨36, _⟩ => ⟨S32x8x8x4x256, .f32⟩
  | .hbm, ⟨37, _⟩ => ⟨S32x8x8x4x256, .f32⟩
  | .hbm, ⟨38, _⟩ => ⟨S_, .f32⟩
  | .hbm, ⟨39, _⟩ => ⟨S_, .f32⟩
  | .hbm, ⟨40, _⟩ => ⟨S32x8x8x4x256, .i1⟩
  | .hbm, ⟨41, _⟩ => ⟨S32x8x8x4x256, .f32⟩
  | .hbm, ⟨42, _⟩ => ⟨S32x8x8x4x256, .f32⟩
  | .hbm, ⟨43, _⟩ => ⟨S32x8x8x4x256, .f32⟩
  | .hbm, ⟨44, _⟩ => ⟨S32x1x8x4x256, .f32⟩
  | .hbm, ⟨45, _⟩ => ⟨S32x8x8x4x256, .f32⟩
  | .hbm, ⟨46, _⟩ => ⟨S32x8x8x4x256, .f32⟩
  | .hbm, ⟨47, _⟩ => ⟨S32x4x8x8, .f32⟩
  | .hbm, ⟨48, _⟩ => ⟨S32x8x4x256, .f32⟩
  | .hbm, ⟨49, _⟩ => ⟨S32x8x4x256, .f32⟩
  | .hbm, ⟨50, _⟩ => ⟨S32x4x512x8, .f32⟩
  | .hbm, ⟨51, _⟩ => ⟨S32x8x4x512, .f32⟩
  | .hbm, ⟨52, _⟩ => ⟨S32x4x512x8, .f32⟩
  | .hbm, ⟨53, _⟩ => ⟨S32x8x4x512, .f32⟩
  | .hbm, ⟨54, _⟩ => ⟨S32x8x4x512, .f32⟩
  | .hbm, ⟨55, _⟩ => ⟨S32x4x256, .f32⟩
  | .hbm, ⟨56, _⟩ => ⟨S32x4x256x1, .f32⟩
  | .hbm, ⟨57, _⟩ => ⟨S32x4x256x512, .f32⟩
  | .hbm, ⟨58, _⟩ => ⟨S32x4x256x512, .f32⟩
  | .hbm, ⟨59, _⟩ => ⟨S32x1x4x256, .f32⟩
  | .hbm, ⟨60, _⟩ => ⟨S32x8x4x256, .f32⟩
  | .hbm, ⟨61, _⟩ => ⟨S32x8x4x256, .f32⟩
  | .hbm, ⟨62, _⟩ => ⟨S32x8x4x256, .f32⟩
  | .hbm, ⟨63, _⟩ => ⟨S32x8x4x256, .f32⟩
  | .hbm, ⟨64, _⟩ => ⟨S32x4x256x512, .f32⟩
  | .hbm, ⟨65, _⟩ => ⟨S32x4x256x512, .f32⟩
  | .hbm, ⟨66, _⟩ => ⟨S32x8x4x512, .f32⟩
  | .hbm, ⟨67, _⟩ => ⟨S_, .f32⟩
  | .hbm, ⟨68, _⟩ => ⟨S32x8x4, .f32⟩
  | .hbm, ⟨69, _⟩ => ⟨S32x8x4x1, .f32⟩
  | .hbm, ⟨70, _⟩ => ⟨S_, .f32⟩
  | .hbm, ⟨71, _⟩ => ⟨S32x8x4x1, .f32⟩
  | .hbm, ⟨72, _⟩ => ⟨S32x8x4x1, .f32⟩
  | .hbm, ⟨73, _⟩ => ⟨S_, .f32⟩
  | .hbm, ⟨74, _⟩ => ⟨S32x8x4x1, .f32⟩
  | .hbm, ⟨75, _⟩ => ⟨S32x8x4x1, .f32⟩
  | .hbm, ⟨76, _⟩ => ⟨S32x8x4x1, .f32⟩
  | .hbm, ⟨77, _⟩ => ⟨S32x8x4x512, .f32⟩
  | .hbm, ⟨78, _⟩ => ⟨S32x8x4x512, .f32⟩
  | .hbm, ⟨79, _⟩ => ⟨S1x1x1x512, .f32⟩
  | .hbm, ⟨80, _⟩ => ⟨S32x8x4x512, .f32⟩
  | .hbm, ⟨81, _⟩ => ⟨S32x8x4x512, .f32⟩
  | .hbm, ⟨82, _⟩ => ⟨S32x8x2048, .f32⟩
  | .hbm, ⟨83, _⟩ => ⟨S32x8x2048, .f32⟩
  | .hbm, ⟨84, _⟩ => ⟨S32x8x2048, .f32⟩
  | .hbm, ⟨85, _⟩ => ⟨S_, .f32⟩
  | .hbm, ⟨86, _⟩ => ⟨S32x8x2048, .f32⟩
  | .hbm, ⟨87, _⟩ => ⟨S32x8x2048, .f32⟩
  | .hbm, ⟨88, _⟩ => ⟨S_, .f32⟩
  | .hbm, ⟨89, _⟩ => ⟨S32x8x2048, .f32⟩
  | .hbm, ⟨90, _⟩ => ⟨S32x8x2048, .f32⟩
  | .hbm, ⟨91, _⟩ => ⟨S32x8x2048, .f32⟩
  | .hbm, ⟨92, _⟩ => ⟨S32x8x2048, .f32⟩
  | .hbm, ⟨93, _⟩ => ⟨S32x8x2048, .bf16⟩
  | .hbm, ⟨94, _⟩ => ⟨S256x2048, .bf16⟩
  | _, _ => ⟨S256x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_0 : Ref sig .tc := ⟨.hbm, 29, rfl⟩
abbrev main_call1_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_1 : Ref sig .tc := ⟨.hbm, 67, rfl⟩
abbrev main_v47 : Ref sig .tc := ⟨.hbm, 68, rfl⟩
abbrev main_v48 : Ref sig .tc := ⟨.hbm, 69, rfl⟩
abbrev main_cst_2 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Proof.Block.lean ====
/-
  One grid point of the attention kernel, written uniformly. The printed body repeats the same
  computation for sixteen pairs of heads; here one definition says what a pair of heads computes from
  the point's blocks, and the body's sixteen stores are shown to be that definition at the sixteen pairs.
-/
module

public import proofs.«01_k».proof.Proof.Gen.KernelIdeal.Value

@[expose] public section

noncomputable section

namespace Cert.KernelIdeal.Block

open Cert.KernelIdeal Cert.KernelIdeal.Gen Idealize.ShloMosaic Idealize.ShloMosaic.TcCoe Idealize.SL.Sem

variable {F : FTy → Type} [FloatOps F] [Named F]

/-- The rotary embedding of 128 columns (two heads): the columns times the cosine table, plus the columns
    turned by eight one way and the other, each times its sine table. -/
def rope (x : Vec F S128x128 .f32) (c s1 s2 : FVec F S128x128 .f32) : FVec F S128x128 .f32 :=
  addf (addf (mulf x c) (mulf (dynamicRotate 1 120#32 none x rotates_S128x128_d1) s1))
    (mulf (dynamicRotate 1 8#32 none x rotates_S128x128_d1) s2)

/-- One of the three tables of a block of positions, as a matrix. -/
def table (t : Vec F S1x128x128 .f32) : FVec F S128x128 .f32 := shapeCast S128x128 t shapeCasts_S1x128x128_S128x128

/-- The rotated keys of one block of positions: two groups of 128 columns side by side. -/
def ropeKeys (t0 t1 t2 : Vec F S1x128x128 .f32) (k : Vec F S128x256 .f32) : FVec F S128x256 .f32 :=
  concatenate S128x256 1
    [⟨S128x128, rope (extractStridedSlice S128x128 ![0, 0] k slices_S128x256_o0_0_S128x128) (table t0) (table t1) (table t2)⟩,
     ⟨S128x128, rope (extractStridedSlice S128x128 ![0, 128] k slices_S128x256_o0_128_S128x128) (table t0) (table t1) (table t2)⟩]
    concatenates_S128x128_S128x128_S128x256_d1

/-- Two blocks of 128 rows, the earlier above the later, rounded to bf16. -/
def both (prev cur : FVec F S128x256 .f32) : FVec F S256x256 .bf16 :=
  truncf .bf16 (concatenate S256x256 0 [⟨S128x256, prev⟩, ⟨S128x256, cur⟩] concatenates_S128x256_S128x256_S256x256_d0)
    bitsLt_bf16_f32

/-- Which of the 256 keys a query row sees, at block `n` of its sequence. -/
def seen (n : BitVec 32) : IVec S128x256 1 :=
  k0_pay13 (iota .tc S128x256 32 [1] iota_S128x256_d1_w32) k0_pay12 (Scalar.cmpi .eq n 0#32) 128#32

/-- One head: scaled scores, the mask, the softmax with its sink, and the weighted values. -/
def head (q : FVec F S128x64 .bf16) (k v : FVec F S256x64 .bf16) (mask : IVec S128x256 1) (snk : F .f32) :
    FVec F S128x64 .f32 :=
  have s : FVec F S128x256 .f32 := select mask
    (mulf (matmul dot_S128x64_S256x64_S128x256_1_1_0_0_n_n none q k (constant S128x256 .f32 0x00000000#32))
      (broadcast S128x256 (Scalar.ofBits .f32 0x3E000000#32)))
    (broadcast S128x256 (Named.named κ "mask" 0xF149F2CA#32))
  have m : FVec F S128x1 .f32 := maximumf
    (shapeCast S128x1 (multiReduction .maximumf [1] S128 s 0xFF800000#32 reduces_S128x256_S128 (.inl rfl) rfl) shapeCasts_S128_S128x1)
    (broadcast S128x1 snk)
  have e : FVec F S128x256 .f32 := exp (subf s (broadcastTo S128x256 m broadcasts_S128x1_S128x256))
  have den : FVec F S128x1 .f32 := addf
    (shapeCast S128x1 (multiReduction .add [1] S128 e 0x00000000#32 reduces_S128x256_S128 (.inl rfl) rfl) shapeCasts_S128_S128x1)
    (exp (subf (broadcast S128x1 snk) m))
  matmul dot_S128x256_S256x64_S128x64_1_0_0_1_n_n none
    (truncf .bf16 (divf e (broadcastTo S128x256 den broadcasts_S128x1_S128x256)) bitsLt_bf16_f32) v
    (constant S128x64 .f32 0x00000000#32)

/-- Two heads side by side, times the silu of their gate columns, rounded to bf16. -/
def gated (o0 o1 : FVec F S128x64 .f32) (g : Vec F S128x128 .f32) : FVec F S128x128 .bf16 :=
  have den : FVec F S128x128 .f32 := addf (broadcast S128x128 (Scalar.ofBits .f32 0x3F800000#32))
    (exp (subf (broadcast S128x128 (Scalar.ofBits .f32 0x00000000#32)) g))
  truncf .bf16 (mulf
    (concatenate S128x128 1 [⟨S128x64, o0⟩, ⟨S128x64, o1⟩] concatenates_S128x64_S128x64_S128x128_d1)
    (mulf g (divf (broadcast S128x128 (Scalar.ofBits .f32 0x3F800000#32)) den))) bitsLt_bf16_f32

/-- The key and value columns of the head group that pair `p` belongs to lie inside the 256 columns. -/
theorem group_slices (p : Fin 16) : S256x256.Slices ![0, 64 * (p.val / 4)] S256x64 := by
  revert p; decide +kernel

/-- The columns of pair `p` lie inside the 2048. -/
theorem pair_inb (p : Fin 16) : ∀ a, (![0, 128 * p.val] : Fin 2 → Nat) a + S128x128.size a ≤ S128x2048.size a := by
  revert p; decide +kernel

/-- What pair `p` of heads stores: from its 128 query columns, the keys and values of its group, its two
    sinks and its 128 gate columns. -/
def pair (p : Fin 16) (t0 t1 t2 : Vec F S1x128x128 .f32) (ks vs : FVec F S256x256 .bf16) (mask : IVec S128x256 1)
    (q g : Vec F S128x128 .f32) (snk0 snk1 : F .f32) : FVec F S128x128 .bf16 :=
  have qr : FVec F S128x128 .bf16 := truncf .bf16 (rope q (table t0) (table t1) (table t2)) bitsLt_bf16_f32
  gated
    (head (extractStridedSlice S128x64 ![0, 0] qr slices_S128x128_o0_0_S128x64)
      (extractStridedSlice S256x64 ![0, 64 * (p.val / 4)] ks (group_slices p))
      (extractStridedSlice S256x64 ![0, 64 * (p.val / 4)] vs (group_slices p)) mask snk0)
    (head (extractStridedSlice S128x64 ![0, 64] qr slices_S128x128_o0_64_S128x64)
      (extractStridedSlice S256x64 ![0, 64 * (p.val / 4)] ks (group_slices p))
      (extractStridedSlice S256x64 ![0, 64 * (p.val / 4)] vs (group_slices p)) mask snk1) g

/-- Pair `p`'s 128 columns of a block of 2048. -/
abbrev pairRect (p : Fin 16) : Rect S128x2048 := Rect.unit (s := S128x2048) ![0, 128 * p.val] S128x128.size (pair_inb p)

theorem sink_inb (h : Fin 32) : ∀ a, (![h.val] : Fin 1 → Nat) a + S1.size a ≤ S32.size a := by
  revert h; decide +kernel

/-- Head `h`'s entry of the sinks. -/
abbrev sinkRect (h : Fin 32) : Rect S32 := Rect.unit (s := S32) ![h.val] S1.size (sink_inb h)

theorem first_pos (h : Fin 32) : 0 < (sinkRect h).shape.numel := by revert h; decide +kernel

/-- The store of pair `p`: its rectangle and its payload, from the loads of the body. -/
def piece (t0 t1 t2 : Vec F S1x128x128 .f32) (ks vs : FVec F S256x256 .bf16) (mask : IVec S128x256 1)
    (q g : Fin 16 → Vec F S128x128 .f32) (snk : Fin 32 → F .f32) (p : Fin 16) : View.Piece (Elt F) S128x2048 .bf16 :=
  ⟨pairRect p, pair p t0 t1 t2 ks vs mask (q p) (g p) (snk ⟨2 * p.val, by omega⟩) (snk ⟨2 * p.val + 1, by omega⟩)⟩

variable (c : Dev nD) (i : grid0.Coords)

set_option maxRecDepth 65536 in
set_option maxHeartbeats 4000000 in
/-- The body's stores to the output block are the sixteen pairs' stores, the last pair's first. -/
theorem run_pieces
    (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x2048 .f32) (harg8 : arg8.IsWhole) (arg9 : Memref sig .tc .vmem S3x128x128 .f32) (harg9 : arg9.IsWhole) (arg10 : Memref sig .tc .vmem S3x128x128 .f32) (harg10 : arg10.IsWhole) (arg11 : Memref sig .tc .vmem S128x2048 .bf16) (harg11 : arg11.IsWhole) (arg12 : Memref sig .tc .vmem S1x128x256 .f32) (harg12 : arg12.IsWhole) (arg13 : Memref sig .tc .vmem S1x128x256 .f32) (harg13 : arg13.IsWhole)
    (x0 : Vec F S32 .f32) (x1 : Vec F S128x2048 .f32) (x2 : Vec F S128x256 .f32) (x3 : Vec F S128x256 .f32) (x4 : Vec F S128x256 .f32) (x5 : Vec F S128x256 .f32) (x6 : Vec F S128x2048 .f32) (x7 : Vec F S3x128x128 .f32) (x8 : Vec F S3x128x128 .f32) :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8).1
      = [15, 14, 13, 12, 11, 10, 9, 8, 7, 6, 5, 4, 3, 2, 1, 0].map (piece
          (arg9.view.readAt (Elt F) (Rect.unit (s := S3x128x128) ![0, 0, 0] S1x128x128.size inb_S3x128x128_S1x128x128_0_0_0).toLoadRect (harg9.unread x7))
          (arg9.view.readAt (Elt F) (Rect.unit (s := S3x128x128) ![1, 0, 0] S1x128x128.size inb_S3x128x128_S1x128x128_1_0_0).toLoadRect (harg9.unread x7))
          (arg9.view.readAt (Elt F) (Rect.unit (s := S3x128x128) ![2, 0, 0] S1x128x128.size inb_S3x128x128_S1x128x128_2_0_0).toLoadRect (harg9.unread x7))
          (both
            (ropeKeys
              (arg10.view.readAt (Elt F) (Rect.unit (s := S3x128x128) ![0, 0, 0] S1x128x128.size inb_S3x128x128_S1x128x128_0_0_0).toLoadRect (harg10.unread x8))
              (arg10.view.readAt (Elt F) (Rect.unit (s := S3x128x128) ![1, 0, 0] S1x128x128.size inb_S3x128x128_S1x128x128_1_0_0).toLoadRect (harg10.unread x8))
              (arg10.view.readAt (Elt F) (Rect.unit (s := S3x128x128) ![2, 0, 0] S1x128x128.size inb_S3x128x128_S1x128x128_2_0_0).toLoadRect (harg10.unread x8))
              (arg6.view.readAt (Elt F) (Rect.unit (s := S128x256) ![0, 0] S128x256.size inb_S128x256_S128x256_0_0).toLoadRect (harg6.unread x4)))
            (ropeKeys
              (arg9.view.readAt (Elt F) (Rect.unit (s := S3x128x128) ![0, 0, 0] S1x128x128.size inb_S3x128x128_S1x128x128_0_0_0).toLoadRect (harg9.unread x7))
              (arg9.view.readAt (Elt F) (Rect.unit (s := S3x128x128) ![1, 0, 0] S1x128x128.size inb_S3x128x128_S1x128x128_1_0_0).toLoadRect (harg9.unread x7))
              (arg9.view.readAt (Elt F) (Rect.unit (s := S3x128x128) ![2, 0, 0] S1x128x128.size inb_S3x128x128_S1x128x128_2_0_0).toLoadRect (harg9.unread x7))
              (arg4.view.readAt (Elt F) (Rect.unit (s := S128x256) ![0, 0] S128x256.size inb_S128x256_S128x256_0_0).toLoadRect (harg4.unread x2))))
          (both
            (arg7.view.readAt (Elt F) (Rect.unit (s := S128x256) ![0, 0] S128x256.size inb_S128x256_S128x256_0_0).toLoadRect (harg7.unread x5))
            (arg5.view.readAt (Elt F) (Rect.unit (s := S128x256) ![0, 0] S128x256.size inb_S128x256_S128x256_0_0).toLoadRect (harg5.unread x3)))
          (seen (BitVec.ofNat 32 (i 1).val))
          (fun p => arg3.view.readAt (Elt F) (pairRect p).toLoadRect (harg3.unread x1))
          (fun p => arg8.view.readAt (Elt F) (pairRect p).toLoadRect (harg8.unread x6))
          (fun h => arg2.view.readAt (Elt F) (sinkRect h).toLoadRect (harg2.unread x0) (Shape.Idx.first (first_pos h)))) := by
  unfold kernelRun0_A
  dsimp only [List.map]
  sl_kernel_rfl

end Cert.KernelIdeal.Block
-- ==== Proof.Mask.lean ====
/-
  The attention mask's 32-bit comparisons as inequalities between positions.
-/
module

public import Idealize.ShloMosaic.Lib.Pointwise

@[expose] public section

namespace Cert.Attention

open Idealize.ShloMosaic

/-- A truth value as a bit. -/
theorem ofBool_ite (p : Prop) [Decidable p] : BitVec.ofBool (decide p) = if p then 1#1 else 0#1 := by
  by_cases h : p <;> simp [h]

/-- The conjunction of two bits. -/
theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The disjunction of two bits. -/
theorem or_ite (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- The distance from key `j` to query `r`, which stands 128 rows further on, does not wrap. -/
theorem rel_int (r j : ℕ) (hr : r < 128) (hj : j < 256) :
    (IntOp.subi (IntOp.addi (BitVec.ofNat 32 r) 128#32) (BitVec.ofNat 32 j)).toInt = (r : ℤ) + 128 - j := by
  simp only [IntOp.subi, IntOp.addi, BitVec.toInt_eq_toNat_cond, BitVec.toNat_sub, BitVec.toNat_add, BitVec.toNat_ofNat]
  split_ifs <;> omega

theorem nat_int (j : ℕ) (hj : j < 2 ^ 31) : (BitVec.ofNat 32 j).toInt = (j : ℤ) := by
  simp only [BitVec.toInt_eq_toNat_cond, BitVec.toNat_ofNat]
  split_ifs <;> omega

/-- The key is not ahead of the query. -/
theorem not_ahead (r j : ℕ) (hr : r < 128) (hj : j < 256) :
    IntOp.cmpi .sge (IntOp.subi (IntOp.addi (BitVec.ofNat 32 r) 128#32) (BitVec.ofNat 32 j)) 0#32
      = if j ≤ r + 128 then 1#1 else 0#1 := by
  rw [← ofBool_ite]
  show BitVec.ofBool (BitVec.sle _ _) = _
  rw [BitVec.sle_eq_decide, rel_int r j hr hj]
  congr 2
  simp
  omega

/-- The key is at most 128 rows behind. -/
theorem not_behind (r j : ℕ) (hr : r < 128) (hj : j < 256) :
    IntOp.cmpi .sle (IntOp.subi (IntOp.addi (BitVec.ofNat 32 r) 128#32) (BitVec.ofNat 32 j)) 128#32
      = if r ≤ j then 1#1 else 0#1 := by
  rw [← ofBool_ite]
  show BitVec.ofBool (BitVec.sle _ _) = _
  rw [BitVec.sle_eq_decide, rel_int r j hr hj]
  congr 2
  simp
  omega

/-- One position is at least another. -/
theorem at_least (j k : ℕ) (hj : j < 2 ^ 31) (hk : k < 2 ^ 31) :
    IntOp.cmpi .sge (BitVec.ofNat 32 j) (BitVec.ofNat 32 k) = if k ≤ j then 1#1 else 0#1 := by
  rw [← ofBool_ite]
  show BitVec.ofBool (BitVec.sle _ _) = _
  rw [BitVec.sle_eq_decide, nat_int j hj, nat_int k hk]
  congr 2
  simp

end Cert.Attention
-- ==== Proof.Tile.lean ====
/-
  What one grid point of the attention kernel computes, read at an index on extended reals: the rotary
  embedding of a row, the mask, the softmax with its sink, and the gate.
-/
module

public import proofs.«01_k».proof.Proof.Block
public import proofs.«01_k».proof.Proof.Mask
public import Idealize.ShloMosaic.Lib.Pointwise

@[expose] public section

noncomputable section

namespace Cert.Attention

open Idealize.ShloMosaic

/-! ## The mathematics, as functions of rows -/

/-- The rotary embedding of one head's 64 columns: the first sixteen are turned in pairs eight apart. -/
def rot (x : Fin 64 → EReal) (C S : ℕ → EReal) (d : Fin 64) : EReal :=
  if h : d.val < 8 then x d * C d.val - x ⟨d.val + 8, by omega⟩ * S d.val
  else if d.val < 16 then x d * C (d.val - 8) + x ⟨d.val - 8, by omega⟩ * S (d.val - 8)
  else x d

/-- The cosine table at a column: cosines on the turned columns, one elsewhere. -/
def cosTab (C : ℕ → EReal) (d : ℕ) : EReal :=
  if d < 8 then C d else if d < 16 then C (d - 8) else 1
/-- The table of the column eight further on: minus the sine on the first eight columns. -/
def sinTab1 (S : ℕ → EReal) (d : ℕ) : EReal := if d < 8 then -S d else 0
/-- The table of the column eight before: the sine on the second eight columns. -/
def sinTab2 (S : ℕ → EReal) (d : ℕ) : EReal := if d < 8 then 0 else if d < 16 then S (d - 8) else 0

/-- The maximum of a row of scores and the sink. -/
def top (s : Fin 256 → EReal) (snk : EReal) : EReal := max (Finset.univ.fold max ⊥ s) snk
/-- The softmax's denominator, the sink's term last. -/
def den (s : Fin 256 → EReal) (snk : EReal) : EReal := (∑ j, Ideal.exp (s j - top s snk)) + Ideal.exp (snk - top s snk)
/-- The weight of key `j`. -/
def weight (s : Fin 256 → EReal) (snk : EReal) (j : Fin 256) : EReal := Ideal.div (Ideal.exp (s j - top s snk)) (den s snk)
/-- The weighted sum of the values. -/
def mix (s : Fin 256 → EReal) (snk : EReal) (v : Fin 256 → EReal) : EReal := ∑ j, weight s snk j * v j
/-- The silu of a gate entry. -/
def silu (g : EReal) : EReal := g * Ideal.div 1 (1 + Ideal.exp (-g))
/-- Key `j` of the 256 is seen by query row `r` of block `n`: at most 128 back, not ahead, and not before the
    sequence's start. -/
def sees (first : Prop) (r j : ℕ) : Prop := r ≤ j ∧ j ≤ r + 128 ∧ (first → 128 ≤ j)

instance (first : Prop) [Decidable first] (r j : ℕ) : Decidable (sees first r j) := by unfold sees; infer_instance

theorem bits_neg_inf : Ideal.ofBits .f32 0xFF800000#32 = ⊥ := by
  simp [Ideal.ofBits, Ideal.ieee]

end Cert.Attention

namespace Cert.KernelIdeal.Block

open Cert.KernelIdeal Cert.KernelIdeal.Gen Cert.Attention Idealize.ShloMosaic Idealize.ShloMosaic.TcCoe Idealize.SL.Sem

/-- The kernel's three-term form of the rotary embedding is the two-term one, where the tables are the
    cosines and sines of the row's angles. -/
theorem rope_apply (x c s1 s2 : FVec Ideal S128x128 .f32) (C S : ℕ → EReal) (r : Fin 128)
    (hc : ∀ l : Fin 128, c (ix2 r l) = cosTab C (l.val % 64)) (h1 : ∀ l : Fin 128, s1 (ix2 r l) = sinTab1 S (l.val % 64))
    (h2 : ∀ l : Fin 128, s2 (ix2 r l) = sinTab2 S (l.val % 64)) (l : Fin 128) :
    rope x c s1 s2 (ix2 r l)
      = rot (fun d => x (ix2 r ⟨64 * (l.val / 64) + d.val, by omega⟩)) C S ⟨l.val % 64, by omega⟩ := by
  pointwise [rope]
  rw [hc, h1, h2]
  have e0 : (⟨64 * (l.val / 64) + l.val % 64, by omega⟩ : Fin 128) = l := Fin.ext (by show 64 * (l.val / 64) + l.val % 64 = l.val; omega)
  unfold rot cosTab sinTab1 sinTab2
  dsimp only
  rw [e0]
  by_cases a : l.val % 64 < 8
  · rw [if_pos a, if_pos a, if_pos a, dif_pos a, mul_zero, add_zero, mul_neg, ← sub_eq_add_neg]
    have e1 : (⟨(l.val + 128 - 120) % 128, by omega⟩ : Fin 128) = ⟨64 * (l.val / 64) + (l.val % 64 + 8), by omega⟩ :=
      Fin.ext (by show (l.val + 128 - 120) % 128 = 64 * (l.val / 64) + (l.val % 64 + 8); omega)
    rw [e1]
  · rw [if_neg a, if_neg a, if_neg a, dif_neg a, mul_zero, add_zero]
    by_cases b : l.val % 64 < 16
    · rw [if_pos b, if_pos b, if_pos b]
      have e1 : (⟨(l.val + 128 - 8) % 128, by omega⟩ : Fin 128) = ⟨64 * (l.val / 64) + (l.val % 64 - 8), by omega⟩ :=
        Fin.ext (by show (l.val + 128 - 8) % 128 = 64 * (l.val / 64) + (l.val % 64 - 8); omega)
      rw [e1]
    · rw [if_neg b, if_neg b, if_neg b, mul_zero, add_zero, mul_one]

/-- A table's row and column. -/
theorem table_apply (t : FVec Ideal S1x128x128 .f32) (r l : Fin 128) : table (F := Ideal) t (ix2 r l) = t (ix3 0 r l) := by
  pointwise [table]

/-- A key column is the rotary embedding of its head's 64 columns. -/
theorem ropeKeys_apply (t0 t1 t2 : FVec Ideal S1x128x128 .f32) (k : FVec Ideal S128x256 .f32) (C S : ℕ → EReal) (r : Fin 128)
    (h0 : ∀ l : Fin 128, t0 (ix3 0 r l) = cosTab C (l.val % 64)) (h1 : ∀ l : Fin 128, t1 (ix3 0 r l) = sinTab1 S (l.val % 64))
    (h2 : ∀ l : Fin 128, t2 (ix3 0 r l) = sinTab2 S (l.val % 64)) (l : Fin 256) :
    ropeKeys (F := Ideal) t0 t1 t2 k (ix2 r l)
      = rot (fun d => k (ix2 r ⟨64 * (l.val / 64) + d.val, by omega⟩)) C S ⟨l.val % 64, by omega⟩ := by
  pointwise [ropeKeys]
  by_cases a : l.val < 128
  · rw [dif_pos a, rope_apply _ _ _ _ C S r (fun l => by rw [table_apply, h0]) (fun l => by rw [table_apply, h1])
      (fun l => by rw [table_apply, h2])]
    pointwise
  · rw [dif_neg a, rope_apply _ _ _ _ C S r (fun l => by rw [table_apply, h0]) (fun l => by rw [table_apply, h1])
      (fun l => by rw [table_apply, h2])]
    pointwise
    congr 1
    · funext d
      congr 2
      exact Fin.ext (by show 128 + (64 * ((l.val - 128) / 64) + d.val) = 64 * (l.val / 64) + d.val; omega)
    · exact Fin.ext (by show (l.val - 128) % 64 = l.val % 64; omega)

/-- Row `j` of the two blocks: the earlier block's row, or the later one's. -/
theorem both_apply (prev cur : FVec Ideal S128x256 .f32) (j l : Fin 256) :
    both prev cur (ix2 j l) = if h : j.val < 128 then prev (ix2 ⟨j.val, h⟩ l) else cur (ix2 ⟨j.val - 128, by omega⟩ l) := by
  pointwise [both]

/-- The mask, as the inequality between the positions. -/
theorem seen_apply (n : BitVec 32) (r : Fin 128) (j : Fin 256) :
    seen n (ix2 r j) = if sees (n = 0#32) r.val j.val then 1#1 else 0#1 := by
  pointwise [seen, k0_pay13, k0_pay12]
  rw [not_ahead _ _ r.isLt j.isLt, not_behind _ _ r.isLt j.isLt, and_ite]
  by_cases hn : n = 0#32
  · have e : Scalar.select (Scalar.cmpi CmpIPredicate.eq n 0#32) 128#32 0#32 = BitVec.ofNat 32 128 := by
      subst hn; decide
    rw [e, at_least _ _ (by omega) (by omega), and_ite]
    exact if_congr (by simp only [sees, hn, true_implies]; tauto) rfl rfl
  · have e : Scalar.select (Scalar.cmpi CmpIPredicate.eq n 0#32) 128#32 0#32 = BitVec.ofNat 32 0 := by
      have : Scalar.cmpi CmpIPredicate.eq n 0#32 = 0#1 := by
        show BitVec.ofBool (n == 0#32) = 0#1
        rw [beq_false_of_ne hn]; rfl
      rw [this]; rfl
    rw [e, at_least _ _ (by omega) (by omega), and_ite]
    exact if_congr (by simp only [sees, hn, false_implies]; simp; tauto) rfl rfl

theorem named_mask : (Named.named (F := Ideal) κ "mask" 0xF149F2CA#32 : Ideal .f32) = (⊥ : EReal) :=
  IdealRules.named_const.ideal_named_scalar _ _ _ _ rfl

/-- One head's entry: the weighted sum of the values' column. -/
theorem head_apply (q : FVec Ideal S128x64 .bf16) (k v : FVec Ideal S256x64 .bf16) (mask : IVec S128x256 1) (snk : Ideal .f32)
    (r : Fin 128) (l : Fin 64) :
    head q k v mask snk (ix2 r l)
      = mix (fun j => Scalar.select (mask (ix2 r j)) ((∑ d : Fin 64, q (ix2 r d) * k (ix2 j d)) * Ideal.ofBits .f32 0x3E000000#32) ⊥)
          snk (fun j => v (ix2 j l)) := by
  pointwise [head, dot_S128x64_S256x64_S128x256_1_1_0_0_n_n, dot_S128x256_S256x64_S128x64_1_0_0_1_n_n, named_mask, bits_neg_inf]
  rfl

/-- The gated pair: the head's entry times the silu of the gate entry. -/
theorem gated_apply (o0 o1 : FVec Ideal S128x64 .f32) (g : FVec Ideal S128x128 .f32) (r l : Fin 128) :
    gated o0 o1 g (ix2 r l)
      = (if h : l.val < 64 then o0 (ix2 r ⟨l.val, h⟩) else o1 (ix2 r ⟨l.val - 64, by omega⟩)) * silu (g (ix2 r l)) := by
  pointwise [gated]
  rw [zero_sub]
  rfl

end Cert.KernelIdeal.Block
-- ==== Proof.Point.lean ====
/-
  What one grid point stores, entry by entry on extended reals: the attention of one query row and head
  over the 256 keys of two blocks, times the silu of the gate; and the rotated keys and the values.
-/
module

public import proofs.«01_k».proof.Proof.Tile

@[expose] public section

noncomputable section

namespace Cert.Attention

open Idealize.ShloMosaic

/-- The scores of one query row against 256 keys, `⊥` at the keys it does not see. -/
def scores (first : Prop) [Decidable first] (r : ℕ) (q : Fin 64 → EReal) (k : Fin 256 → Fin 64 → EReal) (j : Fin 256) : EReal :=
  if sees first r j.val then (∑ d, q d * k j d) * Ideal.ofBits .f32 0x3E000000#32 else ⊥

/-- Row `j` of an earlier block's 128 rows followed by a later block's. -/
def rows {α : Type} (prev cur : Fin 128 → α) (j : Fin 256) : α :=
  if h : j.val < 128 then prev ⟨j.val, h⟩ else cur ⟨j.val - 128, by omega⟩

/-- A chosen score is the score where the key is seen. -/
theorem select_sees (p : Prop) [Decidable p] (a b : EReal) :
    Scalar.select (if p then 1#1 else 0#1) a b = if p then a else b := by
  by_cases h : p <;> simp [h, Scalar.select]

end Cert.Attention

namespace Cert.KernelIdeal.Block

open Cert.KernelIdeal Cert.KernelIdeal.Gen Cert.Attention Idealize.ShloMosaic Idealize.ShloMosaic.TcCoe Idealize.SL.Sem

/-- A stored entry of pair `p`: its head's attention times the silu of its gate. -/
theorem pair_apply (p : Fin 16) (t0 t1 t2 : FVec Ideal S1x128x128 .f32) (ks vs : FVec Ideal S256x256 .bf16) (n : BitVec 32)
    (q g : FVec Ideal S128x128 .f32) (snk0 snk1 : Ideal .f32) (C S : ℕ → EReal) (r w : Fin 128)
    (h0 : ∀ l : Fin 128, t0 (ix3 0 r l) = cosTab C (l.val % 64)) (h1 : ∀ l : Fin 128, t1 (ix3 0 r l) = sinTab1 S (l.val % 64))
    (h2 : ∀ l : Fin 128, t2 (ix3 0 r l) = sinTab2 S (l.val % 64)) :
    pair (F := Ideal) p t0 t1 t2 ks vs (seen n) q g snk0 snk1 (ix2 r w)
      = mix (scores (n = 0#32) r.val (rot (fun d => q (ix2 r ⟨64 * (w.val / 64) + d.val, by omega⟩)) C S)
            (fun j d => ks (ix2 j ⟨64 * (p.val / 4) + d.val, by omega⟩)))
          (if w.val < 64 then snk0 else snk1) (fun j => vs (ix2 j ⟨64 * (p.val / 4) + w.val % 64, by omega⟩))
        * silu (g (ix2 r w)) := by
  unfold pair
  rw [gated_apply]
  congr 1
  have hr := fun l => rope_apply q (table (F := Ideal) t0) (table (F := Ideal) t1) (table (F := Ideal) t2) C S r
    (fun l => by rw [table_apply, h0]) (fun l => by rw [table_apply, h1]) (fun l => by rw [table_apply, h2]) l
  by_cases a : w.val < 64
  · have e : w.val / 64 = 0 := by omega
    have e' : w.val % 64 = w.val := by omega
    rw [dif_pos a, if_pos a, head_apply]
    simp only [seen_apply, select_sees]
    pointwise
    simp only [hr]
    have d1 : ∀ x : Fin 64, (x.val) / 64 = 0 := fun x => by omega
    have d2 : ∀ x : Fin 64, (x.val) % 64 = x.val := fun x => by omega
    simp only [scores, e, e', d1, d2]
    rfl
  · have e : w.val / 64 = 1 := by omega
    have e' : w.val % 64 = w.val - 64 := by omega
    rw [dif_neg a, if_neg a, head_apply]
    simp only [seen_apply, select_sees]
    pointwise
    simp only [hr]
    have d1 : ∀ x : Fin 64, (64 + x.val) / 64 = 1 := fun x => by omega
    have d2 : ∀ x : Fin 64, (64 + x.val) % 64 = x.val := fun x => by omega
    simp only [scores, e, e', d1, d2]
    rfl

/-- The attention of query row `r` and column `l` of a point, from its blocks: `n` the block's number in its
    sequence, `C` and `S` the cosines and sines of the block's rows, `C'` and `S'` those of the block before. -/
def entry (n : ℕ) (snk : Fin 32 → EReal) (q gate : Fin 128 → Fin 2048 → EReal) (k v k' v' : Fin 128 → Fin 256 → EReal)
    (C S C' S' : Fin 128 → ℕ → EReal) (r : Fin 128) (l : Fin 2048) : EReal :=
  mix (scores (n = 0) r.val (rot (fun d => q r ⟨64 * (l.val / 64) + d.val, by omega⟩) (C r) (S r))
      (rows (fun j => rot (fun d => k' j ⟨64 * (l.val / 512) + d.val, by omega⟩) (C' j) (S' j))
        (fun j => rot (fun d => k j ⟨64 * (l.val / 512) + d.val, by omega⟩) (C j) (S j))))
    (snk ⟨l.val / 64, by omega⟩)
    (rows (fun j => v' j ⟨64 * (l.val / 512) + l.val % 64, by omega⟩) (fun j => v j ⟨64 * (l.val / 512) + l.val % 64, by omega⟩))
    * silu (gate r l)

/-- A block of three tables holds the cosines and sines of the given rows. -/
def Tables (x : FVec Ideal S3x128x128 .f32) (C S : Fin 128 → ℕ → EReal) : Prop :=
  ∀ r l : Fin 128, x (ix3 0 r l) = cosTab (C r) (l.val % 64) ∧ x (ix3 1 r l) = sinTab1 (S r) (l.val % 64)
    ∧ x (ix3 2 r l) = sinTab2 (S r) (l.val % 64)

/-- The load of table `e` of the three reads its row and column. -/
theorem ld_table (e : Fin 3) (x : FVec Ideal S3x128x128 .f32)
    (inb : ∀ a, (![e.val, 0, 0] : Fin 3 → Nat) a + S1x128x128.size a ≤ S3x128x128.size a) (r l : Fin 128) :
    View.ld (Val := Elt Ideal) (S := S3x128x128) (e' := .f32) x (Rect.unit (s := S3x128x128) ![e.val, 0, 0] S1x128x128.size inb) (ix3 0 r l) = x (ix3 e r l) := by
  rw [View.ld_unit]
  pointwise

/-- A point's number, as the word the body computes with, is zero exactly if the number is. -/
theorem word_zero (n : ℕ) (h : n < 16) : (BitVec.ofNat 32 n = 0#32) = (n = 0) := by
  apply propext
  constructor
  · intro e
    have := congrArg BitVec.toNat e
    simp only [BitVec.toNat_ofNat] at this
    omega
  · rintro rfl; rfl

/-- Where a pair's entry lies among the 2048 columns. -/
theorem pair_emb (p : Fin 16) (r l : Fin 128) : (pairRect p).emb (ix2 r l) = ix2 r ⟨128 * p.val + l.val, by omega⟩ :=
  funext fun a => match a with
    | ⟨0, _⟩ => Fin.ext (show 0 + 1 * r.val = r.val by omega)
    | ⟨1, _⟩ => Fin.ext (show 128 * p.val + 1 * l.val = 128 * p.val + l.val by omega)

/-- A store's entry is the attention of its row and column, whatever the loads are that hold the blocks. -/
theorem piece_apply (t0 t1 t2 : FVec Ideal S1x128x128 .f32) (ks vs : FVec Ideal S256x256 .bf16) (w : BitVec 32)
    (q g : Fin 16 → FVec Ideal S128x128 .f32) (snk : Fin 32 → Ideal .f32) (p : Fin 16)
    (n : ℕ) (Snk : Fin 32 → EReal) (Q G : Fin 128 → Fin 2048 → EReal) (K V K' V' : Fin 128 → Fin 256 → EReal)
    (C S C' S' : Fin 128 → ℕ → EReal) (r l : Fin 128)
    (hn : (w = 0#32) = (n = 0)) (hs : ∀ h, snk h = Snk h)
    (hq : ∀ r l : Fin 128, q p (ix2 r l) = Q r ⟨128 * p.val + l.val, by omega⟩)
    (hg : ∀ r l : Fin 128, g p (ix2 r l) = G r ⟨128 * p.val + l.val, by omega⟩)
    (h0 : ∀ r l : Fin 128, t0 (ix3 0 r l) = cosTab (C r) (l.val % 64))
    (h1 : ∀ r l : Fin 128, t1 (ix3 0 r l) = sinTab1 (S r) (l.val % 64))
    (h2 : ∀ r l : Fin 128, t2 (ix3 0 r l) = sinTab2 (S r) (l.val % 64))
    (hk : ∀ j l : Fin 256, ks (ix2 j l) = rows
      (fun j => rot (fun d => K' j ⟨64 * (l.val / 64) + d.val, by omega⟩) (C' j) (S' j) ⟨l.val % 64, by omega⟩)
      (fun j => rot (fun d => K j ⟨64 * (l.val / 64) + d.val, by omega⟩) (C j) (S j) ⟨l.val % 64, by omega⟩) j)
    (hv : ∀ j l : Fin 256, vs (ix2 j l) = rows (fun j => V' j l) (fun j => V j l) j) :
    (piece (F := Ideal) t0 t1 t2 ks vs (seen w) q g snk p).2 (ix2 r l)
      = (fun y : S128x2048.Idx => entry n Snk Q G K V K' V' C S C' S' (y 0) (y 1))
          ((piece (F := Ideal) t0 t1 t2 ks vs (seen w) q g snk p).1.emb (ix2 r l)) := by
  rw [show (piece (F := Ideal) t0 t1 t2 ks vs (seen w) q g snk p).1.emb (ix2 r l) = ix2 r ⟨128 * p.val + l.val, by omega⟩ from
    pair_emb p r l]
  show _ = entry n Snk Q G K V K' V' C S C' S' r ⟨128 * p.val + l.val, by omega⟩
  show pair (F := Ideal) p t0 t1 t2 ks vs (seen w) (q p) (g p) (snk ⟨2 * p.val, by omega⟩) (snk ⟨2 * p.val + 1, by omega⟩) (ix2 r l) = _
  rw [pair_apply p t0 t1 t2 ks vs w (q p) (g p) _ _ (C r) (S r) r l (h0 r) (h1 r) (h2 r)]
  simp only [hs, hq, hg, hk, hv]
  unfold entry
  have e1 : (128 * p.val + l.val) / 512 = p.val / 4 := by omega
  have e2 : (128 * p.val + l.val) % 64 = l.val % 64 := by omega
  have e3 : ∀ d : Fin 64, (64 * (p.val / 4) + d.val) / 64 = p.val / 4 := fun d => by omega
  have e4 : ∀ d : Fin 64, (64 * (p.val / 4) + d.val) % 64 = d.val := fun d => by omega
  have e5 : ∀ d : Fin 64, 128 * p.val + (64 * (l.val / 64) + d.val) = 64 * ((128 * p.val + l.val) / 64) + d.val := fun d => by omega
  have e6 : (if l.val < 64 then Snk ⟨2 * p.val, by omega⟩ else Snk ⟨2 * p.val + 1, by omega⟩)
      = Snk ⟨(128 * p.val + l.val) / 64, by omega⟩ := by
    split
    · exact congrArg Snk (Fin.ext (by show 2 * p.val = (128 * p.val + l.val) / 64; omega))
    · exact congrArg Snk (Fin.ext (by show 2 * p.val + 1 = (128 * p.val + l.val) / 64; omega))
  have e7 : ∀ a, scores (w = 0#32) r.val a = scores (n = 0) r.val a := fun a => by
    funext k j
    unfold scores sees
    simp only [hn]
  rw [e6]
  simp only [e1, e2, e3, e4, e5, e7]
  refine congrArg (fun k => mix (scores _ _ _ k) _ _ * _) ?_
  funext j d
  unfold rows
  split <;> rfl

/-- The zero offsets of a load of a whole matrix. -/
theorem zero2 : (![0, 0] : Fin 2 → ℕ) = fun _ => 0 := funext fun a => by fin_cases a <;> rfl

/-- A load of a rectangle of a whole block holding `x` reads `x` there. -/
theorem load_eq {sp : Space} {s : Shape} {e : EltTy} (a : Memref sig .tc sp s e) (h : a.IsWhole) (x : s.Idx → Elt Ideal e) (r : Rect s) :
    a.view.readAt (Elt Ideal) r.toLoadRect (h.unread x) = View.ld x r := by
  rw [View.readAt_eq_ld, h.read_unread]

/-- A load of a whole block of keys or values. -/
theorem load_kv (a : Memref sig .tc .vmem S128x256 .f32) (h : a.IsWhole) (x : FVec Ideal S128x256 .f32) :
    a.view.readAt (Elt Ideal) (Rect.unit (s := S128x256) ![0, 0] S128x256.size inb_S128x256_S128x256_0_0).toLoadRect (h.unread x) = x :=
  (load_eq a h x _).trans (View.ld_unit_zero (Val := Elt Ideal) (S := S128x256) (e := .f32) zero2 _ x)

/-- The load of a pair's columns. -/
theorem ld_pair (p : Fin 16) (x : FVec Ideal S128x2048 .f32) (r l : Fin 128) :
    View.ld (Val := Elt Ideal) (S := S128x2048) (e' := .f32) x (pairRect p) (ix2 r l) = x (ix2 r ⟨128 * p.val + l.val, by omega⟩) := by
  rw [View.ld_unit]
  pointwise

/-- The load of one sink. -/
theorem ld_sink (h : Fin 32) (x : FVec Ideal S32 .f32) :
    View.ld (Val := Elt Ideal) (S := S32) (e' := .f32) x (sinkRect h) (Shape.Idx.first (first_pos h)) = x (ix1 h) :=
  congrArg x (funext fun a => match a with | ⟨0, _⟩ => Fin.ext (Nat.add_zero _))

/-- The keys of two blocks, from the tables and the key columns of each. -/
theorem keys_apply (y7 y8 : FVec Ideal S3x128x128 .f32) (k k' y y' : FVec Ideal S128x256 .f32) (C S C' S' : Fin 128 → ℕ → EReal)
    (hy : y = k) (hy' : y' = k') (h7 : Tables y7 C S) (h8 : Tables y8 C' S') (t0 t1 t2 t0' t1' t2' : FVec Ideal S1x128x128 .f32)
    (e0 : ∀ r l : Fin 128, t0 (ix3 0 r l) = y7 (ix3 0 r l)) (e1 : ∀ r l : Fin 128, t1 (ix3 0 r l) = y7 (ix3 1 r l))
    (e2 : ∀ r l : Fin 128, t2 (ix3 0 r l) = y7 (ix3 2 r l)) (e0' : ∀ r l : Fin 128, t0' (ix3 0 r l) = y8 (ix3 0 r l))
    (e1' : ∀ r l : Fin 128, t1' (ix3 0 r l) = y8 (ix3 1 r l)) (e2' : ∀ r l : Fin 128, t2' (ix3 0 r l) = y8 (ix3 2 r l))
    (j l : Fin 256) :
    both (F := Ideal) (ropeKeys (F := Ideal) t0' t1' t2' y') (ropeKeys (F := Ideal) t0 t1 t2 y) (ix2 j l) = rows
      (fun j => rot (fun d => k' (ix2 j ⟨64 * (l.val / 64) + d.val, by omega⟩)) (C' j) (S' j) ⟨l.val % 64, by omega⟩)
      (fun j => rot (fun d => k (ix2 j ⟨64 * (l.val / 64) + d.val, by omega⟩)) (C j) (S j) ⟨l.val % 64, by omega⟩) j := by
  subst hy hy'
  rw [both_apply]
  unfold rows
  split
  · exact ropeKeys_apply _ _ _ _ _ _ _ (fun l => (e0' _ l).trans (h8 _ l).1) (fun l => (e1' _ l).trans (h8 _ l).2.1)
      (fun l => (e2' _ l).trans (h8 _ l).2.2) l
  · exact ropeKeys_apply _ _ _ _ _ _ _ (fun l => (e0 _ l).trans (h7 _ l).1) (fun l => (e1 _ l).trans (h7 _ l).2.1)
      (fun l => (e2 _ l).trans (h7 _ l).2.2) l

/-- What stores that cover a block leave in it, where each store's payload is a function's at its place. -/
theorem read_pieces {κ : Kind} {sp : Space} {s : Shape} {e : EltTy} {v : View sig κ sp s e} {f : v.ty.Contents (Elt Ideal)}
    (L L' : List (View.Piece (Elt Ideal) s e)) (hL : L = L') (cover : ∀ y, ∃ p ∈ L, y ∈ p.1.set) (G : s.Idx → Elt Ideal e)
    (hp : ∀ p ∈ L', ∀ x : p.1.shape.Idx, p.2 x = G (p.1.emb x)) (y : s.Idx) :
    v.read (Elt Ideal) (v.writes (Elt Ideal) f L) y = G y := by
  subst hL
  rw [View.read_writes_eq_canon v f L cover]
  exact View.canon_apply_of_pieces G L hp y (cover y)

/-- What a point leaves in its output block, entry by entry. -/
theorem out9_apply (c : Dev nD) (i : grid0.Coords)
    (arg2 : Memref sig .tc .smem S32 .f32) (harg2 : arg2.IsWhole) (arg3 : Memref sig .tc .vmem S128x2048 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x2048 .f32) (harg8 : arg8.IsWhole) (arg9 : Memref sig .tc .vmem S3x128x128 .f32) (harg9 : arg9.IsWhole) (arg10 : Memref sig .tc .vmem S3x128x128 .f32) (harg10 : arg10.IsWhole) (arg11 : Memref sig .tc .vmem S128x2048 .bf16) (harg11 : arg11.IsWhole) (arg12 : Memref sig .tc .vmem S1x128x256 .f32) (harg12 : arg12.IsWhole) (arg13 : Memref sig .tc .vmem S1x128x256 .f32) (harg13 : arg13.IsWhole)
    (x0 : FVec Ideal S32 .f32) (x1 : FVec Ideal S128x2048 .f32) (x2 : FVec Ideal S128x256 .f32) (x3 : FVec Ideal S128x256 .f32) (x4 : FVec Ideal S128x256 .f32) (x5 : FVec Ideal S128x256 .f32) (x6 : FVec Ideal S128x2048 .f32) (x7 : FVec Ideal S3x128x128 .f32) (x8 : FVec Ideal S3x128x128 .f32)
    (C S C' S' : Fin 128 → ℕ → EReal) (h7 : Tables x7 C S) (h8 : Tables x8 C' S') (r : Fin 128) (l : Fin 2048) :
    out0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 r l)
      = entry (i 1).val (fun h => x0 (ix1 h)) (fun r l => x1 (ix2 r l)) (fun r l => x6 (ix2 r l)) (fun r l => x2 (ix2 r l))
          (fun r l => x3 (ix2 r l)) (fun r l => x4 (ix2 r l)) (fun r l => x5 (ix2 r l)) C S C' S' r l := by
  unfold out0_A_9
  refine read_pieces _ _ (run_pieces (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8)
    (fun y => cover0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 y)
    (fun y => entry (i 1).val (fun h => x0 (ix1 h)) (fun r l => x1 (ix2 r l)) (fun r l => x6 (ix2 r l))
      (fun r l => x2 (ix2 r l)) (fun r l => x3 (ix2 r l)) (fun r l => x4 (ix2 r l)) (fun r l => x5 (ix2 r l)) C S C' S' (y 0) (y 1))
    ?_ (ix2 r l)
  intro p hp x
  obtain ⟨p, -, rfl⟩ := List.mem_map.1 hp
  obtain ⟨r, w, rfl⟩ : ∃ (r w : Fin 128), x = ix2 r w := ⟨x 0, x 1, eq_ix2 x⟩
  refine (piece_apply _ _ _ _ _ _ _ _ _ p (i 1).val (fun h => x0 (ix1 h)) (fun r l => x1 (ix2 r l)) (fun r l => x6 (ix2 r l))
      (fun r l => x2 (ix2 r l)) (fun r l => x3 (ix2 r l)) (fun r l => x4 (ix2 r l)) (fun r l => x5 (ix2 r l)) C S C' S' r w
      ?_ ?_ ?_ ?_ ?_ ?_ ?_ ?_ ?_)
  · exact word_zero _ (i 1).isLt
  · exact fun h => (congrFun (load_eq arg2 harg2 x0 (sinkRect h)) _).trans (ld_sink h x0)
  · exact fun r l => (congrFun (load_eq arg3 harg3 x1 (pairRect p)) _).trans (ld_pair p x1 r l)
  · exact fun r l => (congrFun (load_eq arg8 harg8 x6 (pairRect p)) _).trans (ld_pair p x6 r l)
  · exact fun r l => ((congrFun (load_eq arg9 harg9 x7 _) _).trans (ld_table 0 x7 _ r l)).trans (h7 r l).1
  · exact fun r l => ((congrFun (load_eq arg9 harg9 x7 _) _).trans (ld_table 1 x7 _ r l)).trans (h7 r l).2.1
  · exact fun r l => ((congrFun (load_eq arg9 harg9 x7 _) _).trans (ld_table 2 x7 _ r l)).trans (h7 r l).2.2
  · exact keys_apply x7 x8 x2 x4 _ _ C S C' S' (load_kv arg4 harg4 x2) (load_kv arg6 harg6 x4) h7 h8 _ _ _ _ _ _
      (fun r l => (congrFun (load_eq arg9 harg9 x7 _) _).trans (ld_table 0 x7 _ r l))
      (fun r l => (congrFun (load_eq arg9 harg9 x7 _) _).trans (ld_table 1 x7 _ r l))
      (fun r l => (congrFun (load_eq arg9 harg9 x7 _) _).trans (ld_table 2 x7 _ r l))
      (fun r l => (congrFun (load_eq arg10 harg10 x8 _) _).trans (ld_table 0 x8 _ r l))
      (fun r l => (congrFun (load_eq arg10 harg10 x8 _) _).trans (ld_table 1 x8 _ r l))
      (fun r l => (congrFun (load_eq arg10 harg10 x8 _) _).trans (ld_table 2 x8 _ r l))
  · exact fun j l => (congrFun (congrArg₂ (both (F := Ideal)) (load_kv arg7 harg7 x5) (load_kv arg5 harg5 x3)) _).trans (both_apply x5 x3 j l)

end Cert.KernelIdeal.Block
-- ==== Proof.First.lean ====
/-
  The first block of a sequence: its earlier half is masked, so what stands there does not matter.
-/
module

public import proofs.«01_k».proof.Proof.Point

@[expose] public section

noncomputable section

namespace Cert.Attention

open Idealize.ShloMosaic

theorem exp_nonneg (x : EReal) : 0 ≤ Ideal.exp x := by
  induction x using EReal.rec with
  | bot => simp
  | top => simp
  | coe r => rw [Ideal.exp_coe]; exact_mod_cast (Real.exp_pos r).le

/-- The scores only look at keys that are seen. -/
theorem scores_congr (first : Prop) [Decidable first] (r : ℕ) {q q' : Fin 64 → EReal} {k k' : Fin 256 → Fin 64 → EReal}
    (hq : q = q') (hk : ∀ j : Fin 256, sees first r j.val → k j = k' j) : scores first r q k = scores first r q' k' := by
  subst hq
  funext j
  unfold scores
  by_cases h : sees first r j.val
  · rw [if_pos h, if_pos h, hk j h]
  · rw [if_neg h, if_neg h]

/-- A sum of terms that are each `⊥`, zero or `⊤` is its own double. -/
theorem double_sum (v : Fin 128 → EReal) : (∑ j, ⊥ * v j) + (∑ j, ⊥ * v j) = ∑ j, ⊥ * v j := by
  have h : ∀ x : EReal, (x = ⊥ ∨ x = 0 ∨ x = ⊤) → x + x = x := by
    rintro x (rfl | rfl | rfl) <;> simp
  refine h _ (Finset.sum_induction _ (fun x : EReal => x = ⊥ ∨ x = 0 ∨ x = ⊤) ?_ (Or.inr (Or.inl rfl)) fun j _ => ?_)
  · rintro a b (rfl | rfl | rfl) (rfl | rfl | rfl) <;> simp
  · rcases lt_trichotomy (v j) 0 with hv | hv | hv
    · right; right; exact EReal.bot_mul_of_neg hv
    · right; left; rw [hv, mul_zero]
    · left; exact EReal.bot_mul_of_pos hv

/-- A sum over 256 keys is the sum over the earlier and the later 128. -/
theorem sum_rows (w : Fin 256 → EReal) (a b : Fin 128 → EReal) :
    ∑ j, w j * rows a b j = (∑ j : Fin 128, w ⟨j.val, by omega⟩ * a j) + ∑ j : Fin 128, w ⟨128 + j.val, by omega⟩ * b j := by
  rw [show (∑ j : Fin 256, w j * rows a b j) = ∑ j : Fin (128 + 128), w j * rows a b j from rfl, Fin.sum_univ_add]
  refine congrArg₂ (· + ·) (Finset.sum_congr rfl fun j _ => ?_) (Finset.sum_congr rfl fun j _ => ?_)
  · unfold rows
    rw [dif_pos (show (Fin.castAdd 128 j).val < 128 from j.isLt)]
    rfl
  · unfold rows
    rw [dif_neg (show ¬ (Fin.natAdd 128 j).val < 128 by simp)]
    refine congrArg₂ (· * ·) rfl (congrArg b (Fin.ext ?_))
    simp

/-- Where the earlier half of the scores is masked, values repeated there mix as zeros there. -/
theorem mix_first (s : Fin 256 → EReal) (snk : EReal) (v : Fin 128 → EReal) (hs : ∀ j : Fin 256, j.val < 128 → s j = ⊥) :
    mix s snk (rows v v) = mix s snk (rows (fun _ => 0) v) := by
  unfold mix
  rw [sum_rows, sum_rows]
  have h0 : ∀ j : Fin 128, weight s snk ⟨j.val, by omega⟩ = Ideal.div 0 (den s snk) := fun j => by
    unfold weight
    rw [hs ⟨j.val, by omega⟩ j.isLt, EReal.bot_sub, Ideal.exp_bot]
  by_cases hd : den s snk = 0
  · have hsum : ∑ j, Ideal.exp (s j - top s snk) = 0 :=
      le_antisymm (le_trans (le_add_of_nonneg_right (exp_nonneg _)) (le_of_eq hd)) (Finset.sum_nonneg fun j _ => exp_nonneg _)
    have he : ∀ j, Ideal.exp (s j - top s snk) = 0 := fun j =>
      (Finset.sum_eq_zero_iff_of_nonneg fun j _ => exp_nonneg _).1 hsum j (Finset.mem_univ _)
    have hw : ∀ j, weight s snk j = ⊥ := fun j => by
      unfold weight
      rw [he j, hd]
      simp [Ideal.div]
    simp only [hw, mul_zero, Finset.sum_const_zero, zero_add]
    exact double_sum v
  · have hz : Ideal.div 0 (den s snk) = 0 := by
      unfold Ideal.div
      rw [if_neg hd, zero_mul]
    simp only [h0, hz, zero_mul, mul_zero]

end Cert.Attention
-- ==== Proof.Tables.lean ====
/-
  The tables of angles that the host builds before the attention kernel: cosines and sines of each
  position, over 128 columns, read at an index.
-/
module

public import proofs.«01_k».proof.Proof.Tile
public import Idealize.ShloMosaic.Lib.StableHlo.RunRead

@[expose] public section

noncomputable section

namespace Cert.Attention

open Idealize.ShloMosaic

/-- The angle of frequency `d` at position `s`: the position times `500000 ^ (-(2 d / 16))`. -/
def angle (s d : ℕ) : EReal :=
  (FloatOps.sitofp FTy.f32 (BitVec.ofNat 32 s) : Ideal .f32) * Ideal.pow (Ideal.ofBits FTy.f32 0x48F42400#32)
    (-Ideal.div ((FloatOps.sitofp FTy.f32 (BitVec.ofNat 32 d) : Ideal .f32) * Ideal.ofBits FTy.f32 0x40000000#32)
      (Ideal.ofBits FTy.f32 0x41800000#32))
/-- Its cosine. -/
def cosAt (s d : ℕ) : EReal := Ideal.cos (angle s d)
/-- Its sine. -/
def sinAt (s d : ℕ) : EReal := Ideal.sin (angle s d)

end Cert.Attention

namespace Cert.KernelIdeal.Block

open Cert.KernelIdeal Cert.KernelIdeal.Gen Cert.Attention Idealize.ShloMosaic Idealize.ShloMosaic.TcCoe Idealize.SL.Sem

variable (m : (ℓ : Loc nD τ sig) → Buf (Elt Ideal) ℓ)

/-- The first table: the cosines, one on the columns that are not turned. -/
theorem cos_apply (c : Dev nD) (s : Fin 2048) (l : Fin 128) :
    V m c main_v35 (ix3 0 s l) = cosTab (cosAt s.val) (l.val % 64) := by
  unfold_abbrev_sides
  after_reads_simp
  pointwise
  after_reads_simp
  pointwise
  after_reads_simp
  pointwise
  unfold cosTab cosAt angle
  by_cases a : l.val % 64 < 8
  · rw [dif_pos a, if_pos a]
  · rw [dif_neg a, if_neg a]
    by_cases b : l.val % 64 < 16
    · rw [dif_pos (by omega), if_pos b]
    · rw [dif_neg (by omega), if_neg b]

/-- The second: minus the sines on the first eight columns. -/
theorem sin1_apply (c : Dev nD) (s : Fin 2048) (l : Fin 128) :
    V m c main_v35 (ix3 1 s l) = sinTab1 (sinAt s.val) (l.val % 64) := by
  unfold_abbrev_sides
  after_reads_simp
  pointwise
  after_reads_simp
  pointwise
  after_reads_simp
  pointwise
  unfold sinTab1 sinAt angle
  by_cases a : l.val % 64 < 8
  · rw [dif_pos a, if_pos a]
  · rw [dif_neg a, if_neg a]
    split <;> rfl

/-- The third: the sines on the second eight columns. -/
theorem sin2_apply (c : Dev nD) (s : Fin 2048) (l : Fin 128) :
    V m c main_v35 (ix3 2 s l) = sinTab2 (sinAt s.val) (l.val % 64) := by
  unfold_abbrev_sides
  after_reads_simp
  pointwise
  after_reads_simp
  pointwise
  after_reads_simp
  pointwise
  unfold sinTab2 sinAt angle
  by_cases a : l.val % 64 < 8
  · rw [dif_pos a, if_pos a]
  · rw [dif_neg a, if_neg a]
    by_cases b : l.val % 64 < 16
    · rw [dif_pos (by omega), if_pos b]
    · rw [dif_neg (by omega), if_neg b]

end Cert.KernelIdeal.Block
-- ==== Proof.Windows.lean ====
/-
  The blocks a grid point reads, entry by entry, as entries of the arguments and of the tables: point `t`
  is block `t % 16` of sequence `t / 16`, its rows start at `128 t`, and the block before it starts 128 rows
  earlier, or is the same block at the start of a sequence.
-/
module

public import proofs.«01_k».proof.Proof.Point
public import proofs.«01_k».proof.Proof.Tables
public import Idealize.ShloMosaic.Lib.Pipeline.ValueKit

@[expose] public section

noncomputable section

namespace Cert.KernelIdeal.Block

open Cert.KernelIdeal Cert.KernelIdeal.Gen Cert.Attention Idealize.ShloMosaic Idealize.ShloMosaic.TcCoe Idealize.SL.Sem

/-- The number of the block before block `t`, in the sequence of `t`. -/
def before (t : ℕ) : ℕ := t / 16 * 16 + (t % 16 - 1)

theorem at0 : ∀ t : Fin cfg0.N, win0_0.index t = ![0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 8] := (by decide +kernel : ∀ t : Fin grid0.N, _)
theorem at3 : ∀ t : Fin cfg0.N, win0_3.index t = ![t.val, 9] := (by decide +kernel : ∀ t : Fin grid0.N, _)
theorem at4 : ∀ t : Fin cfg0.N, win0_4.index t = ![before t.val, 8] := (by decide +kernel : ∀ t : Fin grid0.N, _)
theorem at5 : ∀ t : Fin cfg0.N, win0_5.index t = ![before t.val, 9] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, t.val % 16, 0] := (by decide +kernel : ∀ t : Fin grid0.N, _)
theorem at8 : ∀ t : Fin cfg0.N, win0_8.index t = ![0, t.val % 16 - 1, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val / 16, 0, 0] := (by decide +kernel : ∀ t : Fin grid0.N, _)
theorem at11 : ∀ t : Fin cfg0.N, win0_11.index t = ![t.val / 16, 0, 0] := (by decide +kernel : ∀ t : Fin grid0.N, _)
theorem coord1 : ∀ t : Fin cfg0.N, (grid0.coords t 1).val = t.val % 16 := (by decide +kernel : ∀ t : Fin grid0.N, _)

theorem lt64 (t : Fin cfg0.N) : t.val < 64 := t.isLt

variable (m : (ℓ : Loc nD τ sig) → Buf (Elt Ideal) ℓ)

/-- The sinks. -/
theorem sink_apply (c : Dev nD) (t : Fin cfg0.N) (h : Fin 32) :
    iblk m c 0 t (ix1 h) = m ((c : Thread nD τ).loc main_arg2) (ix1 h) := by
  refine Eq.trans ?_ (congrFun (V_main_arg2 m c) _)
  blk_simp [iblk, at0]
  refine congrArg (V m c main_arg2) ?_
  blk_ext [at0]

/-- The queries of a block. -/
theorem q_apply (c : Dev nD) (t : Fin cfg0.N) (r : Fin 128) (l : Fin 2048) :
    X0_1 m c t (ix2 r l) = m ((c : Thread nD τ).loc main_arg0) (ix2 ⟨128 * t.val + r.val, by have := lt64 t; omega⟩ ⟨l.val, by omega⟩) := by
  refine Eq.trans ?_ (congrFun (V_main_arg0 m c) _)
  unfold X0_1 Pipeline.Window.fill
  rw [dif_pos (moved0_1 t _)]
  blk_simp [iblk, at1]
  refine congrArg (V m c main_arg0) ?_
  blk_ext [at1]

/-- The keys of a block. -/
theorem k_apply (c : Dev nD) (t : Fin cfg0.N) (r : Fin 128) (l : Fin 256) :
    iblk m c 2 t (ix2 r l) = m ((c : Thread nD τ).loc main_arg0) (ix2 ⟨128 * t.val + r.val, by have := lt64 t; omega⟩ ⟨2048 + l.val, by omega⟩) := by
  refine Eq.trans ?_ (congrFun (V_main_arg0 m c) _)
  blk_simp [iblk, at2]
  refine congrArg (V m c main_arg0) ?_
  blk_ext [at2]

/-- The values of a block. -/
theorem v_apply (c : Dev nD) (t : Fin cfg0.N) (r : Fin 128) (l : Fin 256) :
    iblk m c 3 t (ix2 r l) = m ((c : Thread nD τ).loc main_arg0) (ix2 ⟨128 * t.val + r.val, by have := lt64 t; omega⟩ ⟨2304 + l.val, by omega⟩) := by
  refine Eq.trans ?_ (congrFun (V_main_arg0 m c) _)
  blk_simp [iblk, at3]
  refine congrArg (V m c main_arg0) ?_
  blk_ext [at3]

/-- The keys of the block before. -/
theorem kprev_apply (c : Dev nD) (t : Fin cfg0.N) (r : Fin 128) (l : Fin 256) :
    iblk m c 4 t (ix2 r l) = m ((c : Thread nD τ).loc main_arg0) (ix2 ⟨128 * before t.val + r.val, by have := lt64 t; unfold before; omega⟩ ⟨2048 + l.val, by omega⟩) := by
  refine Eq.trans ?_ (congrFun (V_main_arg0 m c) _)
  blk_simp [iblk, at4]
  refine congrArg (V m c main_arg0) ?_
  blk_ext [at4]

/-- The values of the block before. -/
theorem vprev_apply (c : Dev nD) (t : Fin cfg0.N) (r : Fin 128) (l : Fin 256) :
    iblk m c 5 t (ix2 r l) = m ((c : Thread nD τ).loc main_arg0) (ix2 ⟨128 * before t.val + r.val, by have := lt64 t; unfold before; omega⟩ ⟨2304 + l.val, by omega⟩) := by
  refine Eq.trans ?_ (congrFun (V_main_arg0 m c) _)
  blk_simp [iblk, at5]
  refine congrArg (V m c main_arg0) ?_
  blk_ext [at5]

/-- The gates of a block. -/
theorem gate_apply (c : Dev nD) (t : Fin cfg0.N) (r : Fin 128) (l : Fin 2048) :
    iblk m c 6 t (ix2 r l) = m ((c : Thread nD τ).loc main_arg1) (ix2 ⟨128 * t.val + r.val, by have := lt64 t; omega⟩ l) := by
  refine Eq.trans ?_ (congrFun (V_main_arg1 m c) _)
  blk_simp [iblk, at6]
  refine congrArg (V m c main_arg1) ?_
  blk_ext [at6]

/-- A block's rows of the tables, at position `128 b + r` of the sequence. -/
theorem table_block (c : Dev nD) (t : Fin cfg0.N) (e : Fin 3) (r l : Fin 128) :
    iblk m c 7 t (ix3 e r l) = V m c main_v35 (ix3 e ⟨128 * (t.val % 16) + r.val, by omega⟩ l) := by
  blk_simp [iblk, at7]
  refine congrArg (V m c main_v35) ?_
  blk_ext [at7]

/-- The rows of the block before. -/
theorem table_block_prev (c : Dev nD) (t : Fin cfg0.N) (e : Fin 3) (r l : Fin 128) :
    iblk m c 8 t (ix3 e r l) = V m c main_v35 (ix3 e ⟨128 * (t.val % 16 - 1) + r.val, by omega⟩ l) := by
  blk_simp [iblk, at8]
  refine congrArg (V m c main_v35) ?_
  blk_ext [at8]

theorem tables_block (c : Dev nD) (t : Fin cfg0.N) :
    Tables (iblk m c 7 t) (fun r => cosAt (128 * (t.val % 16) + r.val)) (fun r => sinAt (128 * (t.val % 16) + r.val)) :=
  fun r l => ⟨(table_block m c t 0 r l).trans (cos_apply m c _ l), (table_block m c t 1 r l).trans (sin1_apply m c _ l),
    (table_block m c t 2 r l).trans (sin2_apply m c _ l)⟩

theorem tables_block_prev (c : Dev nD) (t : Fin cfg0.N) :
    Tables (iblk m c 8 t) (fun r => cosAt (128 * (t.val % 16 - 1) + r.val)) (fun r => sinAt (128 * (t.val % 16 - 1) + r.val)) :=
  fun r l => ⟨(table_block_prev m c t 0 r l).trans (cos_apply m c _ l), (table_block_prev m c t 1 r l).trans (sin1_apply m c _ l),
    (table_block_prev m c t 2 r l).trans (sin2_apply m c _ l)⟩

end Cert.KernelIdeal.Block
-- ==== Proof.Arrays.lean ====
/-
  The three result arrays after the run, entry by entry as functions of the arguments: the gated attention,
  and each sequence's last 128 rotated keys and values.
-/
module

public import proofs.«01_k».proof.Proof.Windows

@[expose] public section

noncomputable section

namespace Cert.KernelIdeal.Block

open Cert.KernelIdeal Cert.KernelIdeal.Gen Cert.Attention Idealize.ShloMosaic Idealize.ShloMosaic.TcCoe Idealize.SL.Sem

/-- The gated attention at row `r` of block `t`, column `l`, from the arguments. -/
def attentionAt (X : FVec Ideal S8192x2560 .f32) (G : FVec Ideal S8192x2048 .f32) (Snk : FVec Ideal S32 .f32)
    (t : Fin 64) (r : Fin 128) (l : Fin 2048) : EReal :=
  entry (t.val % 16) (fun h => Snk (ix1 h)) (fun r l => X (ix2 ⟨128 * t.val + r.val, by omega⟩ ⟨l.val, by omega⟩))
    (fun r l => G (ix2 ⟨128 * t.val + r.val, by omega⟩ l))
    (fun r l => X (ix2 ⟨128 * t.val + r.val, by omega⟩ ⟨2048 + l.val, by omega⟩))
    (fun r l => X (ix2 ⟨128 * t.val + r.val, by omega⟩ ⟨2304 + l.val, by omega⟩))
    (fun r l => X (ix2 ⟨128 * before t.val + r.val, by unfold before; omega⟩ ⟨2048 + l.val, by omega⟩))
    (fun r l => X (ix2 ⟨128 * before t.val + r.val, by unfold before; omega⟩ ⟨2304 + l.val, by omega⟩))
    (fun r => cosAt (128 * (t.val % 16) + r.val)) (fun r => sinAt (128 * (t.val % 16) + r.val))
    (fun r => cosAt (128 * (t.val % 16 - 1) + r.val)) (fun r => sinAt (128 * (t.val % 16 - 1) + r.val)) r l

/-- The gated attention of all rows. -/
def attention (X : FVec Ideal S8192x2560 .f32) (G : FVec Ideal S8192x2048 .f32) (Snk : FVec Ideal S32 .f32) :
    FVec Ideal S8192x2048 .bf16 :=
  fun y => attentionAt X G Snk ⟨(y 0).val / 128, by have := (y 0).isLt; change (y 0).val < 8192 at this; omega⟩
    ⟨(y 0).val % 128, by omega⟩ (y 1)

/-- The last 128 rotated keys of each sequence. -/
def lastKeys (X : FVec Ideal S8192x2560 .f32) : FVec Ideal S4x128x256 .f32 := fun y =>
  have hb : (y 0).val < 4 := (y 0).isLt
  have hr : (y 1).val < 128 := (y 1).isLt
  have hl : (y 2).val < 256 := (y 2).isLt
  rot (fun d => X (ix2 ⟨2048 * (y 0).val + 1920 + (y 1).val, by omega⟩ ⟨2048 + (64 * ((y 2).val / 64) + d.val), by omega⟩))
    (cosAt (1920 + (y 1).val)) (sinAt (1920 + (y 1).val)) ⟨(y 2).val % 64, by omega⟩

/-- The last 128 values of each sequence. -/
def lastValues (X : FVec Ideal S8192x2560 .f32) : FVec Ideal S4x128x256 .f32 := fun y =>
  have hb : (y 0).val < 4 := (y 0).isLt
  have hr : (y 1).val < 128 := (y 1).isLt
  have hl : (y 2).val < 256 := (y 2).isLt
  X (ix2 ⟨2048 * (y 0).val + 1920 + (y 1).val, by omega⟩ ⟨2304 + (y 2).val, by omega⟩)

/-- The gated attention at an index of block `t`. -/
theorem attention_at (X : FVec Ideal S8192x2560 .f32) (G : FVec Ideal S8192x2048 .f32) (Snk : FVec Ideal S32 .f32)
    (y : S8192x2048.Idx) (t : Fin 64) (r : Fin 128) (l : Fin 2048) (h0 : (y 0).val = 128 * t.val + r.val) (h1 : (y 1).val = l.val) :
    attention X G Snk y = attentionAt X G Snk t r l := by
  unfold attention
  congr 1
  · exact Fin.ext (by show (y 0).val / 128 = t.val; omega)
  · exact Fin.ext (by show (y 0).val % 128 = r.val; omega)
  · exact Fin.ext h1

/-- The last keys at an index. -/
theorem lastKeys_at (X : FVec Ideal S8192x2560 .f32) (y : S4x128x256.Idx) (b : Fin 4) (r : Fin 128) (l : Fin 256)
    (h0 : (y 0).val = b.val) (h1 : (y 1).val = r.val) (h2 : (y 2).val = l.val) :
    lastKeys X y = rot (fun d => X (ix2 ⟨2048 * b.val + 1920 + r.val, by omega⟩ ⟨2048 + (64 * (l.val / 64) + d.val), by omega⟩))
      (cosAt (1920 + r.val)) (sinAt (1920 + r.val)) ⟨l.val % 64, by omega⟩ := by
  obtain rfl : y = ix3 b r l := by
    funext a
    match a with
    | ⟨0, _⟩ => exact Fin.ext h0
    | ⟨1, _⟩ => exact Fin.ext h1
    | ⟨2, _⟩ => exact Fin.ext h2
  rfl

/-- The last values at an index. -/
theorem lastValues_at (X : FVec Ideal S8192x2560 .f32) (y : S4x128x256.Idx) (b : Fin 4) (r : Fin 128) (l : Fin 256)
    (h0 : (y 0).val = b.val) (h1 : (y 1).val = r.val) (h2 : (y 2).val = l.val) :
    lastValues X y = X (ix2 ⟨2048 * b.val + 1920 + r.val, by omega⟩ ⟨2304 + l.val, by omega⟩) := by
  obtain rfl : y = ix3 b r l := by
    funext a
    match a with
    | ⟨0, _⟩ => exact Fin.ext h0
    | ⟨1, _⟩ => exact Fin.ext h1
    | ⟨2, _⟩ => exact Fin.ext h2
  rfl

variable (m : (ℓ : Loc nD τ sig) → Buf (Elt Ideal) ℓ)

/-- The attention array. -/
theorem array9 (c : Dev nD) : (dats m 0 c).arrAt 9 cfg0.N
    = attention (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  unfold outsAt0
  dsimp only
  obtain ⟨r, l, rfl⟩ : ∃ (r : Fin 128) (l : Fin 2048), y = ix2 r l := ⟨y 0, y 1, eq_ix2 y⟩
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (X0_1 m c t) (iblk m c 2 t)
    (iblk m c 3 t) (iblk m c 4 t) (iblk m c 5 t) (iblk m c 6 t) (iblk m c 7 t) (iblk m c 8 t) _ _ _ _ (tables_block m c t)
    (tables_block_prev m c t) r l).trans ?_
  rw [attention_at _ _ _ _ ⟨t.val, lt64 t⟩ r l (by blk_simp [at9]; show _ = 128 * t.val + r.val; omega)
    (by blk_simp [at9])]
  unfold attentionAt
  simp only [sink_apply, q_apply, k_apply, v_apply, kprev_apply, vprev_apply, gate_apply, coord1]

/-- Only the last block of a sequence is written back to the last keys and values. -/
theorem last_of_flush10 (t : Fin cfg0.N) (h : (cfg0.win 10).flush t = true) : t.val % 16 = 15 := (flush0_10 t).1 h
theorem last_of_flush11 (t : Fin cfg0.N) (h : (cfg0.win 11).flush t = true) : t.val % 16 = 15 := (flush0_11 t).1 h

/-- The array of the last values. -/
theorem array11 (c : Dev nD) : (dats m 0 c).arrAt 11 cfg0.N = lastValues (m ((c : Thread nD τ).loc main_arg0)) := by
  refine (dats m 0 c).arrAt_eq_of_covers 11 _ (by decide +kernel) fun t hf y => ?_
  have ht := last_of_flush11 t hf
  have h64 := lt64 t
  blk_simp
  rw [after0_11]
  unfold outsAt0
  frame_out
  obtain ⟨z, r, l, rfl⟩ : ∃ (z : Fin 1) (r : Fin 128) (l : Fin 256), y = ix3 z r l := ⟨y 0, y 1, y 2, eq_ix3 y⟩
  rw [lastValues_at _ _ ⟨t.val / 16, by omega⟩ r l (by blk_simp [at11]) (by blk_simp [at11]) (by blk_simp [at11])]
  pointwise
  rw [v_apply]
  refine congrArg (m ((c : Thread nD τ).loc main_arg0)) ?_
  blk_ext

/-- The array of the last rotated keys. -/
theorem array10 (c : Dev nD) : (dats m 0 c).arrAt 10 cfg0.N = lastKeys (m ((c : Thread nD τ).loc main_arg0)) := by
  refine (dats m 0 c).arrAt_eq_of_covers 10 _ (by decide +kernel) fun t hf y => ?_
  have ht := last_of_flush10 t hf
  have h64 := lt64 t
  blk_simp
  rw [after0_10]
  unfold outsAt0
  frame_out
  rw [(hs0_7 t).read_unread, (hs0_2 t).read_unread]
  obtain ⟨z, r, l, rfl⟩ : ∃ (z : Fin 1) (r : Fin 128) (l : Fin 256), y = ix3 z r l := ⟨y 0, y 1, y 2, eq_ix3 y⟩
  rw [lastKeys_at _ _ ⟨t.val / 16, by omega⟩ r l (by blk_simp [at10]) (by blk_simp [at10]) (by blk_simp [at10])]
  show shapeCast S1x128x256 (ropeKeys (F := Ideal) _ _ _ _) _ (ix3 z r l) = _
  pointwise
  have e : 128 * (t.val % 16) = 1920 := by omega
  refine (ropeKeys_apply _ _ _ _ (cosAt (1920 + r.val)) (sinAt (1920 + r.val)) r
    (fun l => (ld_table 0 _ _ r l).trans (e ▸ (tables_block m c t r l).1))
    (fun l => (ld_table 1 _ _ r l).trans (e ▸ (tables_block m c t r l).2.1))
    (fun l => (ld_table 2 _ _ r l).trans (e ▸ (tables_block m c t r l).2.2)) l).trans ?_
  refine congrArg (fun x => rot x _ _ _) (funext fun d => ?_)
  refine ((congrFun (View.ld_unit_zero (Val := Elt Ideal) (S := S128x256) (e := .f32) zero2 _ (iblk m c 2 t)) _).trans
    (k_apply m c t r _)).trans ?_
  refine congrArg (m ((c : Thread nD τ).loc main_arg0)) ?_
  blk_ext

end Cert.KernelIdeal.Block
-- ==== Proof.RefRead.lean ====
/-
  The reference's stages, entry by entry: the rotated queries and keys, the keys and values of two blocks,
  and the mask.
-/
module

public import proofs.«01_k».proof.Proof.Gen.ReferenceIdeal.Read
public import proofs.«01_k».proof.Proof.Arrays

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

/-- The cosines and sines of the queries' positions. -/
theorem cosq_apply (s : Fin 2048) (d : Fin 8) : val_main_v19 (F := Ideal) (ix2 s d) = cosAt s.val d.val := by
  pointwise [val_main_v19, val_main_v18, val_main_v17, val_main_v16, val_main_v15, val_main_v14, val_main_v13, val_main_v12,
    val_main_cst_1, val_main_v11, val_main_v10, val_main_v9, val_main_cst_0, val_main_v8, val_main_v7, val_main_cst, val_main_v6, val_main_v0]
  rfl

theorem sinq_apply (s : Fin 2048) (d : Fin 8) : val_main_v21 (F := Ideal) (ix2 s d) = sinAt s.val d.val := by
  pointwise [val_main_v21, val_main_v18, val_main_v17, val_main_v16, val_main_v15, val_main_v14, val_main_v13, val_main_v12,
    val_main_cst_1, val_main_v11, val_main_v10, val_main_v9, val_main_cst_0, val_main_v8, val_main_v7, val_main_cst, val_main_v6, val_main_v0]
  rfl

/-- The rotated queries. -/
theorem q_apply (b : Fin 4) (s : Fin 2048) (h : Fin 32) (d : Fin 64) :
    val_main_v36 (F := Ideal) X (ix4 b s h d)
      = rot (fun d => X (ix2 ⟨b.val * 2048 + s.val, by omega⟩ ⟨h.val * 64 + d.val, by omega⟩)) (cosAt s.val) (sinAt s.val) d := by
  pointwise [val_main_v36, val_main_v35, val_main_v34, val_main_v33, val_main_v32, val_main_v31, val_main_v30, val_main_v29, val_main_v28,
    val_main_v27, val_main_v26, val_main_v25, val_main_v24, val_main_v23, val_main_v22, val_main_v20, val_main_v5, val_main_v2, val_main_v1]
  simp only [cosq_apply, sinq_apply]
  unfold rot
  by_cases h1 : d.val < 8
  · rw [dif_pos h1, dif_pos h1]
    have e1 : h.val * 64 + (8 + d.val) = h.val * 64 + (d.val + 8) := by omega
    simp only [e1]
  · rw [dif_neg h1, dif_neg h1]
    by_cases h2 : d.val < 16
    · have h3 : d.val - 8 < 8 := by omega
      rw [dif_pos h3, if_pos h2]
      have e1 : h.val * 64 + (8 + (d.val - 8)) = h.val * 64 + d.val := by omega
      simp only [e1]
    · have h3 : ¬ d.val - 8 < 8 := by omega
      rw [dif_neg h3, if_neg h2]
      have e1 : h.val * 64 + (16 + (d.val - 8 - 8)) = h.val * 64 + d.val := by omega
      simp only [e1]

/-- The cosines and sines of the keys' positions. -/
theorem cosk_apply (s : Fin 2048) (d : Fin 8) : val_main_v51 (F := Ideal) (ix2 s d) = cosAt s.val d.val := by
  pointwise [val_main_v51, val_main_v50, val_main_v49, val_main_v48, val_main_v47, val_main_v46, val_main_v45, val_main_v44,
    val_main_cst_4, val_main_v43, val_main_v42, val_main_v41, val_main_cst_3, val_main_v40, val_main_v39, val_main_cst_2, val_main_v38, val_main_v0]
  rfl

theorem sink_apply (s : Fin 2048) (d : Fin 8) : val_main_v53 (F := Ideal) (ix2 s d) = sinAt s.val d.val := by
  pointwise [val_main_v53, val_main_v50, val_main_v49, val_main_v48, val_main_v47, val_main_v46, val_main_v45, val_main_v44,
    val_main_cst_4, val_main_v43, val_main_v42, val_main_v41, val_main_cst_3, val_main_v40, val_main_v39, val_main_cst_2, val_main_v38, val_main_v0]
  rfl

/-- The rotated keys of head `g` at row `s` of sequence `b`. -/
def keyRow (X : FVec Ideal S8192x2560 .f32) (b : Fin 4) (s : Fin 2048) (g : Fin 4) : Fin 64 → EReal :=
  rot (fun d => X (ix2 ⟨b.val * 2048 + s.val, by omega⟩ ⟨2048 + (g.val * 64 + d.val), by omega⟩)) (cosAt s.val) (sinAt s.val)

/-- The values of head `g` at row `s` of sequence `b`. -/
def valueRow (X : FVec Ideal S8192x2560 .f32) (b : Fin 4) (s : Fin 2048) (g : Fin 4) (d : Fin 64) : EReal :=
  X (ix2 ⟨b.val * 2048 + s.val, by omega⟩ ⟨2304 + (g.val * 64 + d.val), by omega⟩)

theorem k_apply (b : Fin 4) (s : Fin 2048) (g : Fin 4) (d : Fin 64) :
    val_main_v68 (F := Ideal) X (ix4 b s g d) = keyRow X b s g d := by
  pointwise [val_main_v68, val_main_v67, val_main_v66, val_main_v65, val_main_v64, val_main_v63, val_main_v62, val_main_v61, val_main_v60,
    val_main_v59, val_main_v58, val_main_v57, val_main_v56, val_main_v55, val_main_v54, val_main_v52, val_main_v37, val_main_v3, val_main_v1]
  simp only [cosk_apply, sink_apply]
  unfold keyRow rot
  by_cases h1 : d.val < 8
  · rw [dif_pos h1, dif_pos h1]
    have e1 : g.val * 64 + (8 + d.val) = g.val * 64 + (d.val + 8) := by omega
    simp only [e1]
  · rw [dif_neg h1, dif_neg h1]
    by_cases h2 : d.val < 16
    · have h3 : d.val - 8 < 8 := by omega
      rw [dif_pos h3, if_pos h2]
      have e1 : g.val * 64 + (8 + (d.val - 8)) = g.val * 64 + d.val := by omega
      simp only [e1]
    · have h3 : ¬ d.val - 8 < 8 := by omega
      rw [dif_neg h3, if_neg h2]
      have e1 : g.val * 64 + (16 + (d.val - 8 - 8)) = g.val * 64 + d.val := by omega
      simp only [e1]

theorem v_apply (b : Fin 4) (s : Fin 2048) (g : Fin 4) (d : Fin 64) :
    val_main_v69 (F := Ideal) X (ix4 b s g d) = valueRow X b s g d := by
  pointwise [val_main_v69, val_main_v4, val_main_v1]
  rfl

/-- Row `r` of block `n` of a sequence. -/
def at_ (n : Fin 16) (r : Fin 128) : Fin 2048 := ⟨n.val * 128 + r.val, by omega⟩

/-- The block before, for a block that is not the first. -/
def pred (n : Fin 16) : Fin 16 := ⟨n.val - 1, by omega⟩

/-- A block after the first. -/
theorem positive (n : ℕ) (hn : n < 16) : IntOp.cmpi .sgt (BitVec.ofNat 32 n) 0#32 = if 0 < n then 1#1 else 0#1 := by
  rw [← ofBool_ite]
  show BitVec.ofBool (BitVec.slt _ _) = _
  rw [BitVec.slt_eq_decide, nat_int n (by omega)]
  simp

/-- The mask. -/
theorem mask_apply (b : Fin 4) (n : Fin 16) (g : Fin 4) (e : Fin 8) (r : Fin 128) (j : Fin 256) :
    val_main_call0_v1 (F := Ideal) (ix6 b n g e r j) = if sees (n.val = 0) r.val j.val then 1#1 else 0#1 := by
  pointwise [val_main_call0_v1, val_main_v115, val_main_v114, val_main_v113, val_main_v112, val_main_v111, val_main_v110, val_main_v109,
    val_main_v108, val_main_v107, val_main_v106, val_main_v105, val_main_c_11, val_main_v104, val_main_v103, val_main_c_10, val_main_v102,
    val_main_v101, val_main_v100, val_main_v99, val_main_v98, val_main_c_9, val_main_v97, val_main_v96, val_main_c_8, val_main_v95,
    val_main_v94, val_main_v93, val_main_v92, val_main_v91, val_main_c, val_main_v90, val_main_v89, val_main_v88, val_main_v87]
  rw [not_ahead r.val j.val r.isLt j.isLt, not_behind r.val j.val r.isLt j.isLt, positive n.val n.isLt,
    at_least j.val 128 (by omega) (by omega), or_ite, and_ite, and_ite]
  refine if_congr ?_ rfl rfl
  unfold sees
  omega

end Cert.ReferenceIdeal.Rows
-- ==== Proof.RefRows.lean ====
/-
  The rows the reference attends from and to: the query of a head, and the 256 keys and values of a block.
-/
module

public import proofs.«01_k».proof.Proof.RefRead

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

/-- The query of head `8 g + e` at row `r` of block `n`. -/
def query (X : FVec Ideal S8192x2560 .f32) (b : Fin 4) (n : Fin 16) (g : Fin 4) (e : Fin 8) (r : Fin 128) : Fin 64 → EReal :=
  rot (fun d => X (ix2 ⟨b.val * 2048 + (at_ n r).val, by omega⟩ ⟨(g.val * 8 + e.val) * 64 + d.val, by omega⟩))
    (cosAt (at_ n r).val) (sinAt (at_ n r).val)

/-- The 256 keys of block `n`. -/
def keys (X : FVec Ideal S8192x2560 .f32) (b : Fin 4) (n : Fin 16) (g : Fin 4) : Fin 256 → Fin 64 → EReal := fun j d =>
  rows (fun j => if n.val = 0 then 0 else keyRow X b (at_ (pred n) j) g d) (fun j => keyRow X b (at_ n j) g d) j

/-- The 256 values of block `n` at column `d`. -/
def values (X : FVec Ideal S8192x2560 .f32) (b : Fin 4) (n : Fin 16) (g : Fin 4) (d : Fin 64) : Fin 256 → EReal :=
  rows (fun j => if n.val = 0 then 0 else valueRow X b (at_ (pred n) j) g d) (fun j => valueRow X b (at_ n j) g d)

/-- The scores of a query row. -/
def scoreRow (X : FVec Ideal S8192x2560 .f32) (b : Fin 4) (n : Fin 16) (g : Fin 4) (e : Fin 8) (r : Fin 128) : Fin 256 → EReal :=
  scores (n.val = 0) r.val (query X b n g e r) (keys X b n g)

end Cert.ReferenceIdeal.Rows
-- ==== Proof.RefKeys.lean ====
/-
  The reference's keys and values of two blocks, an earlier block and its own.
-/
module

public import proofs.«01_k».proof.Proof.RefRead

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

/-- The 256 keys of block `n`: the earlier block's, zero before the first block, then its own. -/
theorem keys_apply (b : Fin 4) (n : Fin 16) (j : Fin 256) (g : Fin 4) (d : Fin 64) :
    val_main_v76 (F := Ideal) X (ix5 b n j g d)
      = rows (fun j => if n.val = 0 then 0 else keyRow X b (at_ (pred n) j) g d) (fun j => keyRow X b (at_ n j) g d) j := by
  pointwise [val_main_v76, val_main_v75, val_main_v73, val_main_v74, val_main_v72, val_main_v71, val_main_cst_5]
  simp only [k_apply]
  unfold rows
  by_cases hj : j.val < 128
  · rw [dif_pos hj, dif_pos hj]
    by_cases hn : n.val < 1
    · rw [dif_pos hn]
      exact (if_pos (show n.val = 0 by omega)).symm
    · rw [dif_neg hn]
      exact (if_neg (show ¬ n.val = 0 by omega)).symm
  · rw [dif_neg hj, dif_neg hj]
    rfl

theorem values_apply (b : Fin 4) (n : Fin 16) (j : Fin 256) (g : Fin 4) (d : Fin 64) :
    val_main_v82 (F := Ideal) X (ix5 b n j g d)
      = rows (fun j => if n.val = 0 then 0 else valueRow X b (at_ (pred n) j) g d) (fun j => valueRow X b (at_ n j) g d) j := by
  pointwise [val_main_v82, val_main_v81, val_main_v80, val_main_v79, val_main_v78, val_main_v77, val_main_cst_6]
  simp only [v_apply]
  unfold rows
  by_cases hj : j.val < 128
  · rw [dif_pos hj, dif_pos hj]
    by_cases hn : n.val < 1
    · rw [dif_pos hn]
      exact (if_pos (show n.val = 0 by omega)).symm
    · rw [dif_neg hn]
      exact (if_neg (show ¬ n.val = 0 by omega)).symm
  · rw [dif_neg hj, dif_neg hj]
    rfl

end Cert.ReferenceIdeal.Rows
-- ==== Proof.RefScore.lean ====
/-
  The reference's masked scores.
-/
module

public import proofs.«01_k».proof.Proof.RefRows
public import proofs.«01_k».proof.Proof.RefKeys

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

theorem score_apply (b : Fin 4) (n : Fin 16) (g : Fin 4) (e : Fin 8) (r : Fin 128) (j : Fin 256) :
    val_main_v118 (F := Ideal) X (ix6 b n g e r j) = scoreRow X b n g e r j := by
  have hz : val_main_call0_v2 (F := Ideal) (ix6 b n g e r j) = ⊥ := by
    pointwise [val_main_call0_v2, val_main_call0_v0, val_main_cst_12]
    exact bits_neg_inf
  have hq : val_main_v86 (F := Ideal) X (ix6 b n g e r j)
      = (∑ d, query X b n g e r d * keys X b n g j d) * Ideal.ofBits .f32 0x3E000000#32 := by
    pointwise [val_main_v86, val_main_v85, val_main_v84, val_main_v83, val_main_v70, val_main_cst_7,
      dot_S4x16x256x4x64_S4x16x128x4x8x64_S4x16x4x256x128x8_4_5_2_24_013_013]
    simp only [keys_apply, q_apply]
    refine congrArg (· * _) (Finset.sum_congr rfl fun d _ => ?_)
    exact mul_comm _ _
  rw [val_main_v118_apply, mask_apply, hz, hq, select_sees]
  rfl

end Cert.ReferenceIdeal.Rows
-- ==== Proof.RefSoft.lean ====
/-
  The softmax of the reference's scores, with a sink.
-/
module

public import proofs.«01_k».proof.Proof.RefScore

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

/-- The largest of 256 scores. -/
theorem fold_apply (b : Fin 4) (n : Fin 16) (g : Fin 4) (e : Fin 8) (r : Fin 128) :
    val_main_v119 (F := Ideal) X (ix5 b n g e r) = Finset.univ.fold max ⊥ (scoreRow X b n g e r) := by
  have h : S4x16x4x8x128x256.Reduces [5] S4x16x4x8x128 := by decide
  have hl : ∀ j : Fin 256, val_main_v118 (F := Ideal) X (h.lift (ix5 b n g e r) j) = scoreRow X b n g e r j := fun j => by
    rw [show h.lift (ix5 b n g e r) j = ix6 b n g e r j from funext fun a => Fin.ext (by
      match a with | ⟨0, _⟩ => rfl | ⟨1, _⟩ => rfl | ⟨2, _⟩ => rfl | ⟨3, _⟩ => rfl | ⟨4, _⟩ => rfl | ⟨5, _⟩ => rfl)]
    exact score_apply X b n g e r j
  have hz : val_main_cst_13 (F := Ideal) (Shape.Idx.first Gen.h_S_) = ⊥ := bits_neg_inf
  unfold val_main_v119
  generalize val_main_v118 (F := Ideal) X = y at hl
  refine (Host.reduce_eq_fold_single (α := EReal) max y _ _ h _ _).trans ?_
  rw [hz]
  exact congrArg (Finset.fold max ⊥ · Finset.univ) (funext hl)

theorem sinks_apply (g : Fin 4) (e : Fin 8) :
    val_main_v117 (F := Ideal) Snk (ix6 0 0 g e 0 0) = Snk (ix1 ⟨g.val * 8 + e.val, by omega⟩) := by
  pointwise [val_main_v117, val_main_v116]

theorem top_apply (b : Fin 4) (n : Fin 16) (g : Fin 4) (e : Fin 8) (r : Fin 128) :
    val_main_v122 (F := Ideal) X Snk (ix6 b n g e r 0) = top (scoreRow X b n g e r) (Snk (ix1 ⟨g.val * 8 + e.val, by omega⟩)) := by
  rw [val_main_v122_apply, val_main_v120_apply, val_main_v121_apply]
  rw [show idx_main_v120 (ix6 b n g e r 0) = ix5 b n g e r from funext fun a => Fin.ext (by
      match a with | ⟨0, _⟩ => rfl | ⟨1, _⟩ => rfl | ⟨2, _⟩ => rfl | ⟨3, _⟩ => rfl | ⟨4, _⟩ => rfl),
    show idx_main_v121 (ix6 b n g e r 0) = ix6 0 0 g e 0 0 from funext fun a => Fin.ext (by
      match a with | ⟨0, _⟩ => rfl | ⟨1, _⟩ => rfl | ⟨2, _⟩ => rfl | ⟨3, _⟩ => rfl | ⟨4, _⟩ => rfl | ⟨5, _⟩ => rfl),
    fold_apply, sinks_apply]
  rfl

theorem exp_apply (b : Fin 4) (n : Fin 16) (g : Fin 4) (e : Fin 8) (r : Fin 128) (j : Fin 256) :
    val_main_v125 (F := Ideal) X Snk (ix6 b n g e r j)
      = Ideal.exp (scoreRow X b n g e r j - top (scoreRow X b n g e r) (Snk (ix1 ⟨g.val * 8 + e.val, by omega⟩))) := by
  rw [val_main_v125_apply, val_main_v124_apply, val_main_v123_apply]
  rw [show idx_main_v123 (ix6 b n g e r j) = ix6 b n g e r 0 from funext fun a => Fin.ext (by
      match a with | ⟨0, _⟩ => rfl | ⟨1, _⟩ => rfl | ⟨2, _⟩ => rfl | ⟨3, _⟩ => rfl | ⟨4, _⟩ => rfl | ⟨5, _⟩ => rfl),
    top_apply, score_apply]
  rfl

theorem sum_apply (b : Fin 4) (n : Fin 16) (g : Fin 4) (e : Fin 8) (r : Fin 128) :
    val_main_v126 (F := Ideal) X Snk (ix5 b n g e r)
      = ∑ j, Ideal.exp (scoreRow X b n g e r j - top (scoreRow X b n g e r) (Snk (ix1 ⟨g.val * 8 + e.val, by omega⟩))) := by
  have hz : val_main_cst_14 (F := Ideal) (Shape.Idx.first Gen.h_S_) = 0 := Ideal.ofBits_zero .f32
  rw [val_main_v126_apply, hz, zero_add]
  refine Finset.sum_congr rfl fun j _ => ?_
  rw [show idx_main_v126 (ix5 b n g e r) j = ix6 b n g e r j from funext fun a => Fin.ext (by
      match a with | ⟨0, _⟩ => rfl | ⟨1, _⟩ => rfl | ⟨2, _⟩ => rfl | ⟨3, _⟩ => rfl | ⟨4, _⟩ => rfl | ⟨5, _⟩ => rfl)]
  exact exp_apply X Snk b n g e r j

theorem den_apply (b : Fin 4) (n : Fin 16) (g : Fin 4) (e : Fin 8) (r : Fin 128) :
    val_main_v131 (F := Ideal) X Snk (ix6 b n g e r 0) = den (scoreRow X b n g e r) (Snk (ix1 ⟨g.val * 8 + e.val, by omega⟩)) := by
  rw [val_main_v131_apply, val_main_v130_apply, val_main_v129_apply, val_main_v128_apply, val_main_v127_apply]
  rw [show idx_main_v127 (ix6 b n g e r 0) = ix5 b n g e r from funext fun a => Fin.ext (by
      match a with | ⟨0, _⟩ => rfl | ⟨1, _⟩ => rfl | ⟨2, _⟩ => rfl | ⟨3, _⟩ => rfl | ⟨4, _⟩ => rfl),
    show idx_main_v128 (ix6 b n g e r 0) = ix6 0 0 g e 0 0 from funext fun a => Fin.ext (by
      match a with | ⟨0, _⟩ => rfl | ⟨1, _⟩ => rfl | ⟨2, _⟩ => rfl | ⟨3, _⟩ => rfl | ⟨4, _⟩ => rfl | ⟨5, _⟩ => rfl),
    sum_apply, sinks_apply, top_apply]
  rfl

theorem weight_apply (b : Fin 4) (n : Fin 16) (g : Fin 4) (e : Fin 8) (r : Fin 128) (j : Fin 256) :
    val_main_v133 (F := Ideal) X Snk (ix6 b n g e r j)
      = weight (scoreRow X b n g e r) (Snk (ix1 ⟨g.val * 8 + e.val, by omega⟩)) j := by
  rw [val_main_v133_apply, val_main_v132_apply]
  rw [show idx_main_v132 (ix6 b n g e r j) = ix6 b n g e r 0 from funext fun a => Fin.ext (by
      match a with | ⟨0, _⟩ => rfl | ⟨1, _⟩ => rfl | ⟨2, _⟩ => rfl | ⟨3, _⟩ => rfl | ⟨4, _⟩ => rfl | ⟨5, _⟩ => rfl),
    den_apply, exp_apply]
  rfl

end Cert.ReferenceIdeal.Rows
-- ==== Proof.RefMix.lean ====
/-
  The reference's results: the gated mix of the values, and the last rows of keys and values.
-/
module

public import proofs.«01_k».proof.Proof.RefSoft

@[expose] public section

noncomputable section

namespace Cert.ReferenceIdeal.Rows

open Cert.ReferenceIdeal Cert.ReferenceIdeal.Read Cert.Attention Idealize.ShloMosaic

variable (X : FVec Ideal S8192x2560 .f32) (G : FVec Ideal S8192x2048 .f32) (Snk : FVec Ideal S32 .f32)

theorem mix_apply (b : Fin 4) (n : Fin 16) (r : Fin 128) (g : Fin 4) (e : Fin 8) (d : Fin 64) :
    val_main_v135 (F := Ideal) X Snk (ix6 b n r g e d)
      = mix (scoreRow X b n g e r) (Snk (ix1 ⟨g.val * 8 + e.val, by omega⟩)) (values X b n g d) := by
  pointwise [val_main_v135, val_main_v134, dot_S4x16x256x4x64_S4x16x4x8x128x256_S4x16x4x64x8x128_2_5_4_34_013_012]
  simp only [values_apply, weight_apply]
  exact Finset.sum_congr rfl fun j _ => mul_comm _ _

theorem silu_apply (i : Fin 8192) (l : Fin 2048) : val_main_v137 (F := Ideal) G (ix2 i l) = silu (G (ix2 i l)) := by
  pointwise [val_main_v137, val_main_call1_v5, val_main_call1_v4, val_main_call1_cst_0, val_main_call1_v3, val_main_call1_v2,
    val_main_call1_cst, val_main_call1_v1, val_main_call1_v0]
  rfl

/-- The result at row `i` and column `l`. -/
theorem out_apply (i : Fin 8192) (l : Fin 2048) :
    val_main_v139 (F := Ideal) X G Snk (ix2 i l)
      = mix (scoreRow X ⟨i.val / 2048, by omega⟩ ⟨i.val / 128 % 16, by omega⟩ ⟨l.val / 512, by omega⟩ ⟨l.val / 64 % 8, by omega⟩ ⟨i.val % 128, by omega⟩)
          (Snk (ix1 ⟨l.val / 512 * 8 + l.val / 64 % 8, by omega⟩))
          (values X ⟨i.val / 2048, by omega⟩ ⟨i.val / 128 % 16, by omega⟩ ⟨l.val / 512, by omega⟩ ⟨l.val % 64, by omega⟩)
        * silu (G (ix2 i l)) := by
  pointwise [val_main_v139, val_main_v138, val_main_v136]
  rw [mix_apply, silu_apply]

theorem lastK_apply (b : Fin 4) (r : Fin 128) (l : Fin 256) :
    val_main_v141 (F := Ideal) X (ix3 b r l) = keyRow X b ⟨1920 + r.val, by omega⟩ ⟨l.val / 64, by omega⟩ ⟨l.val % 64, by omega⟩ := by
  pointwise [val_main_v141, val_main_v140]
  exact k_apply X _ _ _ _

theorem lastV_apply (b : Fin 4) (r : Fin 128) (l : Fin 256) :
    val_main_v143 (F := Ideal) X (ix3 b r l) = valueRow X b ⟨1920 + r.val, by omega⟩ ⟨l.val / 64, by omega⟩ ⟨l.val % 64, by omega⟩ := by
  pointwise [val_main_v143, val_main_v142]
  exact v_apply X _ _ _ _

end Cert.ReferenceIdeal.Rows
-- ==== Proof.Equation.lean ====
/-
  The equation: the kernel's gated attention and its last keys and values are the reference's.
-/
module

public import proofs.«01_k».proof.Proof.First
public import proofs.«01_k».proof.Proof.RefMix

@[expose] public section

noncomputable section

namespace Cert.ReferenceIdeal.Rows

open Cert.ReferenceIdeal Cert.ReferenceIdeal.Read Cert.Attention Idealize.ShloMosaic
open Cert.KernelIdeal.Block

variable (X : FVec Ideal S8192x2560 .f32) (G : FVec Ideal S8192x2048 .f32) (Snk : FVec Ideal S32 .f32)

/-- A block's sequence, its place in the sequence, and a column's key head and query head within it. -/
abbrev seqOf (t : Fin 64) : Fin 4 := ⟨t.val / 16, by omega⟩
abbrev placeOf (t : Fin 64) : Fin 16 := ⟨t.val % 16, by omega⟩
abbrev groupOf (l : Fin 2048) : Fin 4 := ⟨l.val / 512, by omega⟩
abbrev memberOf (l : Fin 2048) : Fin 8 := ⟨l.val / 64 % 8, by omega⟩
abbrev columnOf (l : Fin 2048) : Fin 64 := ⟨l.val % 64, by omega⟩

/-- The kernel's query row is the reference's. -/
theorem query_eq (t : Fin 64) (r : Fin 128) (l : Fin 2048) :
    rot (fun d => X (ix2 ⟨128 * t.val + r.val, by omega⟩ ⟨64 * (l.val / 64) + d.val, by omega⟩))
      (cosAt (128 * (t.val % 16) + r.val)) (sinAt (128 * (t.val % 16) + r.val))
      = query X (seqOf t) (placeOf t) (groupOf l) (memberOf l) r := by
  unfold query
  have e : 128 * (t.val % 16) + r.val = (at_ (placeOf t) r).val := by show _ = t.val % 16 * 128 + r.val; omega
  rw [e]
  refine congrArg (rot · _ _) (funext fun d => congrArg X (congrArg₂ ix2 (Fin.ext ?_) (Fin.ext ?_)))
  · show 128 * t.val + r.val = t.val / 16 * 2048 + (t.val % 16 * 128 + r.val); omega
  · show 64 * (l.val / 64) + d.val = (l.val / 512 * 8 + l.val / 64 % 8) * 64 + d.val; omega

/-- The kernel's own keys are the reference's. -/
theorem key_eq (t : Fin 64) (j : Fin 128) (l : Fin 2048) :
    rot (fun d => X (ix2 ⟨128 * t.val + j.val, by omega⟩ ⟨2048 + (64 * (l.val / 512) + d.val), by omega⟩))
      (cosAt (128 * (t.val % 16) + j.val)) (sinAt (128 * (t.val % 16) + j.val))
      = keyRow X (seqOf t) (at_ (placeOf t) j) (groupOf l) := by
  unfold keyRow
  have e : 128 * (t.val % 16) + j.val = (at_ (placeOf t) j).val := by show _ = t.val % 16 * 128 + j.val; omega
  rw [e]
  refine congrArg (rot · _ _) (funext fun d => congrArg X (congrArg₂ ix2 (Fin.ext ?_) (Fin.ext ?_)))
  · show 128 * t.val + j.val = t.val / 16 * 2048 + (t.val % 16 * 128 + j.val); omega
  · show 2048 + (64 * (l.val / 512) + d.val) = 2048 + (l.val / 512 * 64 + d.val); omega

/-- The kernel's keys of the block before are the reference's. -/
theorem key_before_eq (t : Fin 64) (j : Fin 128) (l : Fin 2048) :
    rot (fun d => X (ix2 ⟨128 * KernelIdeal.Block.before t.val + j.val, by unfold before; omega⟩ ⟨2048 + (64 * (l.val / 512) + d.val), by omega⟩))
      (cosAt (128 * (t.val % 16 - 1) + j.val)) (sinAt (128 * (t.val % 16 - 1) + j.val))
      = keyRow X (seqOf t) (at_ (pred (placeOf t)) j) (groupOf l) := by
  unfold keyRow
  have e : 128 * (t.val % 16 - 1) + j.val = (at_ (pred (placeOf t)) j).val := by
    show _ = (t.val % 16 - 1) * 128 + j.val; omega
  rw [e]
  refine congrArg (rot · _ _) (funext fun d => congrArg X (congrArg₂ ix2 (Fin.ext ?_) (Fin.ext ?_)))
  · show 128 * (t.val / 16 * 16 + (t.val % 16 - 1)) + j.val = t.val / 16 * 2048 + ((t.val % 16 - 1) * 128 + j.val); omega
  · show 2048 + (64 * (l.val / 512) + d.val) = 2048 + (l.val / 512 * 64 + d.val); omega

/-- The kernel's values, its own and those of the block before, are the reference's. -/
theorem value_eq (t : Fin 64) (j : Fin 128) (l : Fin 2048) :
    X (ix2 ⟨128 * t.val + j.val, by omega⟩ ⟨2304 + (64 * (l.val / 512) + l.val % 64), by omega⟩)
      = valueRow X (seqOf t) (at_ (placeOf t) j) (groupOf l) (columnOf l) := by
  refine congrArg X (congrArg₂ ix2 (Fin.ext ?_) (Fin.ext ?_))
  · show 128 * t.val + j.val = t.val / 16 * 2048 + (t.val % 16 * 128 + j.val); omega
  · show 2304 + (64 * (l.val / 512) + l.val % 64) = 2304 + (l.val / 512 * 64 + l.val % 64); omega

theorem value_before_eq (t : Fin 64) (j : Fin 128) (l : Fin 2048) :
    X (ix2 ⟨128 * KernelIdeal.Block.before t.val + j.val, by unfold before; omega⟩ ⟨2304 + (64 * (l.val / 512) + l.val % 64), by omega⟩)
      = valueRow X (seqOf t) (at_ (pred (placeOf t)) j) (groupOf l) (columnOf l) := by
  refine congrArg X (congrArg₂ ix2 (Fin.ext ?_) (Fin.ext ?_))
  · show 128 * (t.val / 16 * 16 + (t.val % 16 - 1)) + j.val = t.val / 16 * 2048 + ((t.val % 16 - 1) * 128 + j.val); omega
  · show 2304 + (64 * (l.val / 512) + l.val % 64) = 2304 + (l.val / 512 * 64 + l.val % 64); omega

/-- The mix with the earlier block's keys and values is the mix with zeros before the first block. -/
theorem mix_eq (b : Fin 4) (n : Fin 16) (g : Fin 4) (e : Fin 8) (r : Fin 128) (d : Fin 64) (snk : EReal) :
    mix (scores (n.val = 0) r.val (query X b n g e r)
        (rows (fun j => keyRow X b (at_ (pred n) j) g) (fun j => keyRow X b (at_ n j) g))) snk
      (rows (fun j => valueRow X b (at_ (pred n) j) g d) (fun j => valueRow X b (at_ n j) g d))
      = mix (scoreRow X b n g e r) snk (values X b n g d) := by
  have hs : scores (n.val = 0) r.val (query X b n g e r)
      (rows (fun j => keyRow X b (at_ (pred n) j) g) (fun j => keyRow X b (at_ n j) g)) = scoreRow X b n g e r := by
    refine scores_congr _ _ rfl fun j hj => ?_
    funext d
    unfold keys rows
    by_cases h : j.val < 128
    · have hn : ¬ n.val = 0 := fun h0 => by have := hj.2.2 h0; omega
      rw [dif_pos h, dif_pos h]
      exact (if_neg hn).symm
    · rw [dif_neg h, dif_neg h]
  rw [hs]
  unfold values
  by_cases hn : n.val = 0
  · have hp : pred n = n := Fin.ext (by show n.val - 1 = n.val; omega)
    simp only [hp, if_pos hn]
    refine mix_first _ _ _ fun j hj => ?_
    unfold scoreRow scores
    exact if_neg fun h => by have := h.2.2 hn; omega
  · simp only [if_neg hn]

/-- The kernel's result at row `r` of block `t`, in the reference's rows. -/
theorem attentionAt_eq (t : Fin 64) (r : Fin 128) (l : Fin 2048) :
    attentionAt X G Snk t r l
      = mix (scoreRow X (seqOf t) (placeOf t) (groupOf l) (memberOf l) r) (Snk (ix1 ⟨l.val / 512 * 8 + l.val / 64 % 8, by omega⟩))
          (values X (seqOf t) (placeOf t) (groupOf l) (columnOf l))
        * silu (G (ix2 ⟨128 * t.val + r.val, by omega⟩ l)) := by
  unfold attentionAt entry
  refine congrArg (· * silu _) ?_
  rw [← mix_eq X (seqOf t) (placeOf t) (groupOf l) (memberOf l) r (columnOf l)]
  simp only [query_eq, key_eq, key_before_eq, value_eq, value_before_eq]
  have hl : (⟨l.val / 64, by omega⟩ : Fin 32) = ⟨l.val / 512 * 8 + l.val / 64 % 8, by omega⟩ :=
    Fin.ext (by show l.val / 64 = l.val / 512 * 8 + l.val / 64 % 8; omega)
  rw [hl]

/-- The gated attention is the reference's first result. -/
theorem attention_eq : attention X G Snk = val_main_v139 (F := Ideal) X G Snk := by
  funext y
  obtain ⟨i, l, rfl⟩ : ∃ i l, y = ix2 i l := ⟨_, _, eq_ix2 y⟩
  rw [out_apply]
  have e1 : (⟨i.val / 2048, by omega⟩ : Fin 4) = seqOf ⟨i.val / 128, by omega⟩ := Fin.ext (by show i.val / 2048 = i.val / 128 / 16; omega)
  have e2 : i = ⟨128 * (i.val / 128) + i.val % 128, by omega⟩ :=
    Fin.ext (by show i.val = 128 * (i.val / 128) + i.val % 128; omega)
  rw [e1]
  refine (attentionAt_eq X G Snk ⟨i.val / 128, by omega⟩ ⟨i.val % 128, by omega⟩ l).trans ?_
  refine congrArg (_ * silu ·) (congrArg (fun i => G (ix2 i l)) e2.symm)

/-- The last keys are the reference's second result. -/
theorem lastKeys_eq : lastKeys X = val_main_v141 (F := Ideal) X := by
  funext y
  obtain ⟨b, r, l, rfl⟩ : ∃ b r l, y = ix3 b r l := ⟨_, _, _, eq_ix3 y⟩
  rw [lastK_apply, lastKeys_at X _ b r l rfl rfl rfl]
  unfold keyRow
  refine congrArg (rot · _ _ _) (funext fun d => congrArg X (congrArg₂ ix2 (Fin.ext ?_) (Fin.ext ?_)))
  · show 2048 * b.val + 1920 + r.val = b.val * 2048 + (1920 + r.val); omega
  · show 2048 + (64 * (l.val / 64) + d.val) = 2048 + (l.val / 64 * 64 + d.val); omega

/-- The last values are the reference's third result. -/
theorem lastValues_eq : lastValues X = val_main_v143 (F := Ideal) X := by
  funext y
  obtain ⟨b, r, l, rfl⟩ : ∃ b r l, y = ix3 b r l := ⟨_, _, _, eq_ix3 y⟩
  rw [lastV_apply]
  refine congrArg X (congrArg₂ ix2 (Fin.ext ?_) (Fin.ext ?_))
  · show 2048 * b.val + 1920 + r.val = b.val * 2048 + (1920 + r.val); omega
  · show 2304 + l.val = 2304 + (l.val / 64 * 64 + l.val % 64); omega

end Cert.ReferenceIdeal.Rows
-- ==== Proof.Product.lean ====
/-
  The product of a block of rows with a block of columns, entry by entry on extended reals, and the arrays that
  the calls `_mm` of the sliding-window layer leave: the queries, keys and values, and the gates.
-/
module

public import proofs.«01_k».proof.Proof.Gen.KernelQkvIdeal.Value
public import proofs.«01_k».proof.Proof.Gen.ReferenceQkvIdeal.Read
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelQkvIdeal.Block

open Cert.KernelQkvIdeal Cert.KernelQkvIdeal.Gen Idealize.ShloMosaic Idealize.ShloMosaic.TcCoe Idealize.SL.Sem

/-- The start of every access of a whole block. -/
theorem zero2 : (![0, 0] : Fin 2 → Nat) = fun _ => 0 := by decide

/-- An entry of a block's product. -/
theorem product_apply (x : FVec Ideal S512x2048 .f32) (w : FVec Ideal S2048x512 .bf16) (r l : Fin 512) :
    k0_pay1 (F := Ideal) x w (ix2 r l) = ∑ k : Fin 2048, x (ix2 r k) * w (ix2 k l) := by
  unfold k0_pay1
  pointwise

/-- What a point stores, from its blocks of the rows and of the weights. -/
theorem out_apply (x : FVec Ideal S512x2048 .f32) (w : FVec Ideal S2048x512 .bf16) (r l : Fin 512) :
    out0_2 (F := Ideal) x w (ix2 r l) = ∑ k : Fin 2048, x (ix2 r k) * w (ix2 k l) := by
  unfold out0_2
  frame_out
  exact product_apply x w r l

theorem at0 : ∀ t : Fin cfg0.N, win0_0.index t = ![t.val / 5, 0] := (by decide +kernel : ∀ t : Fin grid0.N, _)
theorem at1 : ∀ t : Fin cfg0.N, win0_1.index t = ![0, t.val % 5] := (by decide +kernel : ∀ t : Fin grid0.N, _)
theorem at2 : ∀ t : Fin cfg0.N, win0_2.index t = ![t.val / 5, t.val % 5] := (by decide +kernel : ∀ t : Fin grid0.N, _)
theorem lt80 (t : Fin cfg0.N) : t.val < 80 := t.isLt

variable (m : (ℓ : Loc nD τ sig) → Buf (Elt Ideal) ℓ)

/-- The weights the region reads are the argument's. -/
theorem weights (c : Dev nD) (i : S2048x4608.Idx) : V m c main_v0 i = m ((c : Thread nD τ).loc main_arg1) i := by
  unfold_abbrev_sides
  after_reads_simp
  rfl

/-- The rows of a block. -/
theorem x_apply (c : Dev nD) (t : Fin cfg0.N) (r : Fin 512) (k : Fin 2048) :
    iblk m c 0 t (ix2 r k) = m ((c : Thread nD τ).loc main_arg0) (ix2 ⟨512 * (t.val / 5) + r.val, by have := lt80 t; omega⟩ k) := by
  refine Eq.trans ?_ (congrFun (V_main_arg0 m c) _)
  blk_simp [iblk, at0]
  refine congrArg (V m c main_arg0) ?_
  blk_ext [at0]

/-- The columns of the weights that a block multiplies by. -/
theorem w_apply (c : Dev nD) (t : Fin cfg0.N) (k : Fin 2048) (l : Fin 512) :
    iblk m c 1 t (ix2 k l) = m ((c : Thread nD τ).loc main_arg1) (ix2 k ⟨512 * (t.val % 5) + l.val, by omega⟩) := by
  refine Eq.trans ?_ (weights m c _)
  blk_simp [iblk, at1]
  refine congrArg (V m c main_v0) ?_
  blk_ext [at1]

/-- The queries, keys and values are the reference's. -/
theorem array2 (c : Dev nD) : (dats m 0 c).arrAt 2 cfg0.N
    = Cert.ReferenceQkvIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ r l : Fin 512, y = ix2 r l := ⟨y 0, y 1, eq_ix2 y⟩
  rw [Cert.ReferenceQkvIdeal.Read.val_main_v1_apply, Cert.ReferenceQkvIdeal.Read.val_main_v0_apply]
  refine (out_apply _ _ r l).trans (Finset.sum_congr rfl fun k _ => ?_)
  rw [x_apply, w_apply]
  refine congrArg₂ (fun a b : EReal => a * b) (congrArg (m ((c : Thread nD τ).loc main_arg0)) ?_)
    (congrArg (m ((c : Thread nD τ).loc main_arg1)) ?_)
  · blk_ext [at2]
  · blk_ext [at2]

end Cert.KernelQkvIdeal.Block
-- ==== Proof.Gate.lean ====
/-
  The array that the call `_mm` of the sliding-window layer leaves for its gates: the columns of the product
  after the queries, keys and values.
-/
module

public import proofs.«01_k».proof.Proof.Product
public import proofs.«01_k».proof.Proof.Gen.KernelGateIdeal.Value
public import proofs.«01_k».proof.Proof.Gen.ReferenceGateIdeal.Read

@[expose] public section

noncomputable section

namespace Cert.KernelGateIdeal.Block

open Cert.KernelGateIdeal Cert.KernelGateIdeal.Gen Idealize.ShloMosaic Idealize.ShloMosaic.TcCoe Idealize.SL.Sem

/-- What a point stores: the two calls run one body, on blocks of one size. -/
theorem out_apply (x : FVec Ideal S512x2048 .f32) (w : FVec Ideal S2048x512 .bf16) (r l : Fin 512) :
    out0_2 (F := Ideal) x w (ix2 r l) = ∑ k : Fin 2048, x (ix2 r k) * w (ix2 k l) :=
  Cert.KernelQkvIdeal.Block.out_apply x w r l

theorem at0 : ∀ t : Fin cfg0.N, win0_0.index t = ![t.val / 4, 0] := (by decide +kernel : ∀ t : Fin grid0.N, _)
theorem at1 : ∀ t : Fin cfg0.N, win0_1.index t = ![0, 5 + t.val % 4] := (by decide +kernel : ∀ t : Fin grid0.N, _)
theorem at2 : ∀ t : Fin cfg0.N, win0_2.index t = ![t.val / 4, t.val % 4] := (by decide +kernel : ∀ t : Fin grid0.N, _)
theorem lt64 (t : Fin cfg0.N) : t.val < 64 := t.isLt

variable (m : (ℓ : Loc nD τ sig) → Buf (Elt Ideal) ℓ)

/-- The weights the region reads are the argument's. -/
theorem weights (c : Dev nD) (i : S2048x4608.Idx) : V m c main_v0 i = m ((c : Thread nD τ).loc main_arg1) i := by
  unfold_abbrev_sides
  after_reads_simp
  rfl

/-- The rows of a block. -/
theorem x_apply (c : Dev nD) (t : Fin cfg0.N) (r : Fin 512) (k : Fin 2048) :
    iblk m c 0 t (ix2 r k) = m ((c : Thread nD τ).loc main_arg0) (ix2 ⟨512 * (t.val / 4) + r.val, by have := lt64 t; omega⟩ k) := by
  refine Eq.trans ?_ (congrFun (V_main_arg0 m c) _)
  blk_simp [iblk, at0]
  refine congrArg (V m c main_arg0) ?_
  blk_ext [at0]

/-- The columns of the weights that a block multiplies by: they start after 2560 others. -/
theorem w_apply (c : Dev nD) (t : Fin cfg0.N) (k : Fin 2048) (l : Fin 512) :
    iblk m c 1 t (ix2 k l) = m ((c : Thread nD τ).loc main_arg1) (ix2 k ⟨2560 + (512 * (t.val % 4) + l.val), by omega⟩) := by
  refine Eq.trans ?_ (weights m c _)
  blk_simp [iblk, at1]
  refine congrArg (V m c main_v0) ?_
  blk_ext [at1]

/-- The gates are the reference's. -/
theorem array2 (c : Dev nD) : (dats m 0 c).arrAt 2 cfg0.N
    = Cert.ReferenceGateIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, l, rfl⟩ : ∃ r l : Fin 512, y = ix2 r l := ⟨y 0, y 1, eq_ix2 y⟩
  rw [Cert.ReferenceGateIdeal.Read.val_main_v1_apply, Cert.ReferenceGateIdeal.Read.val_main_v0_apply]
  refine (out_apply _ _ r l).trans (Finset.sum_congr rfl fun k _ => ?_)
  rw [x_apply, w_apply]
  refine congrArg₂ (fun a b : EReal => a * b) (congrArg (m ((c : Thread nD τ).loc main_arg0)) ?_)
    (congrArg (m ((c : Thread nD τ).loc main_arg1)) ?_)
  · blk_ext [at2]
  · blk_ext [at2]

end Cert.KernelGateIdeal.Block
-- ==== Proof.Gla.lean ====
/-
  The array that the call `_mm` of the gated-linear-attention layer leaves for its queries, keys, values and
  output gates: all columns of the product but the last 16, which are the gates' low-rank half.
-/
module

public import proofs.«01_k».proof.Proof.Product
public import proofs.«01_k».proof.Proof.Gen.KernelGlaIdeal.Value
public import proofs.«01_k».proof.Proof.Gen.ReferenceGlaIdeal.Read

@[expose] public section

noncomputable section

namespace Cert.KernelGlaIdeal.Block

open Cert.KernelGlaIdeal Cert.KernelGlaIdeal.Gen Idealize.ShloMosaic Idealize.ShloMosaic.TcCoe Idealize.SL.Sem

theorem at0 : ∀ t : Fin cfg0.N, win0_0.index t = ![t.val / 12, 0] := (by decide +kernel : ∀ t : Fin grid0.N, _)
theorem at1 : ∀ t : Fin cfg0.N, win0_1.index t = ![0, t.val % 12] := (by decide +kernel : ∀ t : Fin grid0.N, _)
theorem at2 : ∀ t : Fin cfg0.N, win0_2.index t = ![t.val / 12, t.val % 12] := (by decide +kernel : ∀ t : Fin grid0.N, _)
theorem lt192 (t : Fin cfg0.N) : t.val < 192 := t.isLt

variable (m : (ℓ : Loc nD τ sig) → Buf (Elt Ideal) ℓ)

/-- The weights the region reads are the argument's. -/
theorem weights (c : Dev nD) (i : S2048x6160.Idx) : V m c main_v0 i = m ((c : Thread nD τ).loc main_arg1) i := by
  unfold_abbrev_sides
  after_reads_simp
  rfl

/-- The rows of a block. -/
theorem x_apply (c : Dev nD) (t : Fin cfg0.N) (r : Fin 512) (k : Fin 2048) :
    iblk m c 0 t (ix2 r k) = m ((c : Thread nD τ).loc main_arg0) (ix2 ⟨512 * (t.val / 12) + r.val, by have := lt192 t; omega⟩ k) := by
  refine Eq.trans ?_ (congrFun (V_main_arg0 m c) _)
  blk_simp [iblk, at0]
  refine congrArg (V m c main_arg0) ?_
  blk_ext [at0]

/-- The columns of the weights that a block multiplies by: none of these blocks crosses the last column. -/
theorem w_apply (c : Dev nD) (t : Fin cfg0.N) (k : Fin 2048) (l : Fin 512) :
    X0_1 m c t (ix2 k l) = m ((c : Thread nD τ).loc main_arg1) (ix2 k ⟨512 * (t.val % 12) + l.val, by omega⟩) := by
  refine Eq.trans ?_ (weights m c _)
  unfold X0_1 Pipeline.Window.fill
  rw [dif_pos (moved0_1 t _)]
  blk_simp [iblk, at1]
  refine congrArg (V m c main_v0) ?_
  blk_ext [at1]

/-- The queries, keys, values and output gates are the reference's. -/
theorem array2 (c : Dev nD) : (dats m 0 c).arrAt 2 cfg0.N
    = Cert.ReferenceGlaIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, l, rfl⟩ : ∃ r l : Fin 512, y = ix2 r l := ⟨y 0, y 1, eq_ix2 y⟩
  rw [Cert.ReferenceGlaIdeal.Read.val_main_v1_apply, Cert.ReferenceGlaIdeal.Read.val_main_v0_apply]
  refine (Cert.KernelQkvIdeal.Block.product_apply _ _ r l).trans (Finset.sum_congr rfl fun k _ => ?_)
  rw [x_apply, w_apply]
  refine congrArg₂ (fun a b : EReal => a * b) (congrArg (m ((c : Thread nD τ).loc main_arg0)) ?_)
    (congrArg (m ((c : Thread nD τ).loc main_arg1)) ?_)
  · blk_ext [at2]
  · blk_ext [at2]

end Cert.KernelGlaIdeal.Block
-- ==== Proof.Norm.lean ====
/-
  The output projection with the layer norm that follows it: what a point stores, entry by entry, the same of the
  reference, and the array that the call leaves.
-/
module

public import proofs.«01_k».proof.Proof.Gen.KernelOutIdeal.Value
public import proofs.«01_k».proof.Proof.Gen.ReferenceOutIdeal.Read
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelOutIdeal.Block

open Cert.KernelOutIdeal Cert.KernelOutIdeal.Gen Idealize.ShloMosaic Idealize.ShloMosaic.TcCoe Idealize.SL.Sem

/-- The mean of a row. -/
def mean (z : Fin 2048 → EReal) : EReal := Ideal.div (∑ k, z k) (Ideal.ofBits .f32 0x45000000#32)

/-- A row's entry, normalised: the mean taken off, divided by the deviation, times `g` plus `b`. -/
def norm (z : Fin 2048 → EReal) (g b : EReal) (l : Fin 2048) : EReal :=
  (z l - mean z) * Ideal.rsqrt (mean (fun k => (z k - mean z) * (z k - mean z)) + Ideal.ofBits .f32 0x3727C5AC#32) * g + b

/-- The residual of a row: the layer's input, scaled, plus the product. -/
def residual (o x : Fin 2048 → EReal) (w : Fin 2048 → Fin 2048 → EReal) (l : Fin 2048) : EReal :=
  Ideal.ofBits .f32 0x3FD744FD#32 * x l + ∑ k, o k * w k l

/-- An entry of what the body stores. -/
theorem pay_apply (o : FVec Ideal S256x2048 .bf16) (w : FVec Ideal S2048x2048 .bf16) (x : FVec Ideal S256x2048 .f32)
    (g b : FVec Ideal S1x2048 .f32) (r : Fin 256) (l : Fin 2048) :
    k0_pay1 (F := Ideal) o w x g b (ix2 r l)
      = norm (residual (fun k => o (ix2 r k)) (fun k => x (ix2 r k)) (fun k l => w (ix2 k l))) (g (ix2 0 l)) (b (ix2 0 l)) l := by
  unfold k0_pay1
  pointwise
  rfl

/-- What a point stores, from its blocks. -/
theorem out_apply (o : FVec Ideal S256x2048 .bf16) (w : FVec Ideal S2048x2048 .bf16) (x : FVec Ideal S256x2048 .f32)
    (g b : FVec Ideal S1x2048 .f32) (r : Fin 256) (l : Fin 2048) :
    out0_5 (F := Ideal) o w x g b (ix2 r l)
      = norm (residual (fun k => o (ix2 r k)) (fun k => x (ix2 r k)) (fun k l => w (ix2 k l))) (g (ix2 0 l)) (b (ix2 0 l)) l := by
  unfold out0_5
  frame_out
  exact pay_apply o w x g b r l

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem lt32 (t : Fin cfg0.N) : t.val < 32 := t.isLt

variable (m : (ℓ : Loc nD τ sig) → Buf (Elt Ideal) ℓ)

/-- The weights the region reads are the argument's. -/
theorem weights (c : Dev nD) (i : S2048x2048.Idx) : V m c main_v0 i = m ((c : Thread nD τ).loc main_arg1) i := by
  unfold_abbrev_sides
  after_reads_simp
  rfl

/-- The norm's factors, laid out as one row. -/
theorem factors (c : Dev nD) (l : Fin 2048) : V m c main_v1 (ix2 0 l) = m ((c : Thread nD τ).loc main_arg3) (ix1 l) := by
  unfold_abbrev_sides
  after_reads_simp
  pointwise

/-- The norm's offsets, laid out as one row. -/
theorem offsets (c : Dev nD) (l : Fin 2048) : V m c main_v2 (ix2 0 l) = m ((c : Thread nD τ).loc main_arg4) (ix1 l) := by
  unfold_abbrev_sides
  after_reads_simp
  pointwise

/-- The rows of the mixer's output. -/
theorem o_apply (c : Dev nD) (t : Fin cfg0.N) (r : Fin 256) (k : Fin 2048) :
    iblk m c 0 t (ix2 r k) = m ((c : Thread nD τ).loc main_arg0) (ix2 ⟨256 * t.val + r.val, by have := lt32 t; omega⟩ k) := by
  refine Eq.trans ?_ (congrFun (V_main_arg0 m c) _)
  blk_simp [iblk, at0]
  refine congrArg (V m c main_arg0) ?_
  blk_ext [at0]

/-- The weights: every point reads all of them. -/
theorem w_apply (c : Dev nD) (t : Fin cfg0.N) (k l : Fin 2048) :
    iblk m c 1 t (ix2 k l) = m ((c : Thread nD τ).loc main_arg1) (ix2 k l) := by
  refine Eq.trans ?_ (weights m c _)
  blk_simp [iblk, at1]
  refine congrArg (V m c main_v0) ?_
  blk_ext [at1]

/-- The rows of the layer's input. -/
theorem x_apply (c : Dev nD) (t : Fin cfg0.N) (r : Fin 256) (k : Fin 2048) :
    iblk m c 2 t (ix2 r k) = m ((c : Thread nD τ).loc main_arg2) (ix2 ⟨256 * t.val + r.val, by have := lt32 t; omega⟩ k) := by
  refine Eq.trans ?_ (congrFun (V_main_arg2 m c) _)
  blk_simp [iblk, at2]
  refine congrArg (V m c main_arg2) ?_
  blk_ext [at2]

theorem g_apply (c : Dev nD) (t : Fin cfg0.N) (l : Fin 2048) :
    iblk m c 3 t (ix2 0 l) = m ((c : Thread nD τ).loc main_arg3) (ix1 l) := by
  refine Eq.trans ?_ (factors m c l)
  blk_simp [iblk, at3]
  refine congrArg (V m c main_v1) ?_
  blk_ext [at3]

theorem b_apply (c : Dev nD) (t : Fin cfg0.N) (l : Fin 2048) :
    iblk m c 4 t (ix2 0 l) = m ((c : Thread nD τ).loc main_arg4) (ix1 l) := by
  refine Eq.trans ?_ (offsets m c l)
  blk_simp [iblk, at4]
  refine congrArg (V m c main_v2) ?_
  blk_ext [at4]

end Cert.KernelOutIdeal.Block

namespace Cert.ReferenceOutIdeal.Rows

open Cert.ReferenceOutIdeal Cert.ReferenceOutIdeal.Read Cert.KernelOutIdeal.Block Idealize.ShloMosaic

variable (o : FVec Ideal S8192x2048 .bf16) (w : FVec Ideal S2048x2048 .f32) (x : FVec Ideal S8192x2048 .f32)
  (g b : FVec Ideal S2048 .f32)

/-- The reference's residual. -/
theorem residual_apply (i : Fin 8192) (l : Fin 2048) : val_main_v4 (F := Ideal) o w x (ix2 i l)
    = residual (fun k => o (ix2 i k)) (fun k => x (ix2 i k)) (fun k l => w (ix2 k l)) l := by
  pointwise [val_main_v4, val_main_v3, val_main_v2, val_main_cst, val_main_v1, val_main_v0]
  rfl

/-- The mean of a row of it. -/
theorem mean_apply (i : Fin 8192) : val_main_v8 (F := Ideal) o w x (ix2 i 0)
    = mean (residual (fun k => o (ix2 i k)) (fun k => x (ix2 i k)) (fun k l => w (ix2 k l))) := by
  pointwise [val_main_v8, val_main_v7, val_main_v6, val_main_v5, val_main_cst_0, val_main_cst_1]
  simp only [residual_apply]
  rfl

/-- The mean of the squares of what is left. -/
theorem var_apply (i : Fin 8192) : val_main_v15 (F := Ideal) o w x (ix2 i 0)
    = (let z := residual (fun k => o (ix2 i k)) (fun k => x (ix2 i k)) (fun k l => w (ix2 k l));
      mean (fun k => (z k - mean z) * (z k - mean z))) := by
  pointwise [val_main_v15, val_main_v14, val_main_v13, val_main_v12, val_main_cst_2, val_main_cst_3, val_main_v11, val_main_v10, val_main_v9]
  simp only [residual_apply, mean_apply]
  rfl

/-- The reference's result. -/
theorem norm_apply (i : Fin 8192) (l : Fin 2048) : val_main_v28 (F := Ideal) o w x g b (ix2 i l)
    = norm (residual (fun k => o (ix2 i k)) (fun k => x (ix2 i k)) (fun k l => w (ix2 k l))) (g (ix1 l)) (b (ix1 l)) l := by
  pointwise [val_main_v28, val_main_v27, val_main_v26, val_main_v25, val_main_v24, val_main_v23, val_main_v22, val_main_v21, val_main_v20,
    val_main_v19, val_main_v18, val_main_cst_4, val_main_v17, val_main_v16]
  simp only [residual_apply, mean_apply, var_apply]
  rfl

end Cert.ReferenceOutIdeal.Rows

namespace Cert.KernelOutIdeal.Block

open Cert.KernelOutIdeal Cert.KernelOutIdeal.Gen Idealize.ShloMosaic Idealize.ShloMosaic.TcCoe Idealize.SL.Sem

variable (m : (ℓ : Loc nD τ sig) → Buf (Elt Ideal) ℓ)

/-- The normalised residual is the reference's. -/
theorem array5 (c : Dev nD) : (dats m 0 c).arrAt 5 cfg0.N
    = Cert.ReferenceOutIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, l, rfl⟩ : ∃ (r : Fin 256) (l : Fin 2048), y = ix2 r l := ⟨y 0, y 1, eq_ix2 y⟩
  refine (out_apply _ _ _ _ _ r l).trans ?_
  simp only [o_apply, w_apply, x_apply, g_apply, b_apply]
  refine (Cert.ReferenceOutIdeal.Rows.norm_apply _ _ _ _ _ ⟨256 * t.val + r.val, by have := lt32 t; omega⟩ l).symm.trans ?_
  refine congrArg (Cert.ReferenceOutIdeal.Read.val_main_v28 (F := Ideal) _ _ _ _ _) ?_
  blk_ext [at5]

end Cert.KernelOutIdeal.Block
-- ==== Proof.Mix.lean ====
/-
  The four projections of the token mixer, each of the row mixed with the row before it by its own factors: what
  a point stores, the arrays the host prepares, the reference's products, and the array that the call leaves.
-/
module

public import proofs.«01_k».proof.Proof.Gen.KernelMixIdeal.Value
public import proofs.«01_k».proof.Proof.Gen.ReferenceMixIdeal.Read
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelMixIdeal.Block

open Cert.KernelMixIdeal Cert.KernelMixIdeal.Gen Idealize.ShloMosaic Idealize.ShloMosaic.TcCoe Idealize.SL.Sem

/-- A row `x` mixed with the row `p` before it by the factors `mu`, times a column of weights. -/
def mixed (x p mu w : Fin 2048 → EReal) : EReal := ∑ k, (x k + (p k - x k) * mu k) * w k

/-- An entry of what the body stores. -/
theorem pay_apply (x p : FVec Ideal S512x2048 .f32) (mu : FVec Ideal S1x1x2048 .f32) (w : FVec Ideal S1x2048x512 .bf16)
    (r l : Fin 512) :
    k0_pay1 (F := Ideal) x p mu w (ix3 0 r l)
      = mixed (fun k => x (ix2 r k)) (fun k => p (ix2 r k)) (fun k => mu (ix3 0 0 k)) (fun k => w (ix3 0 k l)) := by
  unfold k0_pay1
  pointwise
  rfl

/-- What a point stores, from its blocks. -/
theorem out_apply (x p : FVec Ideal S512x2048 .f32) (mu : FVec Ideal S1x1x2048 .f32) (w : FVec Ideal S1x2048x512 .bf16)
    (r l : Fin 512) :
    out0_4 (F := Ideal) x p mu w (ix3 0 r l)
      = mixed (fun k => x (ix2 r k)) (fun k => p (ix2 r k)) (fun k => mu (ix3 0 0 k)) (fun k => w (ix3 0 k l)) := by
  unfold out0_4
  frame_out
  exact pay_apply x p mu w r l

theorem at0 : ∀ t : Fin cfg0.N, win0_0.index t = ![t.val / 16, 0] := (by decide +kernel : ∀ t : Fin grid0.N, _)
theorem at1 : ∀ t : Fin cfg0.N, win0_1.index t = ![t.val / 16, 0] := (by decide +kernel : ∀ t : Fin grid0.N, _)
theorem at2 : ∀ t : Fin cfg0.N, win0_2.index t = ![t.val / 4 % 4, 0, 0] := (by decide +kernel : ∀ t : Fin grid0.N, _)
theorem at3 : ∀ t : Fin cfg0.N, win0_3.index t = ![t.val / 4 % 4, 0, t.val % 4] := (by decide +kernel : ∀ t : Fin grid0.N, _)
theorem at4 : ∀ t : Fin cfg0.N, win0_4.index t = ![t.val / 4 % 4, t.val / 16, t.val % 4] := (by decide +kernel : ∀ t : Fin grid0.N, _)
theorem lt256 (t : Fin cfg0.N) : t.val < 256 := t.isLt

variable (m : (ℓ : Loc nD τ sig) → Buf (Elt Ideal) ℓ)

/-- The weights the region reads are the argument's. -/
theorem weights (c : Dev nD) (i : S4x2048x2048.Idx) : V m c main_v6 i = m ((c : Thread nD τ).loc main_arg3) i := by
  unfold_abbrev_sides
  after_reads_simp
  rfl

/-- The mixing factors, one row each. -/
theorem factors (c : Dev nD) (e : Fin 4) (k : Fin 2048) :
    V m c main_v5 (ix3 e 0 k) = m ((c : Thread nD τ).loc main_arg2) (ix2 e k) := by
  unfold_abbrev_sides
  after_reads_simp
  pointwise

/-- The row before row `s` of sequence `b`: the sequence's carried row before its first. -/
def previous (X : FVec Ideal S8192x2048 .f32) (Sh : FVec Ideal S4x2048 .f32) (b : Fin 4) (s k : Fin 2048) : EReal :=
  if h : s.val < 1 then Sh (ix2 b k) else X (ix2 ⟨b.val * 2048 + (s.val - 1), by omega⟩ k)

/-- The rows before, as the host lays them out. -/
theorem shifted (c : Dev nD) (i : Fin 8192) (k : Fin 2048) : V m c main_v4 (ix2 i k)
    = previous (m ((c : Thread nD τ).loc main_arg0)) (m ((c : Thread nD τ).loc main_arg1)) ⟨i.val / 2048, by omega⟩
        ⟨i.val % 2048, by omega⟩ k := by
  unfold_abbrev_sides
  after_reads_simp
  pointwise
  after_reads_simp
  pointwise
  rfl

end Cert.KernelMixIdeal.Block

namespace Cert.ReferenceMixIdeal.Rows

open Cert.ReferenceMixIdeal Cert.ReferenceMixIdeal.Read Cert.KernelMixIdeal.Block Idealize.ShloMosaic

variable (X : FVec Ideal S8192x2048 .f32) (Sh Mu : FVec Ideal S4x2048 .f32) (W : FVec Ideal S4x2048x2048 .f32)

/-- The product of a row of all sequences, mixed with factors `e`. -/
def product (e : Fin 4) (b : Fin 4) (s l : Fin 2048) : EReal :=
  mixed (fun k => X (ix2 ⟨b.val * 2048 + s.val, by omega⟩ k)) (previous X Sh b s) (fun k => Mu (ix2 e k)) (fun k => W (ix3 e k l))

/-- The difference of a row and the row before it. -/
theorem difference_apply (b : Fin 4) (s k : Fin 2048) : val_main_v4 (F := Ideal) X Sh (ix3 b s k)
    = previous X Sh b s k - X (ix2 ⟨b.val * 2048 + s.val, by omega⟩ k) := by
  pointwise [val_main_v4, val_main_v3, val_main_v2, val_main_v1, val_main_v0]
  rfl

theorem product0_apply (b : Fin 4) (s l : Fin 2048) : val_main_v31 (F := Ideal) X Sh Mu W (ix3 b s l) = product X Sh Mu W 0 b s l := by
  pointwise [val_main_v31, val_main_v30, val_main_v29, val_main_v10, val_main_v9, val_main_v8, val_main_v7, val_main_v6, val_main_v5, val_main_v0]
  simp only [difference_apply]
  rfl

theorem product1_apply (b : Fin 4) (s l : Fin 2048) : val_main_v35 (F := Ideal) X Sh Mu W (ix3 b s l) = product X Sh Mu W 1 b s l := by
  pointwise [val_main_v35, val_main_v34, val_main_v33, val_main_v16, val_main_v15, val_main_v14, val_main_v13, val_main_v12, val_main_v11, val_main_v0]
  simp only [difference_apply]
  rfl

theorem product2_apply (b : Fin 4) (s l : Fin 2048) : val_main_v39 (F := Ideal) X Sh Mu W (ix3 b s l) = product X Sh Mu W 2 b s l := by
  pointwise [val_main_v39, val_main_v38, val_main_v37, val_main_v22, val_main_v21, val_main_v20, val_main_v19, val_main_v18, val_main_v17, val_main_v0]
  simp only [difference_apply]
  rfl

theorem product3_apply (b : Fin 4) (s l : Fin 2048) : val_main_v43 (F := Ideal) X Sh Mu W (ix3 b s l) = product X Sh Mu W 3 b s l := by
  pointwise [val_main_v43, val_main_v42, val_main_v41, val_main_v28, val_main_v27, val_main_v26, val_main_v25, val_main_v24, val_main_v23, val_main_v0]
  simp only [difference_apply]
  rfl

/-- The reference's result: the four products, one after the other. -/
theorem stacked_apply (e : Fin 4) (i : Fin 8192) (l : Fin 2048) : val_main_v49 (F := Ideal) X Sh Mu W (ix3 e i l)
    = product X Sh Mu W e ⟨i.val / 2048, by omega⟩ ⟨i.val % 2048, by omega⟩ l := by
  pointwise [val_main_v49, val_main_v48, val_main_v47, val_main_v46, val_main_v45, val_main_v44, val_main_v40, val_main_v36, val_main_v32]
  simp only [product0_apply, product1_apply, product2_apply, product3_apply]
  match e with
  | 0 => rfl
  | 1 => rfl
  | 2 => rfl
  | 3 => rfl

end Cert.ReferenceMixIdeal.Rows

namespace Cert.KernelMixIdeal.Block

open Cert.KernelMixIdeal Cert.KernelMixIdeal.Gen Idealize.ShloMosaic Idealize.ShloMosaic.TcCoe Idealize.SL.Sem

variable (m : (ℓ : Loc nD τ sig) → Buf (Elt Ideal) ℓ)

/-- The rows of a block. -/
theorem x_apply (c : Dev nD) (t : Fin cfg0.N) (r : Fin 512) (k : Fin 2048) :
    iblk m c 0 t (ix2 r k) = m ((c : Thread nD τ).loc main_arg0) (ix2 ⟨512 * (t.val / 16) + r.val, by have := lt256 t; omega⟩ k) := by
  refine Eq.trans ?_ (congrFun (V_main_arg0 m c) _)
  blk_simp [iblk, at0]
  refine congrArg (V m c main_arg0) ?_
  blk_ext [at0]

/-- The rows before them. -/
theorem p_apply (c : Dev nD) (t : Fin cfg0.N) (r : Fin 512) (k : Fin 2048) :
    iblk m c 1 t (ix2 r k) = previous (m ((c : Thread nD τ).loc main_arg0)) (m ((c : Thread nD τ).loc main_arg1))
      ⟨(512 * (t.val / 16) + r.val) / 2048, by have := lt256 t; omega⟩ ⟨(512 * (t.val / 16) + r.val) % 2048, by omega⟩ k := by
  refine Eq.trans ?_ (shifted m c ⟨512 * (t.val / 16) + r.val, by have := lt256 t; omega⟩ k)
  blk_simp [iblk, at1]
  refine congrArg (V m c main_v4) ?_
  blk_ext [at1]

/-- The mixing factors of a point. -/
theorem mu_apply (c : Dev nD) (t : Fin cfg0.N) (k : Fin 2048) :
    iblk m c 2 t (ix3 0 0 k) = m ((c : Thread nD τ).loc main_arg2) (ix2 ⟨t.val / 4 % 4, by omega⟩ k) := by
  refine Eq.trans ?_ (factors m c ⟨t.val / 4 % 4, by omega⟩ k)
  blk_simp [iblk, at2]
  refine congrArg (V m c main_v5) ?_
  blk_ext [at2]

/-- The weights of a point. -/
theorem w_apply (c : Dev nD) (t : Fin cfg0.N) (k : Fin 2048) (l : Fin 512) :
    iblk m c 3 t (ix3 0 k l) = m ((c : Thread nD τ).loc main_arg3) (ix3 ⟨t.val / 4 % 4, by omega⟩ k ⟨512 * (t.val % 4) + l.val, by omega⟩) := by
  refine Eq.trans ?_ (weights m c _)
  blk_simp [iblk, at3]
  refine congrArg (V m c main_v6) ?_
  blk_ext [at3]

/-- The four projections are the reference's. -/
theorem array4 (c : Dev nD) : (dats m 0 c).arrAt 4 cfg0.N
    = Cert.ReferenceMixIdeal.Read.val_main_v49 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h256 := lt256 t
  blk_simp
  rw [after0_4]
  obtain ⟨z, r, l, rfl⟩ : ∃ (z : Fin 1) (r l : Fin 512), y = ix3 z r l := ⟨y 0, y 1, y 2, eq_ix3 y⟩
  obtain rfl : z = 0 := Subsingleton.elim _ _
  refine (out_apply _ _ _ _ r l).trans ?_
  simp only [x_apply, p_apply, mu_apply, w_apply]
  refine Eq.trans ?_ ((Cert.ReferenceMixIdeal.Rows.stacked_apply (m ((c : Thread nD τ).loc main_arg0)) (m ((c : Thread nD τ).loc main_arg1))
    (m ((c : Thread nD τ).loc main_arg2)) (m ((c : Thread nD τ).loc main_arg3)) ⟨t.val / 4 % 4, by omega⟩
    ⟨512 * (t.val / 16) + r.val, by omega⟩ ⟨512 * (t.val % 4) + l.val, by omega⟩).symm.trans ?_)
  · unfold Cert.ReferenceMixIdeal.Rows.product
    have e : (512 * (t.val / 16) + r.val) / 2048 * 2048 + (512 * (t.val / 16) + r.val) % 2048 = 512 * (t.val / 16) + r.val := by omega
    simp only [e]
  · refine congrArg (Cert.ReferenceMixIdeal.Read.val_main_v49 (F := Ideal) _ _ _ _) ?_
    blk_ext [at4]

end Cert.KernelMixIdeal.Block
-- ==== Proof.Sigmoid.lean ====
/-
  The logarithm of the sigmoid, as the kernel computes it and as the reference's softplus does, and sums over a
  rank that zeros fill up.
-/
module

public import Idealize.ShloMosaic.Lib.Pointwise
public import Idealize.ShloMosaic.PureOps.Ideal.Laws

@[expose] public section

noncomputable section

namespace Cert.Sigmoid

open Idealize.ShloMosaic

/-- A sum over a rank that zeros fill up is the sum over the rank. -/
theorem sum_filled {n N : ℕ} (h : n ≤ N) (f : Fin n → EReal) :
    ∑ k : Fin N, (if hk : k.val < n then f ⟨k.val, hk⟩ else 0) = ∑ k : Fin n, f k := by
  obtain ⟨d, rfl⟩ := Nat.exists_eq_add_of_le h
  rw [Fin.sum_univ_add]
  simp

/-- The logarithm of a positive real. -/
theorem log_pos (r : ℝ) (h : 0 < r) : Ideal.log (r : EReal) = (Real.log r : EReal) := by
  have e : Ideal.log (r : EReal) = if r ≤ 0 then ⊥ else (Real.log r : EReal) := rfl
  rw [e, if_neg (not_le.mpr h)]

/-- What the logarithm of one plus an exponential of a number that is not positive can be: never infinite. -/
theorem log_finite (y : EReal) (hy : y ≤ 0) : ∃ r : ℝ, Ideal.log (1 + Ideal.exp y) = (r : EReal) := by
  induction y with
  | bot => exact ⟨Real.log 1, by
      have e : (1 : EReal) + Ideal.exp ⊥ = ((1 : ℝ) : EReal) := add_zero _
      rw [e, log_pos 1 one_pos]⟩
  | top => simp at hy
  | coe r => exact ⟨Real.log (1 + Real.exp r), by
      have e : (1 : EReal) + Ideal.exp (r : EReal) = ((1 + Real.exp r : ℝ) : EReal) := (EReal.coe_add 1 (Real.exp r)).symm
      rw [e, log_pos _ (add_pos one_pos (Real.exp_pos r))]⟩

/-- The logarithm of the sigmoid: the smaller of `z` and zero, less the logarithm of one plus the exponential of
    minus the size of `z`. -/
def logSigmoid (z : EReal) : EReal := min z 0 - Ideal.log (1 + Ideal.exp (0 - max z (-z)))

/-- Minus the softplus of `-z` is that. -/
theorem neg_softplus (z : EReal) :
    -(max (-z) 0 + Ideal.log (1 + Ideal.exp (-max (-z - 0) (-(-z - 0))))) = logSigmoid z := by
  unfold logSigmoid
  rw [sub_zero, neg_neg, max_comm (-z) z, zero_sub]
  have hy : -max z (-z) ≤ 0 := by
    rw [EReal.neg_le, neg_zero]
    rcases le_total 0 z with h | h
    · exact le_max_of_le_left h
    · exact le_max_of_le_right (by rw [EReal.le_neg, neg_zero]; exact h)
  obtain ⟨r, hr⟩ := log_finite _ hy
  rw [hr, EReal.neg_add (Or.inr (EReal.coe_ne_top r)) (Or.inr (EReal.coe_ne_bot r))]
  congr 1
  rcases le_total 0 z with h | h
  · rw [min_eq_right h, max_eq_right (by rw [EReal.neg_le, neg_zero]; exact h), neg_zero]
  · rw [min_eq_left h, max_eq_left (by rw [EReal.le_neg, neg_zero]; exact h), neg_neg]

/-- The integer zero as a number. -/
theorem zero_word : FloatOps.sitofp (F := Ideal) .f32 (0#32) = (0 : EReal) := by
  show (((BitVec.toInt 0#32 : ℤ) : ℝ) : EReal) = 0
  simp

/-- A sixteenth. -/
theorem div_sixteen (x : EReal) : Ideal.div x (Ideal.ofBits .f32 0x41800000#32) = x * Ideal.ofBits .f32 0x3D800000#32 := by
  have e : Ideal.ofBits .f32 0x41800000#32 = ((16 : ℝ) : EReal) := by simp [Ideal.ofBits, Ideal.ieee]; rw [← EReal.coe_mul]; norm_num
  have e' : Ideal.ofBits .f32 0x3D800000#32 = (((16 : ℝ)⁻¹ : ℝ) : EReal) := by simp [Ideal.ofBits, Ideal.ieee]; rw [← EReal.coe_mul]; norm_num
  rw [e, e']
  have h : ((16 : ℝ) : EReal) ≠ 0 := by norm_num
  unfold Ideal.div
  rw [if_neg h, EReal.coe_inv]

end Cert.Sigmoid

end
-- ==== Proof.Decay.lean ====
/-
  The log decays of the gated linear attention: what a point stores, the arrays the host prepares, the reference's
  result entry by entry, and the array that the call leaves.
-/
module

public import proofs.«01_k».proof.Proof.Sigmoid
public import proofs.«01_k».proof.Proof.Gen.KernelDecayIdeal.Value
public import proofs.«01_k».proof.Proof.Gen.ReferenceDecayIdeal.Read
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelDecayIdeal.Block

open Cert.KernelDecayIdeal Cert.KernelDecayIdeal.Gen Cert.Sigmoid Idealize.ShloMosaic Idealize.ShloMosaic.TcCoe Idealize.SL.Sem

/-- An entry of what the body stores. -/
theorem pay_apply (x : FVec Ideal S512x2048 .f32) (w : FVec Ideal S2048x128 .bf16) (u : FVec Ideal S128x1024 .bf16)
    (b : FVec Ideal S1x1024 .f32) (r : Fin 512) (l : Fin 1024) :
    k0_pay1 (F := Ideal) x w u b (ix2 r l)
      = logSigmoid ((∑ e : Fin 128, (∑ k : Fin 2048, x (ix2 r k) * w (ix2 k e)) * u (ix2 e l)) + b (ix2 0 l))
        * Ideal.ofBits .f32 0x3D800000#32 := by
  unfold k0_pay1
  pointwise
  unfold logSigmoid
  rw [← Ideal.ofBits_one_f32, ← Ideal.ofBits_zero_f32]
  rfl

/-- What a point stores, from its blocks. -/
theorem out_apply (x : FVec Ideal S512x2048 .f32) (w : FVec Ideal S2048x128 .bf16) (u : FVec Ideal S128x1024 .bf16)
    (b : FVec Ideal S1x1024 .f32) (r : Fin 512) (l : Fin 1024) :
    out0_4 (F := Ideal) x w u b (ix2 r l)
      = logSigmoid ((∑ e : Fin 128, (∑ k : Fin 2048, x (ix2 r k) * w (ix2 k e)) * u (ix2 e l)) + b (ix2 0 l))
        * Ideal.ofBits .f32 0x3D800000#32 := by
  unfold out0_4
  frame_out
  exact pay_apply x w u b r l

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem lt16 (t : Fin cfg0.N) : t.val < 16 := t.isLt

variable (m : (ℓ : Loc nD τ sig) → Buf (Elt Ideal) ℓ)

/-- The low-rank columns of the weights, with zeros after them. -/
def downAt (W : FVec Ideal S2048x6160 .f32) (k : Fin 2048) (e : Fin 128) : EReal :=
  if h : e.val < 16 then W (ix2 k ⟨6144 + e.val, by omega⟩) else 0

/-- The low-rank rows, with zeros after them. -/
def upAt (U : FVec Ideal S16x1024 .f32) (e : Fin 128) (l : Fin 1024) : EReal :=
  if h : e.val < 16 then U (ix2 ⟨e.val, h⟩ l) else 0

/-- The first half of the low-rank pair, its rank filled up with zeros. -/
theorem down_filled (W : FVec Ideal S2048x6160 .f32) (k : Fin 2048) (e : Fin 128) :
    pad S2048x128 ![0, 0] ![0, 112] ![0, 0] (extractStridedSlice S2048x16 ![0, 6144] W slices_S2048x6160_S2048x16_0_6144)
      (sitofp (F := Ideal) FTy.f32 (constantI S_ 32 0#32)) pads_S2048x16_S2048x128_000_01120 h_S_ (ix2 k e) = downAt W k e := by
  pointwise
  rw [zero_word]
  rfl

theorem down (c : Dev nD) (k : Fin 2048) (e : Fin 128) : V m c main_v2 (ix2 k e)
    = downAt (m ((c : Thread nD τ).loc main_arg1)) k e := by
  unfold_abbrev_sides
  after_reads_simp
  pointwise
  exact down_filled _ k e

/-- The second half. -/
theorem up_filled (U : FVec Ideal S16x1024 .f32) (e : Fin 128) (l : Fin 1024) :
    pad S128x1024 ![0, 0] ![112, 0] ![0, 0] U
      (sitofp (F := Ideal) FTy.f32 (constantI S_ 32 0#32)) pads_S16x1024_S128x1024_01120_000 h_S_ (ix2 e l) = upAt U e l := by
  pointwise
  rw [zero_word]
  rfl

theorem up (c : Dev nD) (e : Fin 128) (l : Fin 1024) : V m c main_v4 (ix2 e l)
    = upAt (m ((c : Thread nD τ).loc main_arg2)) e l := by
  unfold_abbrev_sides
  after_reads_simp
  pointwise
  exact up_filled _ e l

/-- The offsets, laid out as one row. -/
theorem offsets (c : Dev nD) (l : Fin 1024) : V m c main_v5 (ix2 0 l) = m ((c : Thread nD τ).loc main_arg3) (ix1 l) := by
  unfold_abbrev_sides
  after_reads_simp
  pointwise

/-- The rows of a block. -/
theorem x_apply (c : Dev nD) (t : Fin cfg0.N) (r : Fin 512) (k : Fin 2048) :
    iblk m c 0 t (ix2 r k) = m ((c : Thread nD τ).loc main_arg0) (ix2 ⟨512 * t.val + r.val, by have := lt16 t; omega⟩ k) := by
  refine Eq.trans ?_ (congrFun (V_main_arg0 m c) _)
  blk_simp [iblk, at0]
  refine congrArg (V m c main_arg0) ?_
  blk_ext [at0]

theorem w_apply (c : Dev nD) (t : Fin cfg0.N) (k : Fin 2048) (e : Fin 128) : iblk m c 1 t (ix2 k e)
    = downAt (m ((c : Thread nD τ).loc main_arg1)) k e := by
  refine Eq.trans ?_ (down m c k e)
  blk_simp [iblk, at1]
  refine congrArg (V m c main_v2) ?_
  blk_ext [at1]

theorem u_apply (c : Dev nD) (t : Fin cfg0.N) (e : Fin 128) (l : Fin 1024) : iblk m c 2 t (ix2 e l)
    = upAt (m ((c : Thread nD τ).loc main_arg2)) e l := by
  refine Eq.trans ?_ (up m c e l)
  blk_simp [iblk, at2]
  refine congrArg (V m c main_v4) ?_
  blk_ext [at2]

theorem b_apply (c : Dev nD) (t : Fin cfg0.N) (l : Fin 1024) :
    iblk m c 3 t (ix2 0 l) = m ((c : Thread nD τ).loc main_arg3) (ix1 l) := by
  refine Eq.trans ?_ (offsets m c l)
  blk_simp [iblk, at3]
  refine congrArg (V m c main_v5) ?_
  blk_ext [at3]

end Cert.KernelDecayIdeal.Block

namespace Cert.ReferenceDecayIdeal.Rows

open Cert.ReferenceDecayIdeal Cert.ReferenceDecayIdeal.Read Cert.Sigmoid Idealize.ShloMosaic

variable (X : FVec Ideal S8192x2048 .f32) (W : FVec Ideal S2048x6160 .f32) (U : FVec Ideal S16x1024 .f32)
  (B : FVec Ideal S1024 .f32)

/-- What the sigmoid is taken of. -/
def score (i : Fin 8192) (l : Fin 1024) : EReal :=
  (∑ e : Fin 16, (∑ k : Fin 2048, X (ix2 i k) * W (ix2 k ⟨6144 + e.val, by omega⟩)) * U (ix2 e l)) + B (ix1 l)

theorem score_apply (i : Fin 8192) (l : Fin 1024) : val_main_v5 (F := Ideal) X W U B (ix2 i l) = score X W U B i l := by
  pointwise [val_main_v5, val_main_v4, val_main_v3, val_main_v2, val_main_v1, val_main_v0]
  rfl

/-- Minus the reference's softplus. -/
theorem sigmoid_apply (i : Fin 8192) (l : Fin 1024) : val_main_v6 (F := Ideal) X W U B (ix2 i l)
    = logSigmoid (score X W U B i l) := by
  rw [← neg_softplus, sub_zero]
  pointwise [val_main_v6, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0]
  simp only [score_apply]
  rw [if_neg (fun h => h rfl)]
  rfl

/-- The reference's result. -/
theorem decay_apply (i : Fin 8192) (l : Fin 1024) : val_main_v8 (F := Ideal) X W U B (ix2 i l)
    = logSigmoid (score X W U B i l) * Ideal.ofBits .f32 0x3D800000#32 := by
  pointwise [val_main_v8, val_main_v7, val_main_cst]
  rw [sigmoid_apply]
  exact div_sixteen _

end Cert.ReferenceDecayIdeal.Rows

namespace Cert.KernelDecayIdeal.Block

open Cert.KernelDecayIdeal Cert.KernelDecayIdeal.Gen Cert.Sigmoid Idealize.ShloMosaic Idealize.ShloMosaic.TcCoe Idealize.SL.Sem

variable (m : (ℓ : Loc nD τ sig) → Buf (Elt Ideal) ℓ)

/-- The log decays are the reference's. -/
theorem array4 (c : Dev nD) : (dats m 0 c).arrAt 4 cfg0.N
    = Cert.ReferenceDecayIdeal.Read.val_main_v8 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, eq_ix2 y⟩
  refine (out_apply _ _ _ _ r l).trans ?_
  simp only [x_apply, w_apply, u_apply, b_apply]
  refine Eq.trans ?_ ((Cert.ReferenceDecayIdeal.Rows.decay_apply (m ((c : Thread nD τ).loc main_arg0)) (m ((c : Thread nD τ).loc main_arg1))
    (m ((c : Thread nD τ).loc main_arg2)) (m ((c : Thread nD τ).loc main_arg3)) ⟨512 * t.val + r.val, by have := lt16 t; omega⟩ l).symm.trans ?_)
  · unfold Cert.ReferenceDecayIdeal.Rows.score
    refine congrArg (fun z => logSigmoid (z + _) * _) ?_
    refine Eq.trans (Finset.sum_congr rfl fun e _ => ?_) (sum_filled (n := 16) (N := 128) (by omega) _)
    by_cases h : e.val < 16
    · simp only [downAt, upAt, dif_pos h]
    · simp only [upAt, dif_neg h, mul_zero]
  · refine congrArg (Cert.ReferenceDecayIdeal.Read.val_main_v8 (F := Ideal) _ _ _ _) ?_
    blk_ext [at4]

end Cert.KernelDecayIdeal.Block
-- ==== Proof.Lora.lean ====
/-
  The two low-rank maps of the token mixer, its decays and its rates: what a point stores, the arrays the host
  prepares, and the blocks a point reads.
-/
module

public import proofs.«01_k».proof.Proof.Sigmoid
public import proofs.«01_k».proof.Proof.Gen.KernelLoraIdeal.Value
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelLoraIdeal.Block

open Cert.KernelLoraIdeal Cert.KernelLoraIdeal.Gen Cert.Sigmoid Idealize.ShloMosaic Idealize.ShloMosaic.TcCoe Idealize.SL.Sem

/-- An entry of a row `x` mixed with the row `p` before it by the factors `mu`. -/
def mixed (x p mu : Fin 2048 → EReal) (k : Fin 2048) : EReal := x k + (p k - x k) * mu k

/-- A decay, from the row that its low-rank map is applied to. -/
def decayOf {R : ℕ} (z : Fin 2048 → EReal) (w : Fin 2048 → Fin R → EReal) (u : Fin R → EReal) (b : EReal) : EReal :=
  Ideal.exp (-Ideal.exp (logSigmoid (b + ∑ e, Ideal.tanh (∑ k, z k * w k e) * u e) - Ideal.ofBits .f32 0x3F000000#32))

/-- A rate, likewise. -/
def rateOf {R : ℕ} (z : Fin 2048 → EReal) (w : Fin 2048 → Fin R → EReal) (u : Fin R → EReal) (b : EReal) : EReal :=
  Ideal.div 1 (1 + Ideal.exp (-(b + ∑ e, (∑ k, z k * w k e) * u e)))

/-- The mixed row, as the body computes it for the rates. -/
theorem mixed_apply (x p : FVec Ideal S512x2048 .f32) (mu : FVec Ideal S1x1x2048 .f32) (r : Fin 512) (k : Fin 2048) :
    k0_pay4 (F := Ideal) x p mu (ix2 r k)
      = mixed (fun k => x (ix2 r k)) (fun k => p (ix2 r k)) (fun k => mu (ix3 0 0 k)) k := by
  unfold k0_pay4 k0_pay3
  pointwise
  rfl

/-- The rates the body stores. -/
theorem rate_apply (z : FVec Ideal S512x2048 .bf16) (w : FVec Ideal S2048x128 .bf16) (b : FVec Ideal S1x2048 .f32)
    (u : FVec Ideal S128x2048 .bf16) (r : Fin 512) (l : Fin 2048) :
    k0_pay2 (F := Ideal) z w b u (ix2 r l)
      = rateOf (fun k => z (ix2 r k)) (fun k e => w (ix2 k e)) (fun e => u (ix2 e l)) (b (ix2 0 l)) := by
  unfold k0_pay2
  pointwise
  rw [zero_sub]
  rfl

/-- The logarithm of the sigmoid, of which the body makes the decays. -/
theorem log_apply (x p : FVec Ideal S512x2048 .f32) (mu : FVec Ideal S1x1x2048 .f32) (w : FVec Ideal S2048x128 .bf16)
    (b : FVec Ideal S1x2048 .f32) (u : FVec Ideal S128x2048 .bf16) (r : Fin 512) (l : Fin 2048) :
    k0_pay5 (F := Ideal) x p mu w b u (ix2 r l)
      = logSigmoid (b (ix2 0 l) + ∑ e, Ideal.tanh (∑ k, mixed (fun k => x (ix2 r k)) (fun k => p (ix2 r k))
          (fun k => mu (ix3 0 0 k)) k * w (ix2 k e)) * u (ix2 e l)) := by
  unfold k0_pay5 k0_pay3
  pointwise
  unfold logSigmoid
  rw [← Ideal.ofBits_one_f32, ← Ideal.ofBits_zero_f32]
  rfl

/-- The decays the body stores. -/
theorem decay_apply (z : FVec Ideal S512x2048 .f32) (r : Fin 512) (l : Fin 2048) :
    k0_pay1 (F := Ideal) z (ix2 r l) = Ideal.exp (-Ideal.exp (z (ix2 r l) - Ideal.ofBits .f32 0x3F000000#32)) := by
  unfold k0_pay1
  pointwise
  rw [zero_sub]

/-- The factors of the first mixture. -/
theorem first_row (mu : FVec Ideal S2x1x2048 .f32) (k : Fin 2048) : (View.ld (Val := Elt Ideal) (e' := .f32) mu r0_1 : FVec Ideal S1x1x2048 .f32) (ix3 0 0 k) = mu (ix3 0 0 k) := by
  refine congrArg mu ?_
  blk_ext
  all_goals first | exact (Nat.zero_add _).trans (Nat.one_mul _) | exact (Nat.zero_add _).trans (Nat.mul_one _) | rfl | simp

/-- The factors of the second. -/
theorem second_row (mu : FVec Ideal S2x1x2048 .f32) (k : Fin 2048) : (View.ld (Val := Elt Ideal) (e' := .f32) mu r0_2 : FVec Ideal S1x1x2048 .f32) (ix3 0 0 k) = mu (ix3 1 0 k) := by
  refine congrArg mu ?_
  blk_ext
  all_goals first | exact (Nat.zero_add _).trans (Nat.one_mul _) | exact (Nat.zero_add _).trans (Nat.mul_one _) | rfl | simp

variable (x p : FVec Ideal S512x2048 .f32) (mu : FVec Ideal S2x1x2048 .f32) (w : FVec Ideal S2048x128 .bf16)
  (u : FVec Ideal S128x2048 .bf16) (b : FVec Ideal S1x2048 .f32) (w' : FVec Ideal S2048x128 .bf16)
  (u' : FVec Ideal S128x2048 .bf16) (b' : FVec Ideal S1x2048 .f32)

/-- What a point stores of the decays. -/
theorem out9_apply (r : Fin 512) (l : Fin 2048) : out0_9 (F := Ideal) x p mu w u b w' u' b' (ix2 r l)
    = decayOf (mixed (fun k => x (ix2 r k)) (fun k => p (ix2 r k)) (fun k => mu (ix3 0 0 k))) (fun k e => w (ix2 k e))
        (fun e => u (ix2 e l)) (b (ix2 0 l)) := by
  unfold out0_9
  frame_out
  refine (decay_apply _ r l).trans ?_
  rw [log_apply]
  exact congrArg (fun f => decayOf (mixed (fun k => x (ix2 r k)) (fun k => p (ix2 r k)) f) (fun k e => w (ix2 k e))
    (fun e => u (ix2 e l)) (b (ix2 0 l))) (funext fun k => first_row mu k)

/-- What a point stores of the rates. -/
theorem out10_apply (r : Fin 512) (l : Fin 2048) : out0_10 (F := Ideal) x p mu w u b w' u' b' (ix2 r l)
    = rateOf (mixed (fun k => x (ix2 r k)) (fun k => p (ix2 r k)) (fun k => mu (ix3 1 0 k))) (fun k e => w' (ix2 k e))
        (fun e => u' (ix2 e l)) (b' (ix2 0 l)) := by
  unfold out0_10
  frame_out
  refine (rate_apply _ _ _ _ r l).trans ?_
  simp only [mixed_apply]
  exact congrArg (fun f => rateOf (mixed (fun k => x (ix2 r k)) (fun k => p (ix2 r k)) f) (fun k e => w' (ix2 k e))
    (fun e => u' (ix2 e l)) (b' (ix2 0 l))) (funext fun k => second_row mu k)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)
theorem lt16 (t : Fin cfg0.N) : t.val < 16 := t.isLt

variable (m : (ℓ : Loc nD τ sig) → Buf (Elt Ideal) ℓ)

/-- The low-rank columns, with zeros after them. -/
def downAt (W : FVec Ideal S2048x96 .f32) (k : Fin 2048) (e : Fin 128) : EReal := if h : e.val < 96 then W (ix2 k ⟨e.val, h⟩) else 0

/-- The low-rank rows, with zeros after them. -/
def upAt (U : FVec Ideal S96x2048 .f32) (l : Fin 2048) (e : Fin 128) : EReal := if h : e.val < 96 then U (ix2 ⟨e.val, h⟩ l) else 0

theorem down_filled (W : FVec Ideal S2048x96 .f32) (k : Fin 2048) (e : Fin 128) :
    pad S2048x128 ![0, 0] ![0, 32] ![0, 0] W
      (sitofp (F := Ideal) FTy.f32 (constantI S_ 32 0#32)) pads_S2048x96_S2048x128_000_0320 h_S_ (ix2 k e) = downAt W k e := by
  pointwise
  rw [zero_word]
  rfl

theorem up_filled (U : FVec Ideal S96x2048 .f32) (e : Fin 128) (l : Fin 2048) :
    pad S128x2048 ![0, 0] ![32, 0] ![0, 0] U
      (sitofp (F := Ideal) FTy.f32 (constantI S_ 32 0#32)) pads_S96x2048_S128x2048_0320_000 h_S_ (ix2 e l) = upAt U l e := by
  pointwise
  rw [zero_word]
  rfl

theorem host_w (c : Dev nD) (k : Fin 2048) (e : Fin 128) : V m c main_v7 (ix2 k e)
    = downAt (m ((c : Thread nD τ).loc main_arg3)) k e := by
  unfold_abbrev_sides
  after_reads_simp
  pointwise
  exact down_filled _ k e

theorem host_u (c : Dev nD) (e : Fin 128) (l : Fin 2048) : V m c main_v9 (ix2 e l)
    = upAt (m ((c : Thread nD τ).loc main_arg4)) l e := by
  unfold_abbrev_sides
  after_reads_simp
  pointwise
  exact up_filled _ e l

theorem host_w' (c : Dev nD) (k : Fin 2048) (e : Fin 128) : V m c main_v11 (ix2 k e)
    = downAt (m ((c : Thread nD τ).loc main_arg6)) k e := by
  unfold_abbrev_sides
  after_reads_simp
  pointwise
  exact down_filled _ k e

theorem host_u' (c : Dev nD) (e : Fin 128) (l : Fin 2048) : V m c main_v13 (ix2 e l)
    = upAt (m ((c : Thread nD τ).loc main_arg7)) l e := by
  unfold_abbrev_sides
  after_reads_simp
  pointwise
  exact up_filled _ e l

/-- The offsets, each laid out as one row. -/
theorem host_b (c : Dev nD) (l : Fin 2048) : V m c main_v14 (ix2 0 l) = m ((c : Thread nD τ).loc main_arg5) (ix1 l) := by
  unfold_abbrev_sides
  after_reads_simp
  pointwise

theorem host_b' (c : Dev nD) (l : Fin 2048) : V m c main_v15 (ix2 0 l) = m ((c : Thread nD τ).loc main_arg8) (ix1 l) := by
  unfold_abbrev_sides
  after_reads_simp
  pointwise

/-- The mixing factors, one row each. -/
theorem host_mu (c : Dev nD) (e : Fin 2) (k : Fin 2048) :
    V m c main_v5 (ix3 e 0 k) = m ((c : Thread nD τ).loc main_arg2) (ix2 e k) := by
  unfold_abbrev_sides
  after_reads_simp
  pointwise

/-- The row before row `s` of sequence `b`: the sequence's carried row before its first. -/
def previous (X : FVec Ideal S8192x2048 .f32) (Sh : FVec Ideal S4x2048 .f32) (b : Fin 4) (s k : Fin 2048) : EReal :=
  if h : s.val < 1 then Sh (ix2 b k) else X (ix2 ⟨b.val * 2048 + (s.val - 1), by omega⟩ k)

/-- The rows before, as the host lays them out. -/
theorem host_p (c : Dev nD) (i : Fin 8192) (k : Fin 2048) : V m c main_v4 (ix2 i k)
    = previous (m ((c : Thread nD τ).loc main_arg0)) (m ((c : Thread nD τ).loc main_arg1)) ⟨i.val / 2048, by omega⟩
        ⟨i.val % 2048, by omega⟩ k := by
  unfold_abbrev_sides
  after_reads_simp
  pointwise
  after_reads_simp
  pointwise
  rfl

/-- The rows of a block. -/
theorem x_apply (c : Dev nD) (t : Fin cfg0.N) (r : Fin 512) (k : Fin 2048) :
    iblk m c 0 t (ix2 r k) = m ((c : Thread nD τ).loc main_arg0) (ix2 ⟨512 * t.val + r.val, by have := lt16 t; omega⟩ k) := by
  refine Eq.trans ?_ (congrFun (V_main_arg0 m c) _)
  blk_simp [iblk, at0]
  refine congrArg (V m c main_arg0) ?_
  blk_ext [at0]

/-- The rows before them. -/
theorem p_apply (c : Dev nD) (t : Fin cfg0.N) (r : Fin 512) (k : Fin 2048) :
    iblk m c 1 t (ix2 r k) = previous (m ((c : Thread nD τ).loc main_arg0)) (m ((c : Thread nD τ).loc main_arg1))
      ⟨(512 * t.val + r.val) / 2048, by have := lt16 t; omega⟩ ⟨(512 * t.val + r.val) % 2048, by omega⟩ k := by
  refine Eq.trans ?_ (host_p m c ⟨512 * t.val + r.val, by have := lt16 t; omega⟩ k)
  blk_simp [iblk, at1]
  refine congrArg (V m c main_v4) ?_
  blk_ext [at1]

/-- The mixing factors, the pairs and the offsets: every point reads all of them. -/
theorem mu_apply (c : Dev nD) (t : Fin cfg0.N) (e : Fin 2) (k : Fin 2048) :
    iblk m c 2 t (ix3 e 0 k) = m ((c : Thread nD τ).loc main_arg2) (ix2 e k) := by
  refine Eq.trans ?_ (host_mu m c e k)
  blk_simp [iblk, at2]
  refine congrArg (V m c main_v5) ?_
  blk_ext [at2]

theorem w_apply (c : Dev nD) (t : Fin cfg0.N) (k : Fin 2048) (e : Fin 128) :
    iblk m c 3 t (ix2 k e) = downAt (m ((c : Thread nD τ).loc main_arg3)) k e := by
  refine Eq.trans ?_ (host_w m c k e)
  blk_simp [iblk, at3]
  refine congrArg (V m c main_v7) ?_
  blk_ext [at3]

theorem u_apply (c : Dev nD) (t : Fin cfg0.N) (e : Fin 128) (l : Fin 2048) :
    iblk m c 4 t (ix2 e l) = upAt (m ((c : Thread nD τ).loc main_arg4)) l e := by
  refine Eq.trans ?_ (host_u m c e l)
  blk_simp [iblk, at4]
  refine congrArg (V m c main_v9) ?_
  blk_ext [at4]

theorem b_apply (c : Dev nD) (t : Fin cfg0.N) (l : Fin 2048) :
    iblk m c 5 t (ix2 0 l) = m ((c : Thread nD τ).loc main_arg5) (ix1 l) := by
  refine Eq.trans ?_ (host_b m c l)
  blk_simp [iblk, at5]
  refine congrArg (V m c main_v14) ?_
  blk_ext [at5]

theorem w'_apply (c : Dev nD) (t : Fin cfg0.N) (k : Fin 2048) (e : Fin 128) :
    iblk m c 6 t (ix2 k e) = downAt (m ((c : Thread nD τ).loc main_arg6)) k e := by
  refine Eq.trans ?_ (host_w' m c k e)
  blk_simp [iblk, at6]
  refine congrArg (V m c main_v11) ?_
  blk_ext [at6]

theorem u'_apply (c : Dev nD) (t : Fin cfg0.N) (e : Fin 128) (l : Fin 2048) :
    iblk m c 7 t (ix2 e l) = upAt (m ((c : Thread nD τ).loc main_arg7)) l e := by
  refine Eq.trans ?_ (host_u' m c e l)
  blk_simp [iblk, at7]
  refine congrArg (V m c main_v13) ?_
  blk_ext [at7]

theorem b'_apply (c : Dev nD) (t : Fin cfg0.N) (l : Fin 2048) :
    iblk m c 8 t (ix2 0 l) = m ((c : Thread nD τ).loc main_arg8) (ix1 l) := by
  refine Eq.trans ?_ (host_b' m c l)
  blk_simp [iblk, at8]
  refine congrArg (V m c main_v15) ?_
  blk_ext [at8]

end Cert.KernelLoraIdeal.Block
-- ==== Proof.LoraEq.lean ====
/-
  The decays and the rates of the reference, and the arrays that the call leaves.
-/
module

public import proofs.«01_k».proof.Proof.Lora
public import proofs.«01_k».proof.Proof.Gen.ReferenceLoraIdeal.Read

@[expose] public section

noncomputable section

namespace Cert.ReferenceLoraIdeal.Rows

open Cert.ReferenceLoraIdeal Cert.ReferenceLoraIdeal.Read Cert.KernelLoraIdeal.Block Cert.Sigmoid Idealize.ShloMosaic

variable (X : FVec Ideal S8192x2048 .f32) (Sh : FVec Ideal S4x2048 .f32) (Mu : FVec Ideal S2x2048 .f32)
  (W : FVec Ideal S2048x96 .f32) (U : FVec Ideal S96x2048 .f32) (B : FVec Ideal S2048 .f32)

/-- A row mixed with factors `e`. -/
def row (e : Fin 2) (b : Fin 4) (s k : Fin 2048) : EReal :=
  mixed (fun k => X (ix2 ⟨b.val * 2048 + s.val, by omega⟩ k)) (previous X Sh b s) (fun k => Mu (ix2 e k)) k

/-- The difference of a row and the row before it. -/
theorem difference_apply (b : Fin 4) (s k : Fin 2048) : val_main_v4 (F := Ideal) X Sh (ix3 b s k)
    = previous X Sh b s k - X (ix2 ⟨b.val * 2048 + s.val, by omega⟩ k) := by
  pointwise [val_main_v4, val_main_v3, val_main_v2, val_main_v1, val_main_v0]
  rfl

theorem row0_apply (b : Fin 4) (s k : Fin 2048) : val_main_v10 (F := Ideal) X Sh Mu (ix3 b s k) = row X Sh Mu 0 b s k := by
  pointwise [val_main_v10, val_main_v9, val_main_v8, val_main_v7, val_main_v6, val_main_v5, val_main_v0]
  rw [difference_apply]
  rfl

theorem row1_apply (b : Fin 4) (s k : Fin 2048) : val_main_v16 (F := Ideal) X Sh Mu (ix3 b s k) = row X Sh Mu 1 b s k := by
  pointwise [val_main_v16, val_main_v15, val_main_v14, val_main_v13, val_main_v12, val_main_v11, val_main_v0]
  rw [difference_apply]
  rfl

/-- What the sigmoid of the decays is taken of. -/
theorem score_apply (b : Fin 4) (s l : Fin 2048) : val_main_v22 (F := Ideal) X Sh Mu W U B (ix3 b s l)
    = B (ix1 l) + ∑ e, Ideal.tanh (∑ k, row X Sh Mu 0 b s k * W (ix2 k e)) * U (ix2 e l) := by
  pointwise [val_main_v22, val_main_v21, val_main_v20, val_main_v19, val_main_v18, val_main_v17]
  simp only [row0_apply]

/-- Minus the reference's softplus. -/
theorem sigmoid_apply (b : Fin 4) (s l : Fin 2048) : val_main_v25 (F := Ideal) X Sh Mu W U B (ix3 b s l)
    = logSigmoid (val_main_v22 (F := Ideal) X Sh Mu W U B (ix3 b s l)) := by
  rw [← neg_softplus, sub_zero]
  pointwise [val_main_v25, val_main_v24, val_main_call0_v11, val_main_call0_v10, val_main_call0_v9, val_main_call0_v8,
    val_main_call0_v7, val_main_call0_v6, val_main_call0_v5, val_main_call0_v4, val_main_call0_v3, val_main_call0_v2,
    val_main_call0_v1, val_main_call0_v0, val_main_call0_cst, val_main_v23]
  rw [if_neg (fun h => h rfl)]
  rfl

/-- The reference's decays. -/
theorem decay_apply (i : Fin 8192) (l : Fin 2048) : val_main_v42 (F := Ideal) X Sh Mu W U B (ix2 i l)
    = decayOf (row X Sh Mu 0 ⟨i.val / 2048, by omega⟩ ⟨i.val % 2048, by omega⟩) (fun k e => W (ix2 k e)) (fun e => U (ix2 e l))
        (B (ix1 l)) := by
  pointwise [val_main_v42, val_main_v30, val_main_v29, val_main_v28, val_main_v27, val_main_v26, val_main_cst]
  rw [sigmoid_apply, score_apply]
  rfl

/-- The reference's rates. -/
theorem rate_apply (i : Fin 8192) (l : Fin 2048) : val_main_v43 (F := Ideal) X Sh Mu W U B (ix2 i l)
    = rateOf (row X Sh Mu 1 ⟨i.val / 2048, by omega⟩ ⟨i.val % 2048, by omega⟩) (fun k e => W (ix2 k e)) (fun e => U (ix2 e l))
        (B (ix1 l)) := by
  pointwise [val_main_v43, val_main_v41, val_main_v40, val_main_v39, val_main_v38, val_main_v37, val_main_v36, val_main_v35,
    val_main_v34, val_main_v33, val_main_v32, val_main_v31, val_main_cst_1, val_main_cst_0]
  simp only [row1_apply]
  rfl

end Cert.ReferenceLoraIdeal.Rows

namespace Cert.KernelLoraIdeal.Block

open Cert.KernelLoraIdeal Cert.KernelLoraIdeal.Gen Cert.Sigmoid Idealize.ShloMosaic Idealize.ShloMosaic.TcCoe Idealize.SL.Sem

/-- The zeros that fill up the rank add nothing to a decay. -/
theorem decay_filled (z : Fin 2048 → EReal) (W : FVec Ideal S2048x96 .f32) (U : FVec Ideal S96x2048 .f32) (l : Fin 2048) (b : EReal) :
    decayOf z (downAt W) (upAt U l) b = decayOf z (fun k e => W (ix2 k e)) (fun e => U (ix2 e l)) b := by
  unfold decayOf
  refine congrArg (fun y => Ideal.exp (-Ideal.exp (logSigmoid (b + y) - _))) ?_
  refine Eq.trans (Finset.sum_congr rfl fun e _ => ?_) (sum_filled (n := 96) (N := 128) (by omega) _)
  by_cases h : e.val < 96
  · simp only [downAt, upAt, dif_pos h]
  · simp only [upAt, dif_neg h, mul_zero]

/-- Nor to a rate. -/
theorem rate_filled (z : Fin 2048 → EReal) (W : FVec Ideal S2048x96 .f32) (U : FVec Ideal S96x2048 .f32) (l : Fin 2048) (b : EReal) :
    rateOf z (downAt W) (upAt U l) b = rateOf z (fun k e => W (ix2 k e)) (fun e => U (ix2 e l)) b := by
  unfold rateOf
  refine congrArg (fun y => Ideal.div 1 (1 + Ideal.exp (-(b + y)))) ?_
  refine Eq.trans (Finset.sum_congr rfl fun e _ => ?_) (sum_filled (n := 96) (N := 128) (by omega) _)
  by_cases h : e.val < 96
  · simp only [downAt, upAt, dif_pos h]
  · simp only [upAt, dif_neg h, mul_zero]

variable (m : (ℓ : Loc nD τ sig) → Buf (Elt Ideal) ℓ)

/-- The mixed rows of a block are the reference's. -/
theorem row_block (c : Dev nD) (t : Fin cfg0.N) (e : Fin 2) (r : Fin 512) :
    mixed (fun k => iblk m c 0 t (ix2 r k)) (fun k => iblk m c 1 t (ix2 r k)) (fun k => iblk m c 2 t (ix3 e 0 k))
      = Cert.ReferenceLoraIdeal.Rows.row (m ((c : Thread nD τ).loc main_arg0)) (m ((c : Thread nD τ).loc main_arg1))
          (m ((c : Thread nD τ).loc main_arg2)) e ⟨(512 * t.val + r.val) / 2048, by have := lt16 t; omega⟩
          ⟨(512 * t.val + r.val) % 2048, by omega⟩ := by
  funext k
  simp only [x_apply, p_apply, mu_apply]
  unfold Cert.ReferenceLoraIdeal.Rows.row
  have e1 : (512 * t.val + r.val) / 2048 * 2048 + (512 * t.val + r.val) % 2048 = 512 * t.val + r.val := by omega
  simp only [e1]

/-- The decays are the reference's. -/
theorem array9 (c : Dev nD) : (dats m 0 c).arrAt 9 cfg0.N
    = Cert.ReferenceLoraIdeal.Read.val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 9 _ (by decide +kernel) fun t hf y => ?_
  blk_simp
  rw [after0_9]
  obtain ⟨r, l, rfl⟩ : ∃ (r : Fin 512) (l : Fin 2048), y = ix2 r l := ⟨y 0, y 1, eq_ix2 y⟩
  refine (out9_apply _ _ _ _ _ _ _ _ _ r l).trans ?_
  rw [row_block]
  simp only [w_apply, u_apply, b_apply]
  refine (decay_filled _ _ _ _ _).trans ?_
  refine (Cert.ReferenceLoraIdeal.Rows.decay_apply _ _ _ _ _ _ ⟨512 * t.val + r.val, by have := lt16 t; omega⟩ l).symm.trans ?_
  refine congrArg (Cert.ReferenceLoraIdeal.Read.val_main_v42 (F := Ideal) _ _ _ _ _ _) ?_
  blk_ext [at9]

/-- The rates are the reference's. -/
theorem array10 (c : Dev nD) : (dats m 0 c).arrAt 10 cfg0.N
    = Cert.ReferenceLoraIdeal.Read.val_main_v43 (F := Ideal) (m ((c : Thread nD τ).loc main_arg0)) (m ((c : Thread nD τ).loc main_arg1))
        (m ((c : Thread nD τ).loc main_arg2)) (m ((c : Thread nD τ).loc main_arg6)) (m ((c : Thread nD τ).loc main_arg7))
        (m ((c : Thread nD τ).loc main_arg8)) := by
  refine (dats m 0 c).arrAt_eq_of_covers 10 _ (by decide +kernel) fun t hf y => ?_
  blk_simp
  rw [after0_10]
  obtain ⟨r, l, rfl⟩ : ∃ (r : Fin 512) (l : Fin 2048), y = ix2 r l := ⟨y 0, y 1, eq_ix2 y⟩
  refine (out10_apply _ _ _ _ _ _ _ _ _ r l).trans ?_
  rw [row_block]
  simp only [w'_apply, u'_apply, b'_apply]
  refine (rate_filled _ _ _ _ _).trans ?_
  refine (Cert.ReferenceLoraIdeal.Rows.rate_apply _ _ _ _ _ _ ⟨512 * t.val + r.val, by have := lt16 t; omega⟩ l).symm.trans ?_
  refine congrArg (Cert.ReferenceLoraIdeal.Read.val_main_v43 (F := Ideal) _ _ _ _ _ _) ?_
  blk_ext [at10]

end Cert.KernelLoraIdeal.Block
-- ==== Proof.SampleBlock.lean ====
/-
  One grid point of the sample's attention kernel, written uniformly: eight query rows of one sequence
  against its 128 cached keys, its eight own ones and 120 rows of zeros. One definition says what a pair of
  heads computes, and the body's sixteen stores are shown to be that definition at the sixteen pairs.
-/
module

public import proofs.«01_k».proof.Proof.Gen.KernelSampleIdeal.Value

@[expose] public section

noncomputable section

namespace Cert.KernelSampleIdeal.Block

open Cert.KernelSampleIdeal Cert.KernelSampleIdeal.Gen Idealize.ShloMosaic Idealize.ShloMosaic.TcCoe Idealize.SL.Sem

variable {F : FTy → Type} [FloatOps F] [Named F]

/-- The rotary embedding of 128 columns (two heads): the columns times the cosine table, plus the columns
    turned by eight one way and the other, each times its sine table. -/
def rope (x : Vec F S8x128 .f32) (c s1 s2 : FVec F S8x128 .f32) : FVec F S8x128 .f32 :=
  addf (addf (mulf x c) (mulf (dynamicRotate 1 120#32 none x rotates_S8x128_d1) s1))
    (mulf (dynamicRotate 1 8#32 none x rotates_S8x128_d1) s2)

/-- One of the three tables of the positions, as a matrix. -/
def table (t : Vec F S1x8x128 .f32) : FVec F S8x128 .f32 := shapeCast S8x128 t shapeCasts_S1x8x128_S8x128

/-- The rotated keys of the own rows: two groups of 128 columns side by side. -/
def ropeKeys (t0 t1 t2 : Vec F S1x8x128 .f32) (k : Vec F S8x256 .f32) : FVec F S8x256 .f32 :=
  concatenate S8x256 1
    [⟨S8x128, rope (extractStridedSlice S8x128 ![0, 0] k slices_S8x256_o0_0_S8x128) (table t0) (table t1) (table t2)⟩,
     ⟨S8x128, rope (extractStridedSlice S8x128 ![0, 128] k slices_S8x256_o0_128_S8x128) (table t0) (table t1) (table t2)⟩]
    concatenates_S8x128_S8x128_S8x256_d1

/-- Eight rows followed by 120 rows of zeros. -/
def extended (x : FVec F S8x256 .f32) : FVec F S128x256 .f32 :=
  concatenate S128x256 0 [⟨S8x256, x⟩, ⟨S120x256, broadcast S120x256 (Scalar.ofBits .f32 0x00000000#32)⟩]
    concatenates_S8x256_S120x256_S128x256_d0

/-- The cached rows above the own ones and the zeros, rounded to bf16. -/
def both (cache : Vec F S1x128x256 .f32) (x : FVec F S8x256 .f32) : FVec F S256x256 .bf16 :=
  truncf .bf16 (concatenate S256x256 0 [⟨S128x256, shapeCast S128x256 cache shapeCasts_S1x128x256_S128x256⟩, ⟨S128x256, extended x⟩]
    concatenates_S128x256_S128x256_S256x256_d0) bitsLt_bf16_f32

/-- The next cache: all but the first eight cached rows, then the own ones. -/
def shifted (cache : Vec F S1x128x256 .f32) (x : FVec F S8x256 .f32) : FVec F S1x128x256 .f32 :=
  shapeCast S1x128x256 (concatenate S128x256 0
    [⟨S120x256, extractStridedSlice S120x256 ![8, 0] (shapeCast S128x256 cache shapeCasts_S1x128x256_S128x256) slices_S128x256_o8_0_S120x256⟩,
     ⟨S8x256, x⟩] concatenates_S120x256_S8x256_S128x256_d0) shapeCasts_S128x256_S1x128x256

/-- Which of the 256 keys a query row sees. -/
def seen : IVec S8x256 1 := k0_pay14

/-- One head: scaled scores, the mask, the softmax with its sink, and the weighted values. -/
def head (q : FVec F S8x64 .bf16) (k v : FVec F S256x64 .bf16) (mask : IVec S8x256 1) (snk : F .f32) :
    FVec F S8x64 .f32 :=
  have s : FVec F S8x256 .f32 := select mask
    (mulf (matmul dot_S8x64_S256x64_S8x256_1_1_0_0_n_n none q k (constant S8x256 .f32 0x00000000#32))
      (broadcast S8x256 (Scalar.ofBits .f32 0x3E000000#32)))
    (broadcast S8x256 (Named.named κ "mask" 0xF149F2CA#32))
  have m : FVec F S8x1 .f32 := maximumf
    (shapeCast S8x1 (multiReduction .maximumf [1] S8 s 0xFF800000#32 reduces_S8x256_S8 (.inl rfl) rfl) shapeCasts_S8_S8x1)
    (broadcast S8x1 snk)
  have e : FVec F S8x256 .f32 := exp (subf s (broadcastTo S8x256 m broadcasts_S8x1_S8x256))
  have den : FVec F S8x1 .f32 := addf
    (shapeCast S8x1 (multiReduction .add [1] S8 e 0x00000000#32 reduces_S8x256_S8 (.inl rfl) rfl) shapeCasts_S8_S8x1)
    (exp (subf (broadcast S8x1 snk) m))
  matmul dot_S8x256_S256x64_S8x64_1_0_0_1_n_n none
    (truncf .bf16 (divf e (broadcastTo S8x256 den broadcasts_S8x1_S8x256)) bitsLt_bf16_f32) v
    (constant S8x64 .f32 0x00000000#32)

/-- Two heads side by side, times the silu of their gate columns, rounded to bf16. -/
def gated (o0 o1 : FVec F S8x64 .f32) (g : Vec F S8x128 .f32) : FVec F S8x128 .bf16 :=
  have den : FVec F S8x128 .f32 := addf (broadcast S8x128 (Scalar.ofBits .f32 0x3F800000#32))
    (exp (subf (broadcast S8x128 (Scalar.ofBits .f32 0x00000000#32)) g))
  truncf .bf16 (mulf
    (concatenate S8x128 1 [⟨S8x64, o0⟩, ⟨S8x64, o1⟩] concatenates_S8x64_S8x64_S8x128_d1)
    (mulf g (divf (broadcast S8x128 (Scalar.ofBits .f32 0x3F800000#32)) den))) bitsLt_bf16_f32

/-- The key and value columns of the head group that pair `p` belongs to lie inside the 256 columns. -/
theorem group_slices (p : Fin 16) : S256x256.Slices ![0, 64 * (p.val / 4)] S256x64 := by
  revert p; decide +kernel

/-- The columns of pair `p` lie inside the 2048. -/
theorem pair_inb (p : Fin 16) : ∀ a, (![0, 128 * p.val] : Fin 2 → Nat) a + S8x128.size a ≤ S8x2048.size a := by
  revert p; decide +kernel

/-- What pair `p` of heads stores: from its 128 query columns, the keys and values of its group, its two
    sinks and its 128 gate columns. -/
def pair (p : Fin 16) (t0 t1 t2 : Vec F S1x8x128 .f32) (ks vs : FVec F S256x256 .bf16) (mask : IVec S8x256 1)
    (q g : Vec F S8x128 .f32) (snk0 snk1 : F .f32) : FVec F S8x128 .bf16 :=
  have qr : FVec F S8x128 .bf16 := truncf .bf16 (rope q (table t0) (table t1) (table t2)) bitsLt_bf16_f32
  gated
    (head (extractStridedSlice S8x64 ![0, 0] qr slices_S8x128_o0_0_S8x64)
      (extractStridedSlice S256x64 ![0, 64 * (p.val / 4)] ks (group_slices p))
      (extractStridedSlice S256x64 ![0, 64 * (p.val / 4)] vs (group_slices p)) mask snk0)
    (head (extractStridedSlice S8x64 ![0, 64] qr slices_S8x128_o0_64_S8x64)
      (extractStridedSlice S256x64 ![0, 64 * (p.val / 4)] ks (group_slices p))
      (extractStridedSlice S256x64 ![0, 64 * (p.val / 4)] vs (group_slices p)) mask snk1) g

/-- Pair `p`'s 128 columns of a block of 2048. -/
abbrev pairRect (p : Fin 16) : Rect S8x2048 := Rect.unit (s := S8x2048) ![0, 128 * p.val] S8x128.size (pair_inb p)

theorem sink_inb (h : Fin 32) : ∀ a, (![h.val] : Fin 1 → Nat) a + S1.size a ≤ S32.size a := by
  revert h; decide +kernel

/-- Head `h`'s entry of the sinks. -/
abbrev sinkRect (h : Fin 32) : Rect S32 := Rect.unit (s := S32) ![h.val] S1.size (sink_inb h)

theorem first_pos (h : Fin 32) : 0 < (sinkRect h).shape.numel := by revert h; decide +kernel

/-- The store of pair `p`: its rectangle and its payload, from the loads of the body. -/
def piece (t0 t1 t2 : Vec F S1x8x128 .f32) (ks vs : FVec F S256x256 .bf16) (mask : IVec S8x256 1)
    (q g : Fin 16 → Vec F S8x128 .f32) (snk : Fin 32 → F .f32) (p : Fin 16) : View.Piece (Elt F) S8x2048 .bf16 :=
  ⟨pairRect p, pair p t0 t1 t2 ks vs mask (q p) (g p) (snk ⟨2 * p.val, by omega⟩) (snk ⟨2 * p.val + 1, by omega⟩)⟩

variable (c : Dev nD) (i : grid0.Coords)

set_option maxRecDepth 65536 in
set_option maxHeartbeats 4000000 in
/-- The body's stores to the output block are the sixteen pairs' stores, the last pair's first. -/
theorem run_pieces
    (arg1 : Memref sig .tc .smem S32 .f32) (harg1 : arg1.IsWhole) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S8x2048 .f32) (harg7 : arg7.IsWhole) (arg8 : Memref sig .tc .vmem S3x8x128 .f32) (harg8 : arg8.IsWhole) (arg9 : Memref sig .tc .vmem S3x8x128 .f32) (harg9 : arg9.IsWhole) (arg10 : Memref sig .tc .vmem S8x2048 .bf16) (harg10 : arg10.IsWhole) (arg11 : Memref sig .tc .vmem S1x128x256 .f32) (harg11 : arg11.IsWhole) (arg12 : Memref sig .tc .vmem S1x128x256 .f32) (harg12 : arg12.IsWhole)
    (x0 : Vec F S32 .f32) (x1 : Vec F S8x2048 .f32) (x2 : Vec F S8x256 .f32) (x3 : Vec F S8x256 .f32) (x4 : Vec F S1x128x256 .f32) (x5 : Vec F S1x128x256 .f32) (x6 : Vec F S8x2048 .f32) (x7 : Vec F S3x8x128 .f32) (x8 : Vec F S3x8x128 .f32) :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1
      = [15, 14, 13, 12, 11, 10, 9, 8, 7, 6, 5, 4, 3, 2, 1, 0].map (piece
          (arg8.view.readAt (Elt F) (Rect.unit (s := S3x8x128) ![0, 0, 0] S1x8x128.size inb_S3x8x128_S1x8x128_0_0_0).toLoadRect (harg8.unread x7))
          (arg8.view.readAt (Elt F) (Rect.unit (s := S3x8x128) ![1, 0, 0] S1x8x128.size inb_S3x8x128_S1x8x128_1_0_0).toLoadRect (harg8.unread x7))
          (arg8.view.readAt (Elt F) (Rect.unit (s := S3x8x128) ![2, 0, 0] S1x8x128.size inb_S3x8x128_S1x8x128_2_0_0).toLoadRect (harg8.unread x7))
          (both (arg5.view.readAt (Elt F) (Rect.unit (s := S1x128x256) ![0, 0, 0] S1x128x256.size inb_S1x128x256_S1x128x256_0_0_0).toLoadRect (harg5.unread x4))
            (ropeKeys
              (arg8.view.readAt (Elt F) (Rect.unit (s := S3x8x128) ![0, 0, 0] S1x8x128.size inb_S3x8x128_S1x8x128_0_0_0).toLoadRect (harg8.unread x7))
              (arg8.view.readAt (Elt F) (Rect.unit (s := S3x8x128) ![1, 0, 0] S1x8x128.size inb_S3x8x128_S1x8x128_1_0_0).toLoadRect (harg8.unread x7))
              (arg8.view.readAt (Elt F) (Rect.unit (s := S3x8x128) ![2, 0, 0] S1x8x128.size inb_S3x8x128_S1x8x128_2_0_0).toLoadRect (harg8.unread x7))
              (arg3.view.readAt (Elt F) (Rect.unit (s := S8x256) ![0, 0] S8x256.size inb_S8x256_S8x256_0_0).toLoadRect (harg3.unread x2))))
          (both (arg6.view.readAt (Elt F) (Rect.unit (s := S1x128x256) ![0, 0, 0] S1x128x256.size inb_S1x128x256_S1x128x256_0_0_0).toLoadRect (harg6.unread x5))
            (arg4.view.readAt (Elt F) (Rect.unit (s := S8x256) ![0, 0] S8x256.size inb_S8x256_S8x256_0_0).toLoadRect (harg4.unread x3)))
          seen
          (fun p => arg2.view.readAt (Elt F) (pairRect p).toLoadRect (harg2.unread x1))
          (fun p => arg7.view.readAt (Elt F) (pairRect p).toLoadRect (harg7.unread x6))
          (fun h => arg1.view.readAt (Elt F) (sinkRect h).toLoadRect (harg1.unread x0) (Shape.Idx.first (first_pos h)))) := by
  unfold kernelRun0_A
  dsimp only [List.map]
  sl_kernel_rfl

end Cert.KernelSampleIdeal.Block
-- ==== Proof.Pad.lean ====
/-
  The softmax with a sink over any number of keys, and why keys that are never seen and whose values are
  zero may be added: they leave the maximum, the denominator and the weighted sum as they were.
-/
module

public import proofs.«01_k».proof.Proof.Point

@[expose] public section

noncomputable section

namespace Cert.Attention

open Idealize.ShloMosaic

/-- The maximum of a row of scores and the sink. -/
def topOf {n : ℕ} (s : Fin n → EReal) (snk : EReal) : EReal := max (Finset.univ.fold max ⊥ s) snk
/-- The softmax's denominator, the sink's term last. -/
def denOf {n : ℕ} (s : Fin n → EReal) (snk : EReal) : EReal :=
  (∑ j, Ideal.exp (s j - topOf s snk)) + Ideal.exp (snk - topOf s snk)
/-- The weight of key `j`. -/
def weightOf {n : ℕ} (s : Fin n → EReal) (snk : EReal) (j : Fin n) : EReal :=
  Ideal.div (Ideal.exp (s j - topOf s snk)) (denOf s snk)
/-- The weighted sum of the values. -/
def mixOf {n : ℕ} (s : Fin n → EReal) (snk : EReal) (v : Fin n → EReal) : EReal := ∑ j, weightOf s snk j * v j

/-- Entries of 136 keys, and the same entry for all keys after them. -/
def padded (z : EReal) (f : Fin 136 → EReal) (j : Fin 256) : EReal := if h : j.val < 136 then f ⟨j.val, h⟩ else z

/-- A sum over 256 keys whose terms after the first 136 are zero. -/
theorem sum_padded (f : Fin 256 → EReal) (g : Fin 136 → EReal) (hg : ∀ j : Fin 136, f ⟨j.val, by omega⟩ = g j)
    (hz : ∀ j : Fin 256, 136 ≤ j.val → f j = 0) : ∑ j, f j = ∑ j, g j := by
  rw [show (∑ j : Fin 256, f j) = ∑ j : Fin (136 + 120), f j from rfl, Fin.sum_univ_add]
  rw [Finset.sum_eq_zero (s := Finset.univ) (f := fun j : Fin 120 => f (Fin.natAdd 136 j)) fun j _ =>
    hz (Fin.natAdd 136 j) (by simp), add_zero]
  exact Finset.sum_congr rfl fun j _ => hg j

/-- The largest of padded scores is the largest of the scores. -/
theorem fold_padded (s : Fin 136 → EReal) : Finset.univ.fold max ⊥ (padded ⊥ s) = Finset.univ.fold max ⊥ s := by
  show Finset.univ.sup (padded ⊥ s) = Finset.univ.sup s
  refine le_antisymm (Finset.sup_le fun j _ => ?_) (Finset.sup_le fun j _ => ?_)
  · unfold padded
    split
    · exact Finset.le_sup (f := s) (Finset.mem_univ _)
    · exact bot_le
  · have h : padded ⊥ s ⟨j.val, by omega⟩ = s j := dif_pos j.isLt
    rw [← h]
    exact Finset.le_sup (f := padded ⊥ s) (Finset.mem_univ _)

theorem top_padded (s : Fin 136 → EReal) (snk : EReal) : top (padded ⊥ s) snk = topOf s snk := by
  unfold top topOf
  rw [fold_padded]

theorem den_padded (s : Fin 136 → EReal) (snk : EReal) : den (padded ⊥ s) snk = denOf s snk := by
  unfold den denOf
  rw [top_padded]
  refine congrArg (· + _) (sum_padded _ _ (fun j => ?_) fun j hj => ?_)
  · rw [show padded ⊥ s ⟨j.val, by omega⟩ = s j from dif_pos j.isLt]
  · rw [show padded ⊥ s j = ⊥ from dif_neg (by omega), EReal.bot_sub, Ideal.exp_bot]

/-- The padded mix is the mix. -/
theorem mix_padded (s v : Fin 136 → EReal) (snk : EReal) : mix (padded ⊥ s) snk (padded 0 v) = mixOf s snk v := by
  unfold mix mixOf
  refine sum_padded _ _ (fun j => ?_) fun j hj => ?_
  · rw [show padded 0 v ⟨j.val, by omega⟩ = v j from dif_pos j.isLt]
    refine congrArg (· * v j) ?_
    unfold weight weightOf
    rw [top_padded, den_padded, show padded ⊥ s ⟨j.val, by omega⟩ = s j from dif_pos j.isLt]
  · rw [show padded 0 v j = 0 from dif_neg (by omega), mul_zero]

/-- The scores of row `r` of eight against 128 cached keys and the eight own ones, `⊥` at the keys it does not
    see. -/
def ownScores (r : ℕ) (q : Fin 64 → EReal) (k : Fin 136 → Fin 64 → EReal) (j : Fin 136) : EReal :=
  if r ≤ j.val ∧ j.val ≤ r + 128 then (∑ d, q d * k j d) * Ideal.ofBits .f32 0x3E000000#32 else ⊥

/-- Scores against keys followed by others are padded scores: the others are ahead of every row. -/
theorem scores_padded (r : ℕ) (hr : r < 8) (q : Fin 64 → EReal) (K : Fin 256 → Fin 64 → EReal) (k : Fin 136 → Fin 64 → EReal)
    (hk : ∀ (j : Fin 256) (h : j.val < 136), K j = k ⟨j.val, h⟩) : scores False r q K = padded ⊥ (ownScores r q k) := by
  funext j
  unfold scores padded ownScores
  by_cases h : j.val < 136
  · rw [dif_pos h, hk j h]
    exact if_congr (by simp [sees]) rfl rfl
  · rw [dif_neg h]
    exact if_neg fun hs => by have := hs.2.1; omega

end Cert.Attention
-- ==== Proof.SampleTile.lean ====
/-
  What one grid point of the sample's attention computes, read at an index on extended reals: the rotary
  embedding of a row, the cached and own rows, the mask, the softmax with its sink, and the gate.
-/
module

public import proofs.«01_k».proof.Proof.SampleBlock
public import proofs.«01_k».proof.Proof.Pad

@[expose] public section

noncomputable section

namespace Cert.Attention

/-- Row `j` of 128 cached rows followed by eight own ones. -/
def join {α : Type} (cache : Fin 128 → α) (own : Fin 8 → α) (j : Fin 136) : α :=
  if h : j.val < 128 then cache ⟨j.val, h⟩ else own ⟨j.val - 128, by omega⟩

end Cert.Attention

namespace Cert.KernelSampleIdeal.Block

open Cert.KernelSampleIdeal Cert.KernelSampleIdeal.Gen Cert.Attention Idealize.ShloMosaic Idealize.ShloMosaic.TcCoe Idealize.SL.Sem

/-- The kernel's three-term form of the rotary embedding is the two-term one, where the tables are the
    cosines and sines of the row's angles. -/
theorem rope_apply (x c s1 s2 : FVec Ideal S8x128 .f32) (C S : ℕ → EReal) (r : Fin 8)
    (hc : ∀ l : Fin 128, c (ix2 r l) = cosTab C (l.val % 64)) (h1 : ∀ l : Fin 128, s1 (ix2 r l) = sinTab1 S (l.val % 64))
    (h2 : ∀ l : Fin 128, s2 (ix2 r l) = sinTab2 S (l.val % 64)) (l : Fin 128) :
    rope x c s1 s2 (ix2 r l)
      = rot (fun d => x (ix2 r ⟨64 * (l.val / 64) + d.val, by omega⟩)) C S ⟨l.val % 64, by omega⟩ := by
  pointwise [rope]
  rw [hc, h1, h2]
  have e0 : (⟨64 * (l.val / 64) + l.val % 64, by omega⟩ : Fin 128) = l := Fin.ext (by show 64 * (l.val / 64) + l.val % 64 = l.val; omega)
  unfold rot cosTab sinTab1 sinTab2
  dsimp only
  rw [e0]
  by_cases a : l.val % 64 < 8
  · rw [if_pos a, if_pos a, if_pos a, dif_pos a, mul_zero, add_zero, mul_neg, ← sub_eq_add_neg]
    have e1 : (⟨(l.val + 128 - 120) % 128, by omega⟩ : Fin 128) = ⟨64 * (l.val / 64) + (l.val % 64 + 8), by omega⟩ :=
      Fin.ext (by show (l.val + 128 - 120) % 128 = 64 * (l.val / 64) + (l.val % 64 + 8); omega)
    rw [e1]
  · rw [if_neg a, if_neg a, if_neg a, dif_neg a, mul_zero, add_zero]
    by_cases b : l.val % 64 < 16
    · rw [if_pos b, if_pos b, if_pos b]
      have e1 : (⟨(l.val + 128 - 8) % 128, by omega⟩ : Fin 128) = ⟨64 * (l.val / 64) + (l.val % 64 - 8), by omega⟩ :=
        Fin.ext (by show (l.val + 128 - 8) % 128 = 64 * (l.val / 64) + (l.val % 64 - 8); omega)
      rw [e1]
    · rw [if_neg b, if_neg b, if_neg b, mul_zero, add_zero, mul_one]

/-- A table's row and column. -/
theorem table_apply (t : FVec Ideal S1x8x128 .f32) (r : Fin 8) (l : Fin 128) : table (F := Ideal) t (ix2 r l) = t (ix3 0 r l) := by
  pointwise [table]

/-- A key column is the rotary embedding of its head's 64 columns. -/
theorem ropeKeys_apply (t0 t1 t2 : FVec Ideal S1x8x128 .f32) (k : FVec Ideal S8x256 .f32) (C S : ℕ → EReal) (r : Fin 8)
    (h0 : ∀ l : Fin 128, t0 (ix3 0 r l) = cosTab C (l.val % 64)) (h1 : ∀ l : Fin 128, t1 (ix3 0 r l) = sinTab1 S (l.val % 64))
    (h2 : ∀ l : Fin 128, t2 (ix3 0 r l) = sinTab2 S (l.val % 64)) (l : Fin 256) :
    ropeKeys (F := Ideal) t0 t1 t2 k (ix2 r l)
      = rot (fun d => k (ix2 r ⟨64 * (l.val / 64) + d.val, by omega⟩)) C S ⟨l.val % 64, by omega⟩ := by
  pointwise [ropeKeys]
  by_cases a : l.val < 128
  · rw [dif_pos a, rope_apply _ _ _ _ C S r (fun l => by rw [table_apply, h0]) (fun l => by rw [table_apply, h1])
      (fun l => by rw [table_apply, h2])]
    pointwise
  · rw [dif_neg a, rope_apply _ _ _ _ C S r (fun l => by rw [table_apply, h0]) (fun l => by rw [table_apply, h1])
      (fun l => by rw [table_apply, h2])]
    pointwise
    congr 1
    · funext d
      congr 2
      exact Fin.ext (by show 128 + (64 * ((l.val - 128) / 64) + d.val) = 64 * (l.val / 64) + d.val; omega)
    · exact Fin.ext (by show (l.val - 128) % 64 = l.val % 64; omega)

/-- The rows extended by zeros. -/
theorem extended_apply (x : FVec Ideal S8x256 .f32) (j : Fin 128) (l : Fin 256) :
    extended x (ix2 j l) = if h : j.val < 8 then x (ix2 ⟨j.val, h⟩ l) else 0 := by
  pointwise [extended]

/-- Row `j` of the cached rows, the own ones and the zeros. -/
theorem both_apply (cache : FVec Ideal S1x128x256 .f32) (x : FVec Ideal S8x256 .f32) (j l : Fin 256) :
    both (F := Ideal) cache x (ix2 j l) = padded 0 (join (fun j => cache (ix3 0 j l)) (fun j => x (ix2 j l))) j := by
  pointwise [both]
  unfold padded join
  by_cases h : j.val < 128
  · rw [dif_pos h, dif_pos (by omega), dif_pos h]
  · rw [dif_neg h, extended_apply]
    by_cases h' : j.val < 136
    · rw [dif_pos (show j.val - 128 < 8 by omega), dif_pos h', dif_neg h]
    · rw [dif_neg (show ¬ j.val - 128 < 8 by omega), dif_neg h']

/-- Row `r` of the next cache is row `r + 8` of the cached rows and the own ones. -/
theorem shifted_apply (cache : FVec Ideal S1x128x256 .f32) (x : FVec Ideal S8x256 .f32) (z : Fin 1) (r : Fin 128) (l : Fin 256) :
    shifted (F := Ideal) cache x (ix3 z r l)
      = join (fun j => cache (ix3 0 j l)) (fun j => x (ix2 j l)) ⟨8 + r.val, by omega⟩ := by
  pointwise [shifted]
  unfold join
  by_cases h : r.val < 120
  · rw [dif_pos h]
    refine Eq.trans ?_ (dif_pos (show (⟨8 + r.val, by omega⟩ : Fin 136).val < 128 by show 8 + r.val < 128; omega)).symm
    rfl
  · rw [dif_neg h]
    refine Eq.trans ?_ (dif_neg (show ¬ (⟨8 + r.val, by omega⟩ : Fin 136).val < 128 by show ¬ 8 + r.val < 128; omega)).symm
    exact congrArg (fun a => x (ix2 a l)) (Fin.ext (by show r.val - 120 = 8 + r.val - 128; omega))

/-- The mask, as the inequality between the positions. -/
theorem seen_apply (r : Fin 8) (j : Fin 256) : seen (ix2 r j) = if sees False r.val j.val then 1#1 else 0#1 := by
  pointwise [seen, k0_pay14]
  rw [not_ahead _ _ (by omega) j.isLt, not_behind _ _ (by omega) j.isLt, and_ite]
  exact if_congr (by simp only [sees, false_implies]; tauto) rfl rfl

theorem named_mask : (Named.named (F := Ideal) κ "mask" 0xF149F2CA#32 : Ideal .f32) = (⊥ : EReal) :=
  IdealRules.named_const.ideal_named_scalar _ _ _ _ rfl

/-- One head's entry: the weighted sum of the values' column. -/
theorem head_apply (q : FVec Ideal S8x64 .bf16) (k v : FVec Ideal S256x64 .bf16) (mask : IVec S8x256 1) (snk : Ideal .f32)
    (r : Fin 8) (l : Fin 64) :
    head q k v mask snk (ix2 r l)
      = mix (fun j => Scalar.select (mask (ix2 r j)) ((∑ d : Fin 64, q (ix2 r d) * k (ix2 j d)) * Ideal.ofBits .f32 0x3E000000#32) ⊥)
          snk (fun j => v (ix2 j l)) := by
  pointwise [head, dot_S8x64_S256x64_S8x256_1_1_0_0_n_n, dot_S8x256_S256x64_S8x64_1_0_0_1_n_n, named_mask, bits_neg_inf]
  rfl

/-- The gated pair: the head's entry times the silu of the gate entry. -/
theorem gated_apply (o0 o1 : FVec Ideal S8x64 .f32) (g : FVec Ideal S8x128 .f32) (r : Fin 8) (l : Fin 128) :
    gated o0 o1 g (ix2 r l)
      = (if h : l.val < 64 then o0 (ix2 r ⟨l.val, h⟩) else o1 (ix2 r ⟨l.val - 64, by omega⟩)) * silu (g (ix2 r l)) := by
  pointwise [gated]
  rw [zero_sub]
  rfl

end Cert.KernelSampleIdeal.Block
-- ==== Proof.SamplePoint.lean ====
/-
  What one grid point of the sample's attention stores, entry by entry on extended reals: the attention of one
  query row and head over the cached and own keys, times the silu of the gate.
-/
module

public import proofs.«01_k».proof.Proof.SampleTile

@[expose] public section

noncomputable section

namespace Cert.KernelSampleIdeal.Block

open Cert.KernelSampleIdeal Cert.KernelSampleIdeal.Gen Cert.Attention Idealize.ShloMosaic Idealize.ShloMosaic.TcCoe Idealize.SL.Sem

/-- A stored entry of pair `p`: its head's attention times the silu of its gate. -/
theorem pair_apply (p : Fin 16) (t0 t1 t2 : FVec Ideal S1x8x128 .f32) (ks vs : FVec Ideal S256x256 .bf16)
    (q g : FVec Ideal S8x128 .f32) (snk0 snk1 : Ideal .f32) (C S : ℕ → EReal) (r : Fin 8) (w : Fin 128)
    (h0 : ∀ l : Fin 128, t0 (ix3 0 r l) = cosTab C (l.val % 64)) (h1 : ∀ l : Fin 128, t1 (ix3 0 r l) = sinTab1 S (l.val % 64))
    (h2 : ∀ l : Fin 128, t2 (ix3 0 r l) = sinTab2 S (l.val % 64)) :
    pair (F := Ideal) p t0 t1 t2 ks vs seen q g snk0 snk1 (ix2 r w)
      = mix (scores False r.val (rot (fun d => q (ix2 r ⟨64 * (w.val / 64) + d.val, by omega⟩)) C S)
            (fun j d => ks (ix2 j ⟨64 * (p.val / 4) + d.val, by omega⟩)))
          (if w.val < 64 then snk0 else snk1) (fun j => vs (ix2 j ⟨64 * (p.val / 4) + w.val % 64, by omega⟩))
        * silu (g (ix2 r w)) := by
  unfold pair
  rw [gated_apply]
  congr 1
  have hr := fun l => rope_apply q (table (F := Ideal) t0) (table (F := Ideal) t1) (table (F := Ideal) t2) C S r
    (fun l => by rw [table_apply, h0]) (fun l => by rw [table_apply, h1]) (fun l => by rw [table_apply, h2]) l
  by_cases a : w.val < 64
  · have e : w.val / 64 = 0 := by omega
    have e' : w.val % 64 = w.val := by omega
    rw [dif_pos a, if_pos a, head_apply]
    simp only [seen_apply, select_sees]
    pointwise
    simp only [hr]
    have d1 : ∀ x : Fin 64, (x.val) / 64 = 0 := fun x => by omega
    have d2 : ∀ x : Fin 64, (x.val) % 64 = x.val := fun x => by omega
    simp only [scores, e, e', d1, d2]
    rfl
  · have e : w.val / 64 = 1 := by omega
    have e' : w.val % 64 = w.val - 64 := by omega
    rw [dif_neg a, if_neg a, head_apply]
    simp only [seen_apply, select_sees]
    pointwise
    simp only [hr]
    have d1 : ∀ x : Fin 64, (64 + x.val) / 64 = 1 := fun x => by omega
    have d2 : ∀ x : Fin 64, (64 + x.val) % 64 = x.val := fun x => by omega
    simp only [scores, e, e', d1, d2]
    rfl

/-- The attention of query row `r` and column `l` of a point, from its blocks: `K` and `V` the cached keys and
    values, `C` and `S` the cosines and sines of the own rows. -/
def entry (snk : Fin 32 → EReal) (q gate : Fin 8 → Fin 2048 → EReal) (k v : Fin 8 → Fin 256 → EReal) (K V : Fin 128 → Fin 256 → EReal)
    (C S : Fin 8 → ℕ → EReal) (r : Fin 8) (l : Fin 2048) : EReal :=
  mixOf (ownScores r.val (rot (fun d => q r ⟨64 * (l.val / 64) + d.val, by omega⟩) (C r) (S r))
      (join (fun j d => K j ⟨64 * (l.val / 512) + d.val, by omega⟩)
        (fun j => rot (fun d => k j ⟨64 * (l.val / 512) + d.val, by omega⟩) (C j) (S j))))
    (snk ⟨l.val / 64, by omega⟩)
    (join (fun j => V j ⟨64 * (l.val / 512) + l.val % 64, by omega⟩) (fun j => v j ⟨64 * (l.val / 512) + l.val % 64, by omega⟩))
    * silu (gate r l)

/-- A block of three tables holds the cosines and sines of the given rows. -/
def Tables (x : FVec Ideal S3x8x128 .f32) (C S : Fin 8 → ℕ → EReal) : Prop :=
  ∀ (r : Fin 8) (l : Fin 128), x (ix3 0 r l) = cosTab (C r) (l.val % 64) ∧ x (ix3 1 r l) = sinTab1 (S r) (l.val % 64)
    ∧ x (ix3 2 r l) = sinTab2 (S r) (l.val % 64)

/-- The load of table `e` of the three reads its row and column. -/
theorem ld_table (e : Fin 3) (x : FVec Ideal S3x8x128 .f32)
    (inb : ∀ a, (![e.val, 0, 0] : Fin 3 → Nat) a + S1x8x128.size a ≤ S3x8x128.size a) (r : Fin 8) (l : Fin 128) :
    View.ld (Val := Elt Ideal) (S := S3x8x128) (e' := .f32) x (Rect.unit (s := S3x8x128) ![e.val, 0, 0] S1x8x128.size inb) (ix3 0 r l) = x (ix3 e r l) := by
  rw [View.ld_unit]
  pointwise

/-- Where a pair's entry lies among the 2048 columns. -/
theorem pair_emb (p : Fin 16) (r : Fin 8) (l : Fin 128) : (pairRect p).emb (ix2 r l) = ix2 r ⟨128 * p.val + l.val, by omega⟩ :=
  funext fun a => match a with
    | ⟨0, _⟩ => Fin.ext (show 0 + 1 * r.val = r.val by omega)
    | ⟨1, _⟩ => Fin.ext (show 128 * p.val + 1 * l.val = 128 * p.val + l.val by omega)

/-- A store's entry is the attention of its row and column, whatever the loads are that hold the blocks. -/
theorem piece_apply (t0 t1 t2 : FVec Ideal S1x8x128 .f32) (ks vs : FVec Ideal S256x256 .bf16)
    (q g : Fin 16 → FVec Ideal S8x128 .f32) (snk : Fin 32 → Ideal .f32) (p : Fin 16)
    (Snk : Fin 32 → EReal) (Q G : Fin 8 → Fin 2048 → EReal) (k v : Fin 8 → Fin 256 → EReal) (K V : Fin 128 → Fin 256 → EReal)
    (C S : Fin 8 → ℕ → EReal) (r : Fin 8) (l : Fin 128) (hs : ∀ h, snk h = Snk h)
    (hq : ∀ (r : Fin 8) (l : Fin 128), q p (ix2 r l) = Q r ⟨128 * p.val + l.val, by omega⟩)
    (hg : ∀ (r : Fin 8) (l : Fin 128), g p (ix2 r l) = G r ⟨128 * p.val + l.val, by omega⟩)
    (h0 : ∀ (r : Fin 8) (l : Fin 128), t0 (ix3 0 r l) = cosTab (C r) (l.val % 64))
    (h1 : ∀ (r : Fin 8) (l : Fin 128), t1 (ix3 0 r l) = sinTab1 (S r) (l.val % 64))
    (h2 : ∀ (r : Fin 8) (l : Fin 128), t2 (ix3 0 r l) = sinTab2 (S r) (l.val % 64))
    (hk : ∀ j l : Fin 256, ks (ix2 j l) = padded 0 (join (fun j => K j l)
      (fun j => rot (fun d => k j ⟨64 * (l.val / 64) + d.val, by omega⟩) (C j) (S j) ⟨l.val % 64, by omega⟩)) j)
    (hv : ∀ j l : Fin 256, vs (ix2 j l) = padded 0 (join (fun j => V j l) (fun j => v j l)) j) :
    (piece (F := Ideal) t0 t1 t2 ks vs seen q g snk p).2 (ix2 r l)
      = (fun y : S8x2048.Idx => entry Snk Q G k v K V C S (y 0) (y 1))
          ((piece (F := Ideal) t0 t1 t2 ks vs seen q g snk p).1.emb (ix2 r l)) := by
  rw [show (piece (F := Ideal) t0 t1 t2 ks vs seen q g snk p).1.emb (ix2 r l) = ix2 r ⟨128 * p.val + l.val, by omega⟩ from
    pair_emb p r l]
  show _ = entry Snk Q G k v K V C S r ⟨128 * p.val + l.val, by omega⟩
  show pair (F := Ideal) p t0 t1 t2 ks vs seen (q p) (g p) (snk ⟨2 * p.val, by omega⟩) (snk ⟨2 * p.val + 1, by omega⟩) (ix2 r l) = _
  rw [pair_apply p t0 t1 t2 ks vs (q p) (g p) _ _ (C r) (S r) r l (h0 r) (h1 r) (h2 r)]
  simp only [hs, hq, hg, hv]
  unfold entry
  have e1 : (128 * p.val + l.val) / 512 = p.val / 4 := by omega
  have e2 : (128 * p.val + l.val) % 64 = l.val % 64 := by omega
  have e3 : ∀ d : Fin 64, (64 * (p.val / 4) + d.val) / 64 = p.val / 4 := fun d => by omega
  have e4 : ∀ d : Fin 64, (64 * (p.val / 4) + d.val) % 64 = d.val := fun d => by omega
  have e5 : ∀ d : Fin 64, 128 * p.val + (64 * (l.val / 64) + d.val) = 64 * ((128 * p.val + l.val) / 64) + d.val := fun d => by omega
  have e6 : (if l.val < 64 then Snk ⟨2 * p.val, by omega⟩ else Snk ⟨2 * p.val + 1, by omega⟩)
      = Snk ⟨(128 * p.val + l.val) / 64, by omega⟩ := by
    split
    · exact congrArg Snk (Fin.ext (by show 2 * p.val = (128 * p.val + l.val) / 64; omega))
    · exact congrArg Snk (Fin.ext (by show 2 * p.val + 1 = (128 * p.val + l.val) / 64; omega))
  rw [e6]
  rw [scores_padded r.val r.isLt _ _ (join (fun j d => K j ⟨64 * (p.val / 4) + d.val, by omega⟩)
      (fun j => rot (fun d => k j ⟨64 * (p.val / 4) + d.val, by omega⟩) (C j) (S j))) fun j h => funext fun d => ?_]
  · simp only [e1, e2, e5]
    exact congrArg (· * _) (mix_padded _ _ _)
  · rw [hk]
    unfold padded join
    rw [dif_pos h]
    simp only [e3, e4]
    split <;> rfl

/-- The zero offsets of a load of a whole matrix. -/
theorem zero2 : (![0, 0] : Fin 2 → ℕ) = fun _ => 0 := funext fun a => by fin_cases a <;> rfl

/-- A load of a rectangle of a whole block holding `x` reads `x` there. -/
theorem load_eq {sp : Space} {s : Shape} {e : EltTy} (a : Memref sig .tc sp s e) (h : a.IsWhole) (x : s.Idx → Elt Ideal e) (r : Rect s) :
    a.view.readAt (Elt Ideal) r.toLoadRect (h.unread x) = View.ld x r := by
  rw [View.readAt_eq_ld, h.read_unread]

/-- A load of a whole block of own keys or values. -/
theorem load_kv (a : Memref sig .tc .vmem S8x256 .f32) (h : a.IsWhole) (x : FVec Ideal S8x256 .f32) :
    a.view.readAt (Elt Ideal) (Rect.unit (s := S8x256) ![0, 0] S8x256.size inb_S8x256_S8x256_0_0).toLoadRect (h.unread x) = x :=
  (load_eq a h x _).trans (View.ld_unit_zero (Val := Elt Ideal) (S := S8x256) (e := .f32) zero2 _ x)

/-- The load of a pair's columns. -/
theorem ld_pair (p : Fin 16) (x : FVec Ideal S8x2048 .f32) (r : Fin 8) (l : Fin 128) :
    View.ld (Val := Elt Ideal) (S := S8x2048) (e' := .f32) x (pairRect p) (ix2 r l) = x (ix2 r ⟨128 * p.val + l.val, by omega⟩) := by
  rw [View.ld_unit]
  pointwise

/-- The load of one sink. -/
theorem ld_sink (h : Fin 32) (x : FVec Ideal S32 .f32) :
    View.ld (Val := Elt Ideal) (S := S32) (e' := .f32) x (sinkRect h) (Shape.Idx.first (first_pos h)) = x (ix1 h) :=
  congrArg x (funext fun a => match a with | ⟨0, _⟩ => Fin.ext (Nat.add_zero _))

/-- A load of a whole block of cached keys or values. -/
theorem load_cache (a : Memref sig .tc .vmem S1x128x256 .f32) (h : a.IsWhole) (x : FVec Ideal S1x128x256 .f32) :
    a.view.readAt (Elt Ideal) (Rect.unit (s := S1x128x256) ![0, 0, 0] S1x128x256.size inb_S1x128x256_S1x128x256_0_0_0).toLoadRect (h.unread x) = x :=
  (load_eq a h x _).trans (View.ld_unit_zero (Val := Elt Ideal) (S := S1x128x256) (e := .f32)
    (funext fun a => by fin_cases a <;> rfl) _ x)

/-- The cached and own keys, from the tables and the key columns. -/
theorem keys_apply (z : FVec Ideal S1x128x256 .f32) (y : FVec Ideal S8x256 .f32) (K : FVec Ideal S1x128x256 .f32) (k : FVec Ideal S8x256 .f32)
    (t0 t1 t2 : FVec Ideal S1x8x128 .f32) (C S : Fin 8 → ℕ → EReal) (hz : z = K) (hy : y = k)
    (h0 : ∀ (r : Fin 8) (l : Fin 128), t0 (ix3 0 r l) = cosTab (C r) (l.val % 64))
    (h1 : ∀ (r : Fin 8) (l : Fin 128), t1 (ix3 0 r l) = sinTab1 (S r) (l.val % 64))
    (h2 : ∀ (r : Fin 8) (l : Fin 128), t2 (ix3 0 r l) = sinTab2 (S r) (l.val % 64)) (j l : Fin 256) :
    both (F := Ideal) z (ropeKeys (F := Ideal) t0 t1 t2 y) (ix2 j l) = padded 0 (join (fun j => K (ix3 0 j l))
      (fun j => rot (fun d => k (ix2 j ⟨64 * (l.val / 64) + d.val, by omega⟩)) (C j) (S j) ⟨l.val % 64, by omega⟩)) j := by
  subst hz hy
  rw [both_apply]
  refine congrArg (fun f => padded 0 (join _ f) j) (funext fun j => ?_)
  exact ropeKeys_apply _ _ _ _ _ _ _ (h0 j) (h1 j) (h2 j) l

/-- What stores that cover a block leave in it, where each store's payload is a function's at its place. -/
theorem read_pieces {κ : Kind} {sp : Space} {s : Shape} {e : EltTy} {v : View sig κ sp s e} {f : v.ty.Contents (Elt Ideal)}
    (L L' : List (View.Piece (Elt Ideal) s e)) (hL : L = L') (cover : ∀ y, ∃ p ∈ L, y ∈ p.1.set) (G : s.Idx → Elt Ideal e)
    (hp : ∀ p ∈ L', ∀ x : p.1.shape.Idx, p.2 x = G (p.1.emb x)) (y : s.Idx) :
    v.read (Elt Ideal) (v.writes (Elt Ideal) f L) y = G y := by
  subst hL
  rw [View.read_writes_eq_canon v f L cover]
  exact View.canon_apply_of_pieces G L hp y (cover y)

/-- What a point leaves in its output block, entry by entry. -/
theorem out9_apply (c : Dev nD) (i : grid0.Coords)
    (arg1 : Memref sig .tc .smem S32 .f32) (harg1 : arg1.IsWhole) (arg2 : Memref sig .tc .vmem S8x2048 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S8x2048 .f32) (harg7 : arg7.IsWhole) (arg8 : Memref sig .tc .vmem S3x8x128 .f32) (harg8 : arg8.IsWhole) (arg9 : Memref sig .tc .vmem S3x8x128 .f32) (harg9 : arg9.IsWhole) (arg10 : Memref sig .tc .vmem S8x2048 .bf16) (harg10 : arg10.IsWhole) (arg11 : Memref sig .tc .vmem S1x128x256 .f32) (harg11 : arg11.IsWhole) (arg12 : Memref sig .tc .vmem S1x128x256 .f32) (harg12 : arg12.IsWhole)
    (x0 : FVec Ideal S32 .f32) (x1 : FVec Ideal S8x2048 .f32) (x2 : FVec Ideal S8x256 .f32) (x3 : FVec Ideal S8x256 .f32) (x4 : FVec Ideal S1x128x256 .f32) (x5 : FVec Ideal S1x128x256 .f32) (x6 : FVec Ideal S8x2048 .f32) (x7 : FVec Ideal S3x8x128 .f32) (x8 : FVec Ideal S3x8x128 .f32)
    (C S : Fin 8 → ℕ → EReal) (h7 : Tables x7 C S) (r : Fin 8) (l : Fin 2048) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r l)
      = entry (fun h => x0 (ix1 h)) (fun r l => x1 (ix2 r l)) (fun r l => x6 (ix2 r l)) (fun r l => x2 (ix2 r l))
          (fun r l => x3 (ix2 r l)) (fun j l => x4 (ix3 0 j l)) (fun j l => x5 (ix3 0 j l)) C S r l := by
  unfold out0_A_9
  refine read_pieces _ _ (run_pieces (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)
    (fun y => cover0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)
    (fun y => entry (fun h => x0 (ix1 h)) (fun r l => x1 (ix2 r l)) (fun r l => x6 (ix2 r l)) (fun r l => x2 (ix2 r l))
          (fun r l => x3 (ix2 r l)) (fun j l => x4 (ix3 0 j l)) (fun j l => x5 (ix3 0 j l)) C S (y 0) (y 1))
    ?_ (ix2 r l)
  intro p hp x
  obtain ⟨p, -, rfl⟩ := List.mem_map.1 hp
  obtain ⟨r, w, rfl⟩ : ∃ (r : Fin 8) (w : Fin 128), x = ix2 r w := ⟨x 0, x 1, eq_ix2 x⟩
  have t0 := fun (r : Fin 8) (l : Fin 128) => ((congrFun (load_eq arg8 harg8 x7 _) _).trans (ld_table 0 x7 inb_S3x8x128_S1x8x128_0_0_0 r l)).trans (h7 r l).1
  have t1 := fun (r : Fin 8) (l : Fin 128) => ((congrFun (load_eq arg8 harg8 x7 _) _).trans (ld_table 1 x7 inb_S3x8x128_S1x8x128_1_0_0 r l)).trans (h7 r l).2.1
  have t2 := fun (r : Fin 8) (l : Fin 128) => ((congrFun (load_eq arg8 harg8 x7 _) _).trans (ld_table 2 x7 inb_S3x8x128_S1x8x128_2_0_0 r l)).trans (h7 r l).2.2
  refine (piece_apply _ _ _ _ _ _ _ _ p (fun h => x0 (ix1 h)) (fun r l => x1 (ix2 r l)) (fun r l => x6 (ix2 r l)) (fun r l => x2 (ix2 r l))
          (fun r l => x3 (ix2 r l)) (fun j l => x4 (ix3 0 j l)) (fun j l => x5 (ix3 0 j l)) C S r w
      ?_ ?_ ?_ t0 t1 t2 ?_ ?_)
  · exact fun h => (congrFun (load_eq arg1 harg1 x0 (sinkRect h)) _).trans (ld_sink h x0)
  · exact fun r l => (congrFun (load_eq arg2 harg2 x1 (pairRect p)) _).trans (ld_pair p x1 r l)
  · exact fun r l => (congrFun (load_eq arg7 harg7 x6 (pairRect p)) _).trans (ld_pair p x6 r l)
  · exact fun j l => keys_apply _ _ x4 x2 _ _ _ C S (load_cache arg5 harg5 x4) (load_kv arg3 harg3 x2) t0 t1 t2 j l
  · exact fun j l => (congrFun (congrArg₂ (both (F := Ideal)) (load_cache arg6 harg6 x5) (load_kv arg4 harg4 x3)) _).trans (both_apply x5 x3 j l)

end Cert.KernelSampleIdeal.Block
-- ==== Proof.SampleTables.lean ====
/-
  The tables of angles that the host builds before the sample's attention: cosines and sines of the eight new
  positions, over 128 columns, read at an index.
-/
module

public import proofs.«01_k».proof.Proof.SampleTile
public import Idealize.ShloMosaic.Lib.StableHlo.RunRead

@[expose] public section

noncomputable section

namespace Cert.Attention

open Idealize.ShloMosaic

/-- The angle of frequency `d` at own row `r`: the position, the length of the past plus `r`, times the
    frequency. -/
def ownAngle (r d : ℕ) : EReal :=
  (Ideal.ofBits FTy.f32 0x46800000#32 + (FloatOps.sitofp FTy.f32 (BitVec.ofNat 32 r) : Ideal .f32)) * Ideal.pow (Ideal.ofBits FTy.f32 0x48F42400#32)
    (-Ideal.div ((FloatOps.sitofp FTy.f32 (BitVec.ofNat 32 d) : Ideal .f32) * Ideal.ofBits FTy.f32 0x40000000#32)
      (Ideal.ofBits FTy.f32 0x41800000#32))
/-- Its cosine. -/
def ownCos (r d : ℕ) : EReal := Ideal.cos (ownAngle r d)
/-- Its sine. -/
def ownSin (r d : ℕ) : EReal := Ideal.sin (ownAngle r d)

end Cert.Attention

namespace Cert.KernelSampleIdeal.Block

open Cert.KernelSampleIdeal Cert.KernelSampleIdeal.Gen Cert.Attention Idealize.ShloMosaic Idealize.ShloMosaic.TcCoe Idealize.SL.Sem

variable (m : (ℓ : Loc nD τ sig) → Buf (Elt Ideal) ℓ)

/-- The first table: the cosines, one on the columns that are not turned. -/
theorem cos_apply (c : Dev nD) (s : Fin 8) (l : Fin 128) :
    V m c main_v37 (ix3 0 s l) = cosTab (ownCos s.val) (l.val % 64) := by
  unfold_abbrev_sides
  after_reads_simp
  pointwise
  after_reads_simp
  pointwise
  after_reads_simp
  pointwise
  unfold cosTab ownCos ownAngle
  by_cases a : l.val % 64 < 8
  · rw [dif_pos a, if_pos a]
  · rw [dif_neg a, if_neg a]
    by_cases b : l.val % 64 < 16
    · rw [dif_pos (by omega), if_pos b]
    · rw [dif_neg (by omega), if_neg b]

/-- The second: minus the sines on the first eight columns. -/
theorem sin1_apply (c : Dev nD) (s : Fin 8) (l : Fin 128) :
    V m c main_v37 (ix3 1 s l) = sinTab1 (ownSin s.val) (l.val % 64) := by
  unfold_abbrev_sides
  after_reads_simp
  pointwise
  after_reads_simp
  pointwise
  after_reads_simp
  pointwise
  unfold sinTab1 ownSin ownAngle
  by_cases a : l.val % 64 < 8
  · rw [dif_pos a, if_pos a]
  · rw [dif_neg a, if_neg a]
    split <;> rfl

/-- The third: the sines on the second eight columns. -/
theorem sin2_apply (c : Dev nD) (s : Fin 8) (l : Fin 128) :
    V m c main_v37 (ix3 2 s l) = sinTab2 (ownSin s.val) (l.val % 64) := by
  unfold_abbrev_sides
  after_reads_simp
  pointwise
  after_reads_simp
  pointwise
  after_reads_simp
  pointwise
  unfold sinTab2 ownSin ownAngle
  by_cases a : l.val % 64 < 8
  · rw [dif_pos a, if_pos a]
  · rw [dif_neg a, if_neg a]
    by_cases b : l.val % 64 < 16
    · rw [dif_pos (by omega), if_pos b]
    · rw [dif_neg (by omega), if_neg b]

end Cert.KernelSampleIdeal.Block
-- ==== Proof.SampleWindows.lean ====
/-
  The blocks a grid point of the sample's attention reads, entry by entry, as entries of the arguments and of
  the tables: point `t` is sequence `t`, whose eight rows start at `8 t`.
-/
module

public import proofs.«01_k».proof.Proof.SamplePoint
public import proofs.«01_k».proof.Proof.SampleTables
public import Idealize.ShloMosaic.Lib.Pipeline.ValueKit

@[expose] public section

noncomputable section

namespace Cert.KernelSampleIdeal.Block

open Cert.KernelSampleIdeal Cert.KernelSampleIdeal.Gen Cert.Attention Idealize.ShloMosaic Idealize.ShloMosaic.TcCoe Idealize.SL.Sem

theorem at0 : ∀ t : Fin cfg0.N, win0_0.index t = ![0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 8] := (by decide +kernel : ∀ t : Fin grid0.N, _)
theorem at3 : ∀ t : Fin cfg0.N, win0_3.index t = ![t.val, 9] := (by decide +kernel : ∀ t : Fin grid0.N, _)
theorem at4 : ∀ t : Fin cfg0.N, win0_4.index t = ![t.val, 0, 0] := (by decide +kernel : ∀ t : Fin grid0.N, _)
theorem at5 : ∀ t : Fin cfg0.N, win0_5.index t = ![t.val, 0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0, 0] := (by decide +kernel : ∀ t : Fin grid0.N, _)
theorem at11 : ∀ t : Fin cfg0.N, win0_11.index t = ![t.val, 0, 0] := (by decide +kernel : ∀ t : Fin grid0.N, _)

theorem lt32 (t : Fin cfg0.N) : t.val < 32 := t.isLt

variable (m : (ℓ : Loc nD τ sig) → Buf (Elt Ideal) ℓ)

/-- The sinks. -/
theorem sink_apply (c : Dev nD) (t : Fin cfg0.N) (h : Fin 32) :
    iblk m c 0 t (ix1 h) = m ((c : Thread nD τ).loc main_arg2) (ix1 h) := by
  refine Eq.trans ?_ (congrFun (V_main_arg2 m c) _)
  blk_simp [iblk, at0]
  refine congrArg (V m c main_arg2) ?_
  blk_ext [at0]

/-- The queries of a sequence. -/
theorem q_apply (c : Dev nD) (t : Fin cfg0.N) (r : Fin 8) (l : Fin 2048) :
    X0_1 m c t (ix2 r l) = m ((c : Thread nD τ).loc main_arg0) (ix2 ⟨8 * t.val + r.val, by have := lt32 t; omega⟩ ⟨l.val, by omega⟩) := by
  refine Eq.trans ?_ (congrFun (V_main_arg0 m c) _)
  unfold X0_1 Pipeline.Window.fill
  rw [dif_pos (moved0_1 t _)]
  blk_simp [iblk, at1]
  refine congrArg (V m c main_arg0) ?_
  blk_ext [at1]

/-- Its own keys. -/
theorem k_apply (c : Dev nD) (t : Fin cfg0.N) (r : Fin 8) (l : Fin 256) :
    iblk m c 2 t (ix2 r l) = m ((c : Thread nD τ).loc main_arg0) (ix2 ⟨8 * t.val + r.val, by have := lt32 t; omega⟩ ⟨2048 + l.val, by omega⟩) := by
  refine Eq.trans ?_ (congrFun (V_main_arg0 m c) _)
  blk_simp [iblk, at2]
  refine congrArg (V m c main_arg0) ?_
  blk_ext [at2]

/-- Its own values. -/
theorem v_apply (c : Dev nD) (t : Fin cfg0.N) (r : Fin 8) (l : Fin 256) :
    iblk m c 3 t (ix2 r l) = m ((c : Thread nD τ).loc main_arg0) (ix2 ⟨8 * t.val + r.val, by have := lt32 t; omega⟩ ⟨2304 + l.val, by omega⟩) := by
  refine Eq.trans ?_ (congrFun (V_main_arg0 m c) _)
  blk_simp [iblk, at3]
  refine congrArg (V m c main_arg0) ?_
  blk_ext [at3]

/-- Its cached keys. -/
theorem cachek_apply (c : Dev nD) (t : Fin cfg0.N) (j : Fin 128) (l : Fin 256) :
    iblk m c 4 t (ix3 0 j l) = m ((c : Thread nD τ).loc main_arg3) (ix3 ⟨t.val, lt32 t⟩ j l) := by
  refine Eq.trans ?_ (congrFun (V_main_arg3 m c) _)
  blk_simp [iblk, at4]
  refine congrArg (V m c main_arg3) ?_
  blk_ext [at4]

/-- Its cached values. -/
theorem cachev_apply (c : Dev nD) (t : Fin cfg0.N) (j : Fin 128) (l : Fin 256) :
    iblk m c 5 t (ix3 0 j l) = m ((c : Thread nD τ).loc main_arg4) (ix3 ⟨t.val, lt32 t⟩ j l) := by
  refine Eq.trans ?_ (congrFun (V_main_arg4 m c) _)
  blk_simp [iblk, at5]
  refine congrArg (V m c main_arg4) ?_
  blk_ext [at5]

/-- Its gates. -/
theorem gate_apply (c : Dev nD) (t : Fin cfg0.N) (r : Fin 8) (l : Fin 2048) :
    iblk m c 6 t (ix2 r l) = m ((c : Thread nD τ).loc main_arg1) (ix2 ⟨8 * t.val + r.val, by have := lt32 t; omega⟩ l) := by
  refine Eq.trans ?_ (congrFun (V_main_arg1 m c) _)
  blk_simp [iblk, at6]
  refine congrArg (V m c main_arg1) ?_
  blk_ext [at6]

/-- The tables' rows, the same for every sequence. -/
theorem table_block (c : Dev nD) (t : Fin cfg0.N) (e : Fin 3) (r : Fin 8) (l : Fin 128) :
    iblk m c 7 t (ix3 e r l) = V m c main_v37 (ix3 e r l) := by
  blk_simp [iblk, at7]
  refine congrArg (V m c main_v37) ?_
  blk_ext [at7]

theorem tables_block (c : Dev nD) (t : Fin cfg0.N) : Tables (iblk m c 7 t) (fun r => ownCos r.val) (fun r => ownSin r.val) :=
  fun r l => ⟨(table_block m c t 0 r l).trans (cos_apply m c _ l), (table_block m c t 1 r l).trans (sin1_apply m c _ l),
    (table_block m c t 2 r l).trans (sin2_apply m c _ l)⟩

end Cert.KernelSampleIdeal.Block
-- ==== Proof.SampleArrays.lean ====
/-
  The three result arrays of the sample's attention after the run, entry by entry as functions of the
  arguments: the gated attention, and the next caches of keys and values.
-/
module

public import proofs.«01_k».proof.Proof.SampleWindows

@[expose] public section

noncomputable section

namespace Cert.KernelSampleIdeal.Block

open Cert.KernelSampleIdeal Cert.KernelSampleIdeal.Gen Cert.Attention Idealize.ShloMosaic Idealize.ShloMosaic.TcCoe Idealize.SL.Sem

/-- The rotated keys, cached and own, of sequence `t` at column `l` of the 256. -/
def keyAt (X : FVec Ideal S256x2560 .f32) (K : FVec Ideal S32x128x256 .f32) (t : Fin 32) (l : Fin 256) : Fin 136 → EReal :=
  join (fun j => K (ix3 t j l)) (fun r => rot (fun d => X (ix2 ⟨8 * t.val + r.val, by omega⟩ ⟨2048 + (64 * (l.val / 64) + d.val), by omega⟩))
    (ownCos r.val) (ownSin r.val) ⟨l.val % 64, by omega⟩)

/-- The values, cached and own, of sequence `t` at column `l` of the 256. -/
def valueAt (X : FVec Ideal S256x2560 .f32) (V : FVec Ideal S32x128x256 .f32) (t : Fin 32) (l : Fin 256) : Fin 136 → EReal :=
  join (fun j => V (ix3 t j l)) (fun r => X (ix2 ⟨8 * t.val + r.val, by omega⟩ ⟨2304 + l.val, by omega⟩))

/-- The gated attention at row `r` of sequence `t`, column `l`, from the arguments. -/
def attentionAt (X : FVec Ideal S256x2560 .f32) (G : FVec Ideal S256x2048 .f32) (Snk : FVec Ideal S32 .f32)
    (K V : FVec Ideal S32x128x256 .f32) (t : Fin 32) (r : Fin 8) (l : Fin 2048) : EReal :=
  entry (fun h => Snk (ix1 h)) (fun r l => X (ix2 ⟨8 * t.val + r.val, by omega⟩ ⟨l.val, by omega⟩)) (fun r l => G (ix2 ⟨8 * t.val + r.val, by omega⟩ l))
    (fun r l => X (ix2 ⟨8 * t.val + r.val, by omega⟩ ⟨2048 + l.val, by omega⟩)) (fun r l => X (ix2 ⟨8 * t.val + r.val, by omega⟩ ⟨2304 + l.val, by omega⟩))
    (fun j l => K (ix3 t j l)) (fun j l => V (ix3 t j l)) (fun r => ownCos r.val) (fun r => ownSin r.val) r l

/-- The gated attention of all rows. -/
def attention (X : FVec Ideal S256x2560 .f32) (G : FVec Ideal S256x2048 .f32) (Snk : FVec Ideal S32 .f32)
    (K V : FVec Ideal S32x128x256 .f32) : FVec Ideal S256x2048 .bf16 :=
  fun y => attentionAt X G Snk K V ⟨(y 0).val / 8, by have := (y 0).isLt; change (y 0).val < 256 at this; omega⟩
    ⟨(y 0).val % 8, by omega⟩ (y 1)

/-- The next caches: the last 128 of the cached and own rows. -/
def nextKeys (X : FVec Ideal S256x2560 .f32) (K : FVec Ideal S32x128x256 .f32) : FVec Ideal S32x128x256 .f32 := fun y =>
  keyAt X K (y 0) (y 2) ⟨8 + (y 1).val, by have := (y 1).isLt; change (y 1).val < 128 at this; omega⟩

def nextValues (X : FVec Ideal S256x2560 .f32) (V : FVec Ideal S32x128x256 .f32) : FVec Ideal S32x128x256 .f32 := fun y =>
  valueAt X V (y 0) (y 2) ⟨8 + (y 1).val, by have := (y 1).isLt; change (y 1).val < 128 at this; omega⟩

/-- The gated attention at an index of sequence `t`. -/
theorem attention_at (X : FVec Ideal S256x2560 .f32) (G : FVec Ideal S256x2048 .f32) (Snk : FVec Ideal S32 .f32)
    (K V : FVec Ideal S32x128x256 .f32) (y : S256x2048.Idx) (t : Fin 32) (r : Fin 8) (l : Fin 2048)
    (h0 : (y 0).val = 8 * t.val + r.val) (h1 : (y 1).val = l.val) : attention X G Snk K V y = attentionAt X G Snk K V t r l := by
  unfold attention
  congr 1
  · exact Fin.ext (by show (y 0).val / 8 = t.val; omega)
  · exact Fin.ext (by show (y 0).val % 8 = r.val; omega)
  · exact Fin.ext h1

/-- The next cached keys at an index. -/
theorem nextKeys_at (X : FVec Ideal S256x2560 .f32) (K : FVec Ideal S32x128x256 .f32) (y : S32x128x256.Idx) (b : Fin 32) (r : Fin 128)
    (l : Fin 256) (h0 : (y 0).val = b.val) (h1 : (y 1).val = r.val) (h2 : (y 2).val = l.val) :
    nextKeys X K y = keyAt X K b l ⟨8 + r.val, by omega⟩ := by
  obtain rfl : y = ix3 b r l := by
    funext a
    match a with
    | ⟨0, _⟩ => exact Fin.ext h0
    | ⟨1, _⟩ => exact Fin.ext h1
    | ⟨2, _⟩ => exact Fin.ext h2
  rfl

/-- The next cached values at an index. -/
theorem nextValues_at (X : FVec Ideal S256x2560 .f32) (K : FVec Ideal S32x128x256 .f32) (y : S32x128x256.Idx) (b : Fin 32) (r : Fin 128)
    (l : Fin 256) (h0 : (y 0).val = b.val) (h1 : (y 1).val = r.val) (h2 : (y 2).val = l.val) :
    nextValues X K y = valueAt X K b l ⟨8 + r.val, by omega⟩ := by
  obtain rfl : y = ix3 b r l := by
    funext a
    match a with
    | ⟨0, _⟩ => exact Fin.ext h0
    | ⟨1, _⟩ => exact Fin.ext h1
    | ⟨2, _⟩ => exact Fin.ext h2
  rfl

variable (m : (ℓ : Loc nD τ sig) → Buf (Elt Ideal) ℓ)

/-- The attention array. -/
theorem array9 (c : Dev nD) : (dats m 0 c).arrAt 9 cfg0.N
    = attention (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  blk_simp
  rw [after0_9]
  unfold outsAt0
  dsimp only
  obtain ⟨r, l, rfl⟩ : ∃ (r : Fin 8) (l : Fin 2048), y = ix2 r l := ⟨y 0, y 1, eq_ix2 y⟩
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (X0_1 m c t) (iblk m c 2 t) (iblk m c 3 t) (iblk m c 4 t) (iblk m c 5 t) (iblk m c 6 t) (iblk m c 7 t) (iblk m c 8 t)
    _ _ (tables_block m c t) r l).trans ?_
  rw [attention_at _ _ _ _ _ _ ⟨t.val, lt32 t⟩ r l (by blk_simp [at9]; show _ = 8 * t.val + r.val; omega)
    (by blk_simp [at9])]
  unfold attentionAt
  simp only [sink_apply, q_apply, k_apply, v_apply, cachek_apply, cachev_apply, gate_apply]

/-- The array of the next cached values. -/
theorem array11 (c : Dev nD) : (dats m 0 c).arrAt 11 cfg0.N
    = nextValues (m ((c : Thread nD τ).loc main_arg0)) (m ((c : Thread nD τ).loc main_arg4)) := by
  refine (dats m 0 c).arrAt_eq_of_covers 11 _ (by decide +kernel) fun t hf y => ?_
  blk_simp
  rw [after0_11]
  unfold outsAt0
  frame_out
  obtain ⟨z, r, l, rfl⟩ : ∃ (z : Fin 1) (r : Fin 128) (l : Fin 256), y = ix3 z r l := ⟨y 0, y 1, y 2, eq_ix3 y⟩
  rw [nextValues_at _ _ _ ⟨t.val, lt32 t⟩ r l (by blk_simp [at11]) (by blk_simp [at11]) (by blk_simp [at11])]
  refine (shifted_apply (iblk m c 5 t) (iblk m c 3 t) z r l).trans ?_
  simp only [v_apply, cachev_apply]
  rfl

/-- The array of the next cached keys. -/
theorem array10 (c : Dev nD) : (dats m 0 c).arrAt 10 cfg0.N
    = nextKeys (m ((c : Thread nD τ).loc main_arg0)) (m ((c : Thread nD τ).loc main_arg3)) := by
  refine (dats m 0 c).arrAt_eq_of_covers 10 _ (by decide +kernel) fun t hf y => ?_
  blk_simp
  rw [after0_10]
  unfold outsAt0
  frame_out
  obtain ⟨z, r, l, rfl⟩ : ∃ (z : Fin 1) (r : Fin 128) (l : Fin 256), y = ix3 z r l := ⟨y 0, y 1, y 2, eq_ix3 y⟩
  rw [nextKeys_at _ _ _ ⟨t.val, lt32 t⟩ r l (by blk_simp [at10]) (by blk_simp [at10]) (by blk_simp [at10])]
  refine (shifted_apply (iblk m c 4 t) (ropeKeys (F := Ideal) _ _ _ _) z r l).trans ?_
  simp only [cachek_apply]
  refine congrArg (fun f => join _ f _) (funext fun j => ?_)
  refine (ropeKeys_apply _ _ _ _ (ownCos j.val) (ownSin j.val) j
    (fun l => (ld_table 0 _ _ j l).trans (tables_block m c t j l).1)
    (fun l => (ld_table 1 _ _ j l).trans (tables_block m c t j l).2.1)
    (fun l => (ld_table 2 _ _ j l).trans (tables_block m c t j l).2.2) l).trans ?_
  refine congrArg (fun x => rot x _ _ _) (funext fun d => ?_)
  exact k_apply m c t j _

end Cert.KernelSampleIdeal.Block
-- ==== Proof.SampleRef.lean ====
/-
  The sample reference's stages, entry by entry: the rotated queries and keys, the cached rows followed by the
  own ones, and the mask.
-/
module

public import proofs.«01_k».proof.Proof.Gen.ReferenceSampleIdeal.Read
public import proofs.«01_k».proof.Proof.SampleArrays

@[expose] public section

noncomputable section

namespace Cert.ReferenceSampleIdeal.Rows

open Cert.ReferenceSampleIdeal Cert.ReferenceSampleIdeal.Read Cert.Attention Idealize.ShloMosaic
open Cert.KernelSampleIdeal.Block (keyAt valueAt)

/-- The cosines and sines of the queries' positions. -/
theorem cosq_apply (s d : Fin 8) : val_main_v21 (F := Ideal) (ix2 s d) = ownCos s.val d.val := by
  pointwise [val_main_v21, val_main_v20, val_main_v19, val_main_v18, val_main_v17, val_main_v16, val_main_v15, val_main_v14, val_main_cst_2, val_main_v13, val_main_v12, val_main_v11, val_main_cst_1, val_main_v10, val_main_v9, val_main_cst_0, val_main_v8, val_main_v2, val_main_v1, val_main_cst, val_main_v0]
  rfl

theorem sinq_apply (s d : Fin 8) : val_main_v23 (F := Ideal) (ix2 s d) = ownSin s.val d.val := by
  pointwise [val_main_v23, val_main_v20, val_main_v19, val_main_v18, val_main_v17, val_main_v16, val_main_v15, val_main_v14, val_main_cst_2, val_main_v13, val_main_v12, val_main_v11, val_main_cst_1, val_main_v10, val_main_v9, val_main_cst_0, val_main_v8, val_main_v2, val_main_v1, val_main_cst, val_main_v0]
  rfl

/-- The query row of head `h` at row `s` of sequence `b`. -/
def queryRow (X : FVec Ideal S256x2560 .f32) (b : Fin 32) (s : Fin 8) (h : Fin 32) : Fin 64 → EReal :=
  rot (fun d => X (ix2 ⟨b.val * 8 + s.val, by omega⟩ ⟨h.val * 64 + d.val, by omega⟩)) (ownCos s.val) (ownSin s.val)

/-- The rotated queries. -/
theorem q_apply (X : FVec Ideal S256x2560 .f32) (b : Fin 32) (s : Fin 8) (h : Fin 32) (d : Fin 64) :
    val_main_v38 (F := Ideal) X (ix4 b s h d) = queryRow X b s h d := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v7, val_main_v4, val_main_v3]
  simp only [cosq_apply, sinq_apply]
  unfold queryRow
  unfold rot
  by_cases h1 : d.val < 8
  · rw [dif_pos h1, dif_pos h1]
    have e1 : h.val * 64 + (8 + d.val) = h.val * 64 + (d.val + 8) := by omega
    simp only [e1]
  · rw [dif_neg h1, dif_neg h1]
    by_cases h2 : d.val < 16
    · have h3 : d.val - 8 < 8 := by omega
      rw [dif_pos h3, if_pos h2]
      have e1 : h.val * 64 + (8 + (d.val - 8)) = h.val * 64 + d.val := by omega
      simp only [e1]
    · have h3 : ¬ d.val - 8 < 8 := by omega
      rw [dif_neg h3, if_neg h2]
      have e1 : h.val * 64 + (16 + (d.val - 8 - 8)) = h.val * 64 + d.val := by omega
      simp only [e1]

/-- The cosines and sines of the keys' positions. -/
theorem cosk_apply (s d : Fin 8) : val_main_v53 (F := Ideal) (ix2 s d) = ownCos s.val d.val := by
  pointwise [val_main_v53, val_main_v52, val_main_v51, val_main_v50, val_main_v49, val_main_v48, val_main_v47, val_main_v46, val_main_cst_5, val_main_v45, val_main_v44, val_main_v43, val_main_cst_4, val_main_v42, val_main_v41, val_main_cst_3, val_main_v40, val_main_v2, val_main_v1, val_main_cst, val_main_v0]
  rfl

theorem sink_apply (s d : Fin 8) : val_main_v55 (F := Ideal) (ix2 s d) = ownSin s.val d.val := by
  pointwise [val_main_v55, val_main_v52, val_main_v51, val_main_v50, val_main_v49, val_main_v48, val_main_v47, val_main_v46, val_main_cst_5, val_main_v45, val_main_v44, val_main_v43, val_main_cst_4, val_main_v42, val_main_v41, val_main_cst_3, val_main_v40, val_main_v2, val_main_v1, val_main_cst, val_main_v0]
  rfl

/-- The own rotated key row of head `g` at row `s` of sequence `b`. -/
def keyRow (X : FVec Ideal S256x2560 .f32) (b : Fin 32) (s : Fin 8) (g : Fin 4) : Fin 64 → EReal :=
  rot (fun d => X (ix2 ⟨b.val * 8 + s.val, by omega⟩ ⟨2048 + (g.val * 64 + d.val), by omega⟩)) (ownCos s.val) (ownSin s.val)

theorem k_apply (X : FVec Ideal S256x2560 .f32) (b : Fin 32) (s : Fin 8) (g : Fin 4) (d : Fin 64) :
    val_main_v70 (F := Ideal) X (ix4 b s g d) = keyRow X b s g d := by
  pointwise [val_main_v70, val_main_v69, val_main_v68, val_main_v67, val_main_v66, val_main_v65, val_main_v64, val_main_v63, val_main_v62, val_main_v61, val_main_v60, val_main_v59, val_main_v58, val_main_v57, val_main_v56, val_main_v54, val_main_v39, val_main_v5, val_main_v3]
  simp only [cosk_apply, sink_apply]
  unfold keyRow
  unfold rot
  by_cases h1 : d.val < 8
  · rw [dif_pos h1, dif_pos h1]
    have e1 : g.val * 64 + (8 + d.val) = g.val * 64 + (d.val + 8) := by omega
    simp only [e1]
  · rw [dif_neg h1, dif_neg h1]
    by_cases h2 : d.val < 16
    · have h3 : d.val - 8 < 8 := by omega
      rw [dif_pos h3, if_pos h2]
      have e1 : g.val * 64 + (8 + (d.val - 8)) = g.val * 64 + d.val := by omega
      simp only [e1]
    · have h3 : ¬ d.val - 8 < 8 := by omega
      rw [dif_neg h3, if_neg h2]
      have e1 : g.val * 64 + (16 + (d.val - 8 - 8)) = g.val * 64 + d.val := by omega
      simp only [e1]

/-- A column of the 256: column `d` of head `g`. -/
abbrev col (g : Fin 4) (d : Fin 64) : Fin 256 := ⟨64 * g.val + d.val, by omega⟩

/-- The cached and own keys of head `g`. -/
theorem keys_apply (X : FVec Ideal S256x2560 .f32) (K : FVec Ideal S32x128x256 .f32) (b : Fin 32) (j : Fin 136) (g : Fin 4) (d : Fin 64) :
    val_main_v73 (F := Ideal) X K (ix4 b j g d) = keyAt X K b (col g d) j := by
  pointwise [val_main_v73, val_main_v72]
  simp only [k_apply]
  unfold keyAt join
  by_cases h : j.val < 128
  · rw [dif_pos h, dif_pos h]
    exact congrArg (fun l => K (ix3 b _ l)) (Fin.ext (by show g.val * 64 + d.val = 64 * g.val + d.val; omega))
  · rw [dif_neg h, dif_neg h]
    unfold keyRow
    have e1 : (64 * g.val + d.val) / 64 = g.val := by omega
    have e2 : (64 * g.val + d.val) % 64 = d.val := by omega
    simp only [e1, e2]
    refine congrArg (rot · _ _ _) (funext fun d => congrArg X (congrArg₂ ix2 (Fin.ext ?_) (Fin.ext ?_)))
    · show b.val * 8 + (j.val - 128) = 8 * b.val + (j.val - 128); omega
    · show 2048 + (g.val * 64 + d.val) = 2048 + (64 * g.val + d.val); omega

/-- The cached and own values of head `g`. -/
theorem values_apply (X : FVec Ideal S256x2560 .f32) (V : FVec Ideal S32x128x256 .f32) (b : Fin 32) (j : Fin 136) (g : Fin 4) (d : Fin 64) :
    val_main_v75 (F := Ideal) X V (ix4 b j g d) = valueAt X V b (col g d) j := by
  pointwise [val_main_v75, val_main_v74, val_main_v71, val_main_v6, val_main_v3]
  unfold valueAt join
  by_cases h : j.val < 128
  · rw [dif_pos h, dif_pos h]
    exact congrArg (fun l => V (ix3 b _ l)) (Fin.ext (by show g.val * 64 + d.val = 64 * g.val + d.val; omega))
  · rw [dif_neg h, dif_neg h]
    refine congrArg X (congrArg₂ ix2 (Fin.ext ?_) (Fin.ext ?_))
    · show b.val * 8 + (j.val - 128) = 8 * b.val + (j.val - 128); omega
    · show 2304 + (g.val * 64 + d.val) = 2304 + (64 * g.val + d.val); omega

/-- The mask. -/
theorem mask_apply (b : Fin 32) (g : Fin 4) (e r : Fin 8) (j : Fin 136) :
    val_main_call0_v1 (F := Ideal) (ix5 b g e r j) = if r.val ≤ j.val ∧ j.val ≤ r.val + 128 then 1#1 else 0#1 := by
  pointwise [val_main_call0_v1, val_main_v94, val_main_v93, val_main_v92, val_main_c_8, val_main_v91, val_main_v90, val_main_c_7, val_main_v89, val_main_v88, val_main_v87, val_main_v86, val_main_v85, val_main_v84, val_main_v83, val_main_c, val_main_v82, val_main_v81]
  rw [not_ahead r.val j.val (by omega) (by omega), not_behind r.val j.val (by omega) (by omega), and_ite]
  exact if_congr And.comm rfl rfl

end Cert.ReferenceSampleIdeal.Rows
-- ==== Proof.SampleSoft.lean ====
/-
  The sample reference's masked scores, their softmax with a sink, and its results.
-/
module

public import proofs.«01_k».proof.Proof.SampleRef

@[expose] public section

noncomputable section

namespace Cert.ReferenceSampleIdeal.Rows

open Cert.ReferenceSampleIdeal Cert.ReferenceSampleIdeal.Read Cert.Attention Idealize.ShloMosaic
open Cert.KernelSampleIdeal.Block (keyAt valueAt)

variable (X : FVec Ideal S256x2560 .f32) (G : FVec Ideal S256x2048 .f32) (Snk : FVec Ideal S32 .f32)
  (K V : FVec Ideal S32x128x256 .f32)

/-- The scores of a query row against the cached and own keys. -/
def scoreRow (X : FVec Ideal S256x2560 .f32) (K : FVec Ideal S32x128x256 .f32) (b : Fin 32) (g : Fin 4) (e r : Fin 8) : Fin 136 → EReal :=
  ownScores r.val (queryRow X b r ⟨g.val * 8 + e.val, by omega⟩) (fun j d => keyAt X K b (col g d) j)

theorem score_apply (b : Fin 32) (g : Fin 4) (e r : Fin 8) (j : Fin 136) : val_main_v97 (F := Ideal) X K (ix5 b g e r j) = scoreRow X K b g e r j := by
  have hz : val_main_call0_v2 (F := Ideal) (ix5 b g e r j) = ⊥ := by
    pointwise [val_main_call0_v2, val_main_call0_v0, val_main_cst_9]
    exact bits_neg_inf
  have hq : val_main_v80 (F := Ideal) X K (ix5 b g e r j)
      = (∑ d, queryRow X b r ⟨g.val * 8 + e.val, by omega⟩ d * keyAt X K b (col g d) j) * Ideal.ofBits .f32 0x3E000000#32 := by
    pointwise [val_main_v80, val_main_v79, val_main_v78, val_main_v77, val_main_v76, val_main_cst_6, dot_S32x136x4x64_S32x8x4x8x64_S32x4x136x8x8_3_4_1_13_02_02]
    simp only [keys_apply, q_apply]
    refine congrArg (· * _) (Finset.sum_congr rfl fun d _ => ?_)
    exact mul_comm _ _
  rw [val_main_v97_apply, mask_apply, hz, hq, select_sees]
  rfl

/-- The largest score. -/
theorem fold_apply (b : Fin 32) (g : Fin 4) (e r : Fin 8) : val_main_v98 (F := Ideal) X K (ix4 b g e r) = Finset.univ.fold max ⊥ (scoreRow X K b g e r) := by
  have h : S32x4x8x8x136.Reduces [4] S32x4x8x8 := by decide
  have hl : ∀ j : Fin 136, val_main_v97 (F := Ideal) X K (h.lift (ix4 b g e r) j) = scoreRow X K b g e r j := fun j => by
    rw [show h.lift (ix4 b g e r) j = ix5 b g e r j from funext fun a => Fin.ext (by
      match a with | ⟨0, _⟩ => rfl | ⟨1, _⟩ => rfl | ⟨2, _⟩ => rfl | ⟨3, _⟩ => rfl | ⟨4, _⟩ => rfl)]
    exact score_apply X K b g e r j
  have hz : val_main_cst_10 (F := Ideal) (Shape.Idx.first Gen.h_S_) = ⊥ := bits_neg_inf
  unfold val_main_v98
  generalize val_main_v97 (F := Ideal) X K = y at hl
  refine (Host.reduce_eq_fold_single (α := EReal) max y _ _ h _ _).trans ?_
  rw [hz]
  exact congrArg (Finset.fold max ⊥ · Finset.univ) (funext hl)

theorem sinks_apply (g : Fin 4) (e : Fin 8) : val_main_v96 (F := Ideal) Snk (ix5 0 g e 0 0) = (Snk (ix1 ⟨g.val * 8 + e.val, by omega⟩)) := by
  pointwise [val_main_v96, val_main_v95]

theorem top_apply (b : Fin 32) (g : Fin 4) (e r : Fin 8) : val_main_v101 (F := Ideal) X Snk K (ix5 b g e r 0) = topOf (scoreRow X K b g e r) (Snk (ix1 ⟨g.val * 8 + e.val, by omega⟩)) := by
  rw [val_main_v101_apply, val_main_v99_apply, val_main_v100_apply]
  rw [show idx_main_v99 (ix5 b g e r 0) = ix4 b g e r from funext fun a => Fin.ext (by
      match a with | ⟨0, _⟩ => rfl | ⟨1, _⟩ => rfl | ⟨2, _⟩ => rfl | ⟨3, _⟩ => rfl),
    show idx_main_v100 (ix5 b g e r 0) = ix5 0 g e 0 0 from funext fun a => Fin.ext (by
      match a with | ⟨0, _⟩ => rfl | ⟨1, _⟩ => rfl | ⟨2, _⟩ => rfl | ⟨3, _⟩ => rfl | ⟨4, _⟩ => rfl),
    fold_apply, sinks_apply]
  rfl

theorem exp_apply (b : Fin 32) (g : Fin 4) (e r : Fin 8) (j : Fin 136) :
    val_main_v104 (F := Ideal) X Snk K (ix5 b g e r j) = Ideal.exp (scoreRow X K b g e r j - topOf (scoreRow X K b g e r) (Snk (ix1 ⟨g.val * 8 + e.val, by omega⟩))) := by
  rw [val_main_v104_apply, val_main_v103_apply, val_main_v102_apply]
  rw [show idx_main_v102 (ix5 b g e r j) = ix5 b g e r 0 from funext fun a => Fin.ext (by
      match a with | ⟨0, _⟩ => rfl | ⟨1, _⟩ => rfl | ⟨2, _⟩ => rfl | ⟨3, _⟩ => rfl | ⟨4, _⟩ => rfl),
    top_apply, score_apply]
  rfl

theorem sum_apply (b : Fin 32) (g : Fin 4) (e r : Fin 8) :
    val_main_v105 (F := Ideal) X Snk K (ix4 b g e r) = ∑ j, Ideal.exp (scoreRow X K b g e r j - topOf (scoreRow X K b g e r) (Snk (ix1 ⟨g.val * 8 + e.val, by omega⟩))) := by
  have hz : val_main_cst_11 (F := Ideal) (Shape.Idx.first Gen.h_S_) = 0 := Ideal.ofBits_zero .f32
  rw [val_main_v105_apply, hz, zero_add]
  refine Finset.sum_congr rfl fun j _ => ?_
  rw [show idx_main_v105 (ix4 b g e r) j = ix5 b g e r j from funext fun a => Fin.ext (by
      match a with | ⟨0, _⟩ => rfl | ⟨1, _⟩ => rfl | ⟨2, _⟩ => rfl | ⟨3, _⟩ => rfl | ⟨4, _⟩ => rfl)]
  exact exp_apply X Snk K b g e r j

theorem den_apply (b : Fin 32) (g : Fin 4) (e r : Fin 8) : val_main_v110 (F := Ideal) X Snk K (ix5 b g e r 0) = denOf (scoreRow X K b g e r) (Snk (ix1 ⟨g.val * 8 + e.val, by omega⟩)) := by
  rw [val_main_v110_apply, val_main_v109_apply, val_main_v108_apply, val_main_v107_apply, val_main_v106_apply]
  rw [show idx_main_v106 (ix5 b g e r 0) = ix4 b g e r from funext fun a => Fin.ext (by
      match a with | ⟨0, _⟩ => rfl | ⟨1, _⟩ => rfl | ⟨2, _⟩ => rfl | ⟨3, _⟩ => rfl),
    show idx_main_v107 (ix5 b g e r 0) = ix5 0 g e 0 0 from funext fun a => Fin.ext (by
      match a with | ⟨0, _⟩ => rfl | ⟨1, _⟩ => rfl | ⟨2, _⟩ => rfl | ⟨3, _⟩ => rfl | ⟨4, _⟩ => rfl),
    sum_apply, sinks_apply, top_apply]
  rfl

theorem weight_apply (b : Fin 32) (g : Fin 4) (e r : Fin 8) (j : Fin 136) :
    val_main_v112 (F := Ideal) X Snk K (ix5 b g e r j) = weightOf (scoreRow X K b g e r) (Snk (ix1 ⟨g.val * 8 + e.val, by omega⟩)) j := by
  rw [val_main_v112_apply, val_main_v111_apply]
  rw [show idx_main_v111 (ix5 b g e r j) = ix5 b g e r 0 from funext fun a => Fin.ext (by
      match a with | ⟨0, _⟩ => rfl | ⟨1, _⟩ => rfl | ⟨2, _⟩ => rfl | ⟨3, _⟩ => rfl | ⟨4, _⟩ => rfl),
    den_apply, exp_apply]
  rfl

theorem mix_apply (b : Fin 32) (r : Fin 8) (g : Fin 4) (e : Fin 8) (d : Fin 64) :
    val_main_v114 (F := Ideal) X Snk K V (ix5 b r g e d) = mixOf (scoreRow X K b g e r) (Snk (ix1 ⟨g.val * 8 + e.val, by omega⟩)) (valueAt X V b (col g d)) := by
  pointwise [val_main_v114, val_main_v113, dot_S32x136x4x64_S32x4x8x8x136_S32x4x64x8x8_1_4_3_23_02_01]
  simp only [values_apply, weight_apply]
  exact Finset.sum_congr rfl fun j _ => mul_comm _ _

theorem silu_apply (i : Fin 256) (l : Fin 2048) : val_main_v116 (F := Ideal) G (ix2 i l) = silu (G (ix2 i l)) := by
  pointwise [val_main_v116, val_main_call1_v5, val_main_call1_v4, val_main_call1_cst_0, val_main_call1_v3, val_main_call1_v2,
    val_main_call1_cst, val_main_call1_v1, val_main_call1_v0]
  rfl

/-- The result at row `i` and column `l`. -/
theorem out_apply (i : Fin 256) (l : Fin 2048) :
    val_main_v118 (F := Ideal) X G Snk K V (ix2 i l)
      = mixOf (scoreRow X K ⟨i.val / 8, by omega⟩ ⟨l.val / 512, by omega⟩ ⟨l.val / 64 % 8, by omega⟩ ⟨i.val % 8, by omega⟩)
          (Snk (ix1 ⟨l.val / 512 * 8 + l.val / 64 % 8, by omega⟩))
          (valueAt X V ⟨i.val / 8, by omega⟩ (col ⟨l.val / 512, by omega⟩ ⟨l.val % 64, by omega⟩))
        * silu (G (ix2 i l)) := by
  pointwise [val_main_v118, val_main_v117, val_main_v115]
  rw [mix_apply, silu_apply]

theorem nextK_apply (b : Fin 32) (r : Fin 128) (l : Fin 256) :
    val_main_v120 (F := Ideal) X K (ix3 b r l)
      = keyAt X K b (col ⟨l.val / 64, by omega⟩ ⟨l.val % 64, by omega⟩) ⟨8 + r.val, by omega⟩ := by
  pointwise [val_main_v120, val_main_v119]
  exact keys_apply X K _ _ _ _

theorem nextV_apply (b : Fin 32) (r : Fin 128) (l : Fin 256) :
    val_main_v122 (F := Ideal) X V (ix3 b r l)
      = valueAt X V b (col ⟨l.val / 64, by omega⟩ ⟨l.val % 64, by omega⟩) ⟨8 + r.val, by omega⟩ := by
  pointwise [val_main_v122, val_main_v121]
  exact values_apply X V _ _ _ _

end Cert.ReferenceSampleIdeal.Rows
-- ==== Proof.SampleEquation.lean ====
/-
  The equation of the sample's attention: the kernel's gated attention and its next caches are the reference's.
-/
module

public import proofs.«01_k».proof.Proof.SampleSoft

@[expose] public section

noncomputable section

namespace Cert.ReferenceSampleIdeal.Rows

open Cert.ReferenceSampleIdeal Cert.ReferenceSampleIdeal.Read Cert.Attention Idealize.ShloMosaic
open Cert.KernelSampleIdeal.Block (keyAt valueAt attentionAt attention nextKeys nextValues entry)

variable (X : FVec Ideal S256x2560 .f32) (G : FVec Ideal S256x2048 .f32) (Snk : FVec Ideal S32 .f32)
  (K V : FVec Ideal S32x128x256 .f32)

/-- The kernel's query row is the reference's. -/
theorem query_eq (t : Fin 32) (r : Fin 8) (l : Fin 2048) :
    rot (fun d => X (ix2 ⟨8 * t.val + r.val, by omega⟩ ⟨64 * (l.val / 64) + d.val, by omega⟩)) (ownCos r.val) (ownSin r.val)
      = queryRow X t r ⟨l.val / 512 * 8 + l.val / 64 % 8, by omega⟩ := by
  unfold queryRow
  refine congrArg (rot · _ _) (funext fun d => congrArg X (congrArg₂ ix2 (Fin.ext ?_) (Fin.ext ?_)))
  · show 8 * t.val + r.val = t.val * 8 + r.val; omega
  · show 64 * (l.val / 64) + d.val = (l.val / 512 * 8 + l.val / 64 % 8) * 64 + d.val; omega

/-- The kernel's keys are the reference's. -/
theorem key_eq (t : Fin 32) (l : Fin 2048) :
    join (fun j d => K (ix3 t j ⟨64 * (l.val / 512) + d.val, by omega⟩))
      (fun j : Fin 8 => rot (fun d => X (ix2 ⟨8 * t.val + j.val, by omega⟩ ⟨2048 + (64 * (l.val / 512) + d.val), by omega⟩))
        (ownCos j.val) (ownSin j.val))
      = fun j d => keyAt X K t (col ⟨l.val / 512, by omega⟩ d) j := by
  funext j d
  unfold keyAt join
  have e1 : (64 * (l.val / 512) + d.val) / 64 = l.val / 512 := by omega
  have e2 : (64 * (l.val / 512) + d.val) % 64 = d.val := by omega
  simp only [e1, e2]
  split <;> rfl

/-- The kernel's result at row `r` of sequence `t`, in the reference's rows. -/
theorem attentionAt_eq (t : Fin 32) (r : Fin 8) (l : Fin 2048) :
    attentionAt X G Snk K V t r l
      = mixOf (scoreRow X K t ⟨l.val / 512, by omega⟩ ⟨l.val / 64 % 8, by omega⟩ r)
          (Snk (ix1 ⟨l.val / 512 * 8 + l.val / 64 % 8, by omega⟩))
          (valueAt X V t (col ⟨l.val / 512, by omega⟩ ⟨l.val % 64, by omega⟩))
        * silu (G (ix2 ⟨8 * t.val + r.val, by omega⟩ l)) := by
  unfold attentionAt entry scoreRow
  dsimp only
  rw [query_eq, key_eq]
  have hl : (⟨l.val / 64, by omega⟩ : Fin 32) = ⟨l.val / 512 * 8 + l.val / 64 % 8, by omega⟩ :=
    Fin.ext (by show l.val / 64 = l.val / 512 * 8 + l.val / 64 % 8; omega)
  rw [hl]
  rfl

/-- The gated attention is the reference's first result. -/
theorem attention_eq : attention X G Snk K V = val_main_v118 (F := Ideal) X G Snk K V := by
  funext y
  obtain ⟨i, l, rfl⟩ : ∃ i l, y = ix2 i l := ⟨_, _, eq_ix2 y⟩
  rw [out_apply]
  have e2 : i = ⟨8 * (i.val / 8) + i.val % 8, by omega⟩ := Fin.ext (by show i.val = 8 * (i.val / 8) + i.val % 8; omega)
  refine (attentionAt_eq X G Snk K V ⟨i.val / 8, by omega⟩ ⟨i.val % 8, by omega⟩ l).trans ?_
  refine congrArg (_ * silu ·) (congrArg (fun i => G (ix2 i l)) e2.symm)

/-- A column of the 256 from its head and its place in the head. -/
theorem col_eq (l : Fin 256) : col ⟨l.val / 64, by omega⟩ ⟨l.val % 64, by omega⟩ = l :=
  Fin.ext (by show 64 * (l.val / 64) + l.val % 64 = l.val; omega)

/-- The next cached keys are the reference's second result. -/
theorem nextKeys_eq : nextKeys X K = val_main_v120 (F := Ideal) X K := by
  funext y
  obtain ⟨b, r, l, rfl⟩ : ∃ b r l, y = ix3 b r l := ⟨_, _, _, eq_ix3 y⟩
  rw [nextK_apply, col_eq]
  rfl

/-- The next cached values are the reference's third result. -/
theorem nextValues_eq : nextValues X V = val_main_v122 (F := Ideal) X V := by
  funext y
  obtain ⟨b, r, l, rfl⟩ : ∃ b r l, y = ix3 b r l := ⟨_, _, _, eq_ix3 y⟩
  rw [nextV_apply, col_eq]
  rfl

end Cert.ReferenceSampleIdeal.Rows
-- ==== Proof.OutSample.lean ====
/-
  The output projection at the sample's 256 rows, which are one point of the grid: what it stores, entry by entry, the
  same of the reference, and the array that the call leaves. The body is the prompt's (`Proof/Norm.lean`).
-/
module

public import proofs.«01_k».proof.Proof.Norm
public import proofs.«01_k».proof.Proof.Gen.KernelOutSampleIdeal.Value
public import proofs.«01_k».proof.Proof.Gen.ReferenceOutSampleIdeal.Read
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelOutSampleIdeal.Block

open Cert.KernelOutIdeal.Block (mean norm residual)
open Cert.KernelOutSampleIdeal Cert.KernelOutSampleIdeal.Gen Idealize.ShloMosaic Idealize.ShloMosaic.TcCoe Idealize.SL.Sem

/-- What a point stores, from its blocks. -/
theorem out_apply (o : FVec Ideal S256x2048 .bf16) (w : FVec Ideal S2048x2048 .bf16) (x : FVec Ideal S256x2048 .f32)
    (g b : FVec Ideal S1x2048 .f32) (r : Fin 256) (l : Fin 2048) :
    out0_5 (F := Ideal) o w x g b (ix2 r l)
      = norm (residual (fun k => o (ix2 r k)) (fun k => x (ix2 r k)) (fun k l => w (ix2 k l))) (g (ix2 0 l)) (b (ix2 0 l)) l := by
  unfold out0_5
  frame_out
  exact Cert.KernelOutIdeal.Block.pay_apply o w x g b r l

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem lt1 (t : Fin cfg0.N) : t.val < 1 := t.isLt

variable (m : (ℓ : Loc nD τ sig) → Buf (Elt Ideal) ℓ)

/-- The weights the region reads are the argument's. -/
theorem weights (c : Dev nD) (i : S2048x2048.Idx) : V m c main_v0 i = m ((c : Thread nD τ).loc main_arg1) i := by
  unfold_abbrev_sides
  after_reads_simp
  rfl

/-- The norm's factors, laid out as one row. -/
theorem factors (c : Dev nD) (l : Fin 2048) : V m c main_v1 (ix2 0 l) = m ((c : Thread nD τ).loc main_arg3) (ix1 l) := by
  unfold_abbrev_sides
  after_reads_simp
  pointwise

/-- The norm's offsets, laid out as one row. -/
theorem offsets (c : Dev nD) (l : Fin 2048) : V m c main_v2 (ix2 0 l) = m ((c : Thread nD τ).loc main_arg4) (ix1 l) := by
  unfold_abbrev_sides
  after_reads_simp
  pointwise

/-- The rows of the mixer's output. -/
theorem o_apply (c : Dev nD) (t : Fin cfg0.N) (r : Fin 256) (k : Fin 2048) :
    iblk m c 0 t (ix2 r k) = m ((c : Thread nD τ).loc main_arg0) (ix2 ⟨256 * t.val + r.val, by have := lt1 t; omega⟩ k) := by
  refine Eq.trans ?_ (congrFun (V_main_arg0 m c) _)
  blk_simp [iblk, at0]
  refine congrArg (V m c main_arg0) ?_
  blk_ext [at0]

/-- The weights: every point reads all of them. -/
theorem w_apply (c : Dev nD) (t : Fin cfg0.N) (k l : Fin 2048) :
    iblk m c 1 t (ix2 k l) = m ((c : Thread nD τ).loc main_arg1) (ix2 k l) := by
  refine Eq.trans ?_ (weights m c _)
  blk_simp [iblk, at1]
  refine congrArg (V m c main_v0) ?_
  blk_ext [at1]

/-- The rows of the layer's input. -/
theorem x_apply (c : Dev nD) (t : Fin cfg0.N) (r : Fin 256) (k : Fin 2048) :
    iblk m c 2 t (ix2 r k) = m ((c : Thread nD τ).loc main_arg2) (ix2 ⟨256 * t.val + r.val, by have := lt1 t; omega⟩ k) := by
  refine Eq.trans ?_ (congrFun (V_main_arg2 m c) _)
  blk_simp [iblk, at2]
  refine congrArg (V m c main_arg2) ?_
  blk_ext [at2]

theorem g_apply (c : Dev nD) (t : Fin cfg0.N) (l : Fin 2048) :
    iblk m c 3 t (ix2 0 l) = m ((c : Thread nD τ).loc main_arg3) (ix1 l) := by
  refine Eq.trans ?_ (factors m c l)
  blk_simp [iblk, at3]
  refine congrArg (V m c main_v1) ?_
  blk_ext [at3]

theorem b_apply (c : Dev nD) (t : Fin cfg0.N) (l : Fin 2048) :
    iblk m c 4 t (ix2 0 l) = m ((c : Thread nD τ).loc main_arg4) (ix1 l) := by
  refine Eq.trans ?_ (offsets m c l)
  blk_simp [iblk, at4]
  refine congrArg (V m c main_v2) ?_
  blk_ext [at4]

end Cert.KernelOutSampleIdeal.Block

namespace Cert.ReferenceOutSampleIdeal.Rows

open Cert.ReferenceOutSampleIdeal Cert.ReferenceOutSampleIdeal.Read Cert.KernelOutIdeal.Block Idealize.ShloMosaic

variable (o : FVec Ideal S256x2048 .bf16) (w : FVec Ideal S2048x2048 .f32) (x : FVec Ideal S256x2048 .f32)
  (g b : FVec Ideal S2048 .f32)

/-- The reference's residual. -/
theorem residual_apply (i : Fin 256) (l : Fin 2048) : val_main_v4 (F := Ideal) o w x (ix2 i l)
    = residual (fun k => o (ix2 i k)) (fun k => x (ix2 i k)) (fun k l => w (ix2 k l)) l := by
  pointwise [val_main_v4, val_main_v3, val_main_v2, val_main_cst, val_main_v1, val_main_v0]
  rfl

/-- The mean of a row of it. -/
theorem mean_apply (i : Fin 256) : val_main_v8 (F := Ideal) o w x (ix2 i 0)
    = mean (residual (fun k => o (ix2 i k)) (fun k => x (ix2 i k)) (fun k l => w (ix2 k l))) := by
  pointwise [val_main_v8, val_main_v7, val_main_v6, val_main_v5, val_main_cst_0, val_main_cst_1]
  simp only [residual_apply]
  rfl

/-- The mean of the squares of what is left. -/
theorem var_apply (i : Fin 256) : val_main_v15 (F := Ideal) o w x (ix2 i 0)
    = (let z := residual (fun k => o (ix2 i k)) (fun k => x (ix2 i k)) (fun k l => w (ix2 k l));
      mean (fun k => (z k - mean z) * (z k - mean z))) := by
  pointwise [val_main_v15, val_main_v14, val_main_v13, val_main_v12, val_main_cst_2, val_main_cst_3, val_main_v11, val_main_v10, val_main_v9]
  simp only [residual_apply, mean_apply]
  rfl

/-- The reference's result. -/
theorem norm_apply (i : Fin 256) (l : Fin 2048) : val_main_v28 (F := Ideal) o w x g b (ix2 i l)
    = norm (residual (fun k => o (ix2 i k)) (fun k => x (ix2 i k)) (fun k l => w (ix2 k l))) (g (ix1 l)) (b (ix1 l)) l := by
  pointwise [val_main_v28, val_main_v27, val_main_v26, val_main_v25, val_main_v24, val_main_v23, val_main_v22, val_main_v21, val_main_v20,
    val_main_v19, val_main_v18, val_main_cst_4, val_main_v17, val_main_v16]
  simp only [residual_apply, mean_apply, var_apply]
  rfl

end Cert.ReferenceOutSampleIdeal.Rows

namespace Cert.KernelOutSampleIdeal.Block

open Cert.KernelOutIdeal.Block (mean norm residual)
open Cert.KernelOutSampleIdeal Cert.KernelOutSampleIdeal.Gen Idealize.ShloMosaic Idealize.ShloMosaic.TcCoe Idealize.SL.Sem

variable (m : (ℓ : Loc nD τ sig) → Buf (Elt Ideal) ℓ)

/-- The normalised residual is the reference's. -/
theorem array5 (c : Dev nD) : (dats m 0 c).arrAt 5 cfg0.N
    = Cert.ReferenceOutSampleIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, l, rfl⟩ : ∃ (r : Fin 256) (l : Fin 2048), y = ix2 r l := ⟨y 0, y 1, eq_ix2 y⟩
  refine (out_apply _ _ _ _ _ r l).trans ?_
  simp only [o_apply, w_apply, x_apply, g_apply, b_apply]
  refine (Cert.ReferenceOutSampleIdeal.Rows.norm_apply _ _ _ _ _ ⟨256 * t.val + r.val, by have := lt1 t; omega⟩ l).symm.trans ?_
  refine congrArg (Cert.ReferenceOutSampleIdeal.Read.val_main_v28 (F := Ideal) _ _ _ _ _) ?_
  blk_ext [at5]

end Cert.KernelOutSampleIdeal.Block
-- ==== Proof.Chunk.lean ====
/-
  One head's chunk of eight rows of the gated linear attention on extended reals: the summed log decays, the
  weights between rows, the output and the next state. The kernel measures decays from the chunk's first row;
  the product of its two exponentials is the one exponential of the difference.
-/
module

public import Idealize.ShloMosaic.PureOps.Ideal.Laws

@[expose] public section

noncomputable section

namespace Cert.Chunk

open Idealize.ShloMosaic

/-- The sum of the first rows, up to `t`. -/
def cum (g : Fin 8 → EReal) (t : Fin 8) : EReal := ∑ s, if s.val ≤ t.val then g s else 0

/-- A later sum is an earlier one plus something. -/
theorem cum_add (g : Fin 8 → EReal) (s t : Fin 8) (h : s.val ≤ t.val) : ∃ r, cum g t = cum g s + r := by
  refine ⟨∑ i : Fin 8, if i.val ≤ t.val then (if i.val ≤ s.val then 0 else g i) else 0, ?_⟩
  unfold cum
  rw [← Finset.sum_add_distrib]
  refine Finset.sum_congr rfl fun i _ => ?_
  by_cases a : i.val ≤ s.val
  · rw [if_pos a, if_pos a, if_pos (a.trans h), if_pos (a.trans h), add_zero]
  · rw [if_neg a, if_neg a, zero_add]

theorem exp_bot : Ideal.exp ⊥ = 0 := rfl
theorem exp_top : Ideal.exp ⊤ = ⊤ := rfl
theorem exp_real (r : ℝ) : Ideal.exp (r : EReal) = (Real.exp r : EReal) := rfl

/-- From a finite first row, two exponentials of differences multiply to one. -/
theorem exp_mul_real (a : ℝ) (p q : EReal) :
    Ideal.exp (q - a) * Ideal.exp (a - p) = Ideal.exp (q - p) := by
  have pos (r : ℝ) : (0 : ℝ) < Real.exp r := Real.exp_pos r
  induction p using EReal.rec with
  | bot =>
    induction q using EReal.rec with
    | bot => simp [exp_bot, exp_top]
    | top => simp [exp_bot, exp_top]
    | coe q =>
      rw [← EReal.coe_sub, exp_real, EReal.coe_sub_bot, EReal.coe_sub_bot, exp_top]
      exact EReal.coe_mul_top_of_pos (pos _)
  | top =>
    simp [exp_bot]
  | coe p =>
    induction q using EReal.rec with
    | bot => simp [exp_bot]
    | top =>
      rw [← EReal.coe_sub, exp_real, EReal.top_sub_coe, EReal.top_sub_coe, exp_top]
      exact EReal.top_mul_coe_of_pos (pos _)
    | coe q =>
      rw [← EReal.coe_sub, ← EReal.coe_sub, ← EReal.coe_sub, exp_real, exp_real, exp_real, ← EReal.coe_mul, ← Real.exp_add]
      congr 2
      ring

/-- The same where the three are successive sums, whether finite or not. -/
theorem exp_mul (a u v : EReal) :
    Ideal.exp (a + u + v - a) * Ideal.exp (a - (a + u)) = Ideal.exp (a + u + v - (a + u)) := by
  induction a using EReal.rec with
  | coe a => exact exp_mul_real a (a + u) (a + u + v)
  | bot => simp [exp_bot]
  | top =>
    by_cases hu : u = ⊥
    · simp [hu, exp_bot]
    · rw [EReal.top_add_of_ne_bot hu]
      simp [exp_bot]

/-- Decays measured from the first row multiply to the decay between two rows. -/
theorem exp_cum (g : Fin 8 → EReal) (s t : Fin 8) (h : s.val ≤ t.val) :
    Ideal.exp (cum g t - cum g 0) * Ideal.exp (cum g 0 - cum g s) = Ideal.exp (cum g t - cum g s) := by
  obtain ⟨u, hu⟩ := cum_add g 0 s (Nat.zero_le _)
  obtain ⟨v, hv⟩ := cum_add g s t h
  rw [hv, hu]
  exact exp_mul _ _ _

/-- The weight of row `s` in row `t`. -/
def weight (q k g : Fin 8 → Fin 256 → EReal) (t s : Fin 8) : EReal :=
  if s.val ≤ t.val then
    ∑ d, q t d * Ideal.ofBits .f32 0x3D800000#32 * (Ideal.exp (cum (g · d) t - cum (g · d) s) * k s d)
  else 0

/-- The weight with the decays measured from the first row. -/
theorem weight_first (q k g : Fin 8 → Fin 256 → EReal) (t s : Fin 8) :
    (if s.val ≤ t.val then
      ∑ d, q t d * Ideal.ofBits .f32 0x3D800000#32 * Ideal.exp (cum (g · d) t - cum (g · d) 0)
        * (k s d * Ideal.exp (cum (g · d) 0 - cum (g · d) s))
    else 0) = weight q k g t s := by
  unfold weight
  split
  · next h =>
    refine Finset.sum_congr rfl fun d _ => ?_
    rw [← exp_cum (g · d) s t h, mul_comm (k s d), mul_assoc, mul_assoc, mul_assoc, mul_assoc]
  · rfl

/-- The output of row `t`: what the state gives and what the chunk's rows give. -/
def output (q k g : Fin 8 → Fin 256 → EReal) (v : Fin 8 → Fin 512 → EReal) (st : Fin 256 → Fin 512 → EReal)
    (t : Fin 8) (e : Fin 512) : EReal :=
  (∑ d, q t d * Ideal.ofBits .f32 0x3D800000#32 * Ideal.exp (cum (g · d) t) * st d e) + ∑ s, weight q k g t s * v s e

/-- The state after the chunk. -/
def next (k g : Fin 8 → Fin 256 → EReal) (v : Fin 8 → Fin 512 → EReal) (st : Fin 256 → Fin 512 → EReal)
    (d : Fin 256) (e : Fin 512) : EReal :=
  Ideal.exp (cum (g · d) 7) * st d e + ∑ s, k s d * Ideal.exp (cum (g · d) 7 - cum (g · d) s) * v s e

/-- A row divided by the root of its mean square, times `w`. -/
def scaled (o : Fin 512 → EReal) (w : EReal) (e : Fin 512) : EReal :=
  o e * Ideal.rsqrt (Ideal.div (∑ e, o e * o e) (Ideal.ofBits .f32 0x44000000#32) + Ideal.ofBits .f32 0x3727C5AC#32) * w

end Cert.Chunk
-- ==== Proof.ChunkPoint.lean ====
/-
  What one grid point of the gated linear attention's chunk computes, entry by entry: the rows of one head of
  one of the sample's sequences, and the head's state.
-/
module

public import proofs.«01_k».proof.Proof.Gen.KernelChunkIdeal.Value
public import proofs.«01_k».proof.Proof.Chunk
public import proofs.«01_k».proof.Proof.Tile

@[expose] public section

noncomputable section

namespace Cert.KernelChunkIdeal.Block

open Cert.KernelChunkIdeal Cert.KernelChunkIdeal.Gen Cert.Chunk Idealize.ShloMosaic Idealize.ShloMosaic.TcCoe Idealize.SL.Sem
open Cert.Attention (silu)

/-- The lower triangle's comparison. -/
theorem below (t s : Fin 8) :
    IntOp.cmpi CmpIPredicate.sle (BitVec.ofNat 32 s.val) (BitVec.ofNat 32 t.val) = if s.val ≤ t.val then 1#1 else 0#1 := by
  revert t s; decide

/-- All eight rows are in the first part. -/
theorem inside (s : Fin 8) : IntOp.cmpi CmpIPredicate.slt (BitVec.ofNat 32 s.val) 8#32 = 1#1 := by
  revert s; decide

/-- The triangle's entries, as numbers. -/
theorem triangle (t s : Fin 8) (x : EReal) :
    FloatOps.sitofp (F := Ideal) FTy.f32 (BitVec.setWidth 32 (IntOp.cmpi CmpIPredicate.sle (BitVec.ofNat 32 s.val) (BitVec.ofNat 32 t.val))) * x
      = if s.val ≤ t.val then x else 0 := by
  rw [below]
  split
  · have h : FloatOps.sitofp (F := Ideal) FTy.f32 (BitVec.setWidth 32 1#1) = (1 : EReal) := by
      show ((((BitVec.setWidth 32 1#1).toInt : ℝ)) : EReal) = 1
      norm_num
    rw [h, one_mul]
  · have h : FloatOps.sitofp (F := Ideal) FTy.f32 (BitVec.setWidth 32 0#1) = (0 : EReal) := by
      show ((((BitVec.setWidth 32 0#1).toInt : ℝ)) : EReal) = 0
      norm_num
    rw [h, zero_mul]

/-- A masked product. -/
theorem masked (t s : Fin 8) (x y : EReal) :
    Scalar.select (IntOp.cmpi CmpIPredicate.sle (BitVec.ofNat 32 s.val) (BitVec.ofNat 32 t.val)) (x * y) 0
      = (if s.val ≤ t.val then x else 0) * y := by
  rw [below]
  split
  · rfl
  · exact (zero_mul y).symm

/-- The product with the lower triangle sums the rows. -/
theorem cum_apply (g : FVec Ideal S8x256 .f32) (t : Fin 8) (d : Fin 256) :
    k0_pay3 (F := Ideal) g (ix2 t d) = cum (fun s => g (ix2 s d)) t := by
  pointwise [k0_pay3, dot_S8x8_S8x256_S8x256_1_0_0_1_n_n]
  exact Finset.sum_congr rfl fun s _ => triangle t s _

/-- What the state gives a row. -/
theorem inter_apply (g q : FVec Ideal S8x256 .f32) (st : FVec Ideal S512x256 .f32) (t : Fin 8) (e : Fin 512) :
    k0_pay6 (F := Ideal) g q st (ix2 t e)
      = ∑ d, q (ix2 t d) * Ideal.ofBits .f32 0x3D800000#32 * Ideal.exp (cum (fun s => g (ix2 s d)) t) * st (ix2 e d) := by
  pointwise [k0_pay6, k0_pay4, dot_S8x256_S512x256_S8x512_1_1_0_0_n_n]
  simp only [cum_apply]

/-- A query row, decayed from the first row. -/
theorem rowq_apply (g q : FVec Ideal S8x256 .f32) (t : Fin 8) (d : Fin 256) :
    k0_pay8 (F := Ideal) g q (ix2 t d)
      = q (ix2 t d) * Ideal.ofBits .f32 0x3D800000#32 * Ideal.exp (cum (fun s => g (ix2 s d)) t - cum (fun s => g (ix2 s d)) 0) := by
  pointwise [k0_pay8, k0_pay7, k0_pay4]
  simp only [cum_apply]

/-- A key row, decayed back to the first row. -/
theorem rowk_apply (g k : FVec Ideal S8x256 .f32) (s : Fin 8) (d : Fin 256) :
    k0_pay9 (F := Ideal) g k (ix2 s d)
      = k (ix2 s d) * Ideal.exp (cum (fun s => g (ix2 s d)) 0 - cum (fun i => g (ix2 i d)) s) := by
  pointwise [k0_pay9, k0_pay7]
  simp only [cum_apply]
  rw [inside]
  rfl

/-- The state that is stored, from the summed decays. -/
theorem next_apply (b k : FVec Ideal S8x256 .f32) (v : FVec Ideal S8x512 .bf16) (st : FVec Ideal S512x256 .f32) (z w : Fin 1) (d : Fin 256) (e : Fin 512) :
    k0_pay12 (F := Ideal) b k v st (ix4 z w d e)
      = st (ix2 e d) * Ideal.exp (b (ix2 7 d)) + ∑ s, v (ix2 s e) * (k (ix2 s d) * Ideal.exp (b (ix2 7 d) - b (ix2 s d))) := by
  pointwise [k0_pay12, k0_pay10, dot_S8x512_S8x256_S512x256_0_0_1_1_n_n]

/-- The normalised row, from the products of the decayed rows. -/
theorem scaled_apply (v : FVec Ideal S8x512 .bf16) (o : FVec Ideal S8x512 .f32) (q k : FVec Ideal S8x256 .bf16) (w : FVec Ideal S1x512 .f32)
    (t : Fin 8) (e : Fin 512) :
    k0_pay13 (F := Ideal) (iota .tc S8x8 32 [0] iota_S8x8_d0_w32) (iota .tc S8x8 32 [1] iota_S8x8_d1_w32) v o q k (constant S8x8 .f32 0x00000000#32) w (ix2 t e)
      = scaled (fun e => o (ix2 t e) + ∑ s : Fin 8, (if s.val ≤ t.val then ∑ d, q (ix2 t d) * k (ix2 s d) else 0) * v (ix2 s e)) (w (ix2 0 e)) e := by
  pointwise [k0_pay13, dot_S8x256_S8x256_S8x8_1_1_0_0_n_n, dot_S8x8_S8x512_S8x512_1_0_0_1_n_n]
  simp only [masked]
  rfl

/-- The row that is stored: times the silu of its gates. -/
theorem gated_apply (o g : FVec Ideal S8x512 .f32) (t : Fin 8) (e : Fin 512) :
    k0_pay1 (F := Ideal) o g (k0_pay14 g) (Scalar.ofBits .f32 0x3F800000#32) (ix2 t e) = o (ix2 t e) * silu (g (ix2 t e)) := by
  pointwise [k0_pay1, k0_pay14]
  rw [zero_sub]
  rfl

end Cert.KernelChunkIdeal.Block
-- ==== Proof.ChunkArrays.lean ====
/-
  The two result arrays of the gated linear attention's chunk after the run, entry by entry as functions of the
  arguments. Point `t` is head `t % 4` of sequence `t / 4`.
-/
module

public import proofs.«01_k».proof.Proof.ChunkPoint
public import Idealize.ShloMosaic.Lib.Pipeline.ValueKit
public import Idealize.ShloMosaic.Lib.StableHlo.RunRead
public import Idealize.ShloMosaic.Lib.Claim
public import Idealize.ShloMosaic.Lib.Pointwise

@[expose] public section

noncomputable section

namespace Cert.KernelChunkIdeal.Block

open Cert.KernelChunkIdeal Cert.KernelChunkIdeal.Gen Cert.Chunk Idealize.ShloMosaic Idealize.ShloMosaic.TcCoe Idealize.SL.Sem
open Cert.Attention (silu)

theorem at0 : ∀ t : Fin cfg0.N, win0_0.index t = ![t.val / 4, t.val % 4] := (by decide +kernel : ∀ t : Fin grid0.N, _)
theorem at1 : ∀ t : Fin cfg0.N, win0_1.index t = ![t.val / 4, 4 + t.val % 4] := (by decide +kernel : ∀ t : Fin grid0.N, _)
theorem at2 : ∀ t : Fin cfg0.N, win0_2.index t = ![t.val / 4, 4 + t.val % 4] := (by decide +kernel : ∀ t : Fin grid0.N, _)
theorem at3 : ∀ t : Fin cfg0.N, win0_3.index t = ![t.val / 4, 8 + t.val % 4] := (by decide +kernel : ∀ t : Fin grid0.N, _)
theorem at4 : ∀ t : Fin cfg0.N, win0_4.index t = ![t.val / 4, t.val % 4] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val / 4, t.val % 4, 0, 0] := (by decide +kernel : ∀ t : Fin grid0.N, _)
theorem at7 : ∀ t : Fin cfg0.N, win0_7.index t = ![t.val / 4, t.val % 4] := (by decide +kernel : ∀ t : Fin grid0.N, _)
theorem at8 : ∀ t : Fin cfg0.N, win0_8.index t = ![t.val / 4, t.val % 4, 0, 0] := (by decide +kernel : ∀ t : Fin grid0.N, _)

theorem lt128 (t : Fin cfg0.N) : t.val < 128 := t.isLt

variable (m : (ℓ : Loc nD τ sig) → Buf (Elt Ideal) ℓ)

/-- The queries of a head. -/
theorem q_apply (c : Dev nD) (t : Fin cfg0.N) (r : Fin 8) (d : Fin 256) :
    iblk m c 0 t (ix2 r d) = m ((c : Thread nD τ).loc main_arg0)
      (ix2 ⟨8 * (t.val / 4) + r.val, by have := lt128 t; omega⟩ ⟨256 * (t.val % 4) + d.val, by omega⟩) := by
  refine Eq.trans ?_ (congrFun (V_main_arg0 m c) _)
  blk_simp [iblk, at0]
  refine congrArg (V m c main_arg0) ?_
  blk_ext [at0]

/-- Its keys. -/
theorem k_apply (c : Dev nD) (t : Fin cfg0.N) (r : Fin 8) (d : Fin 256) :
    iblk m c 1 t (ix2 r d) = m ((c : Thread nD τ).loc main_arg0)
      (ix2 ⟨8 * (t.val / 4) + r.val, by have := lt128 t; omega⟩ ⟨1024 + (256 * (t.val % 4) + d.val), by omega⟩) := by
  refine Eq.trans ?_ (congrFun (V_main_arg0 m c) _)
  blk_simp [iblk, at1]
  refine congrArg (V m c main_arg0) ?_
  blk_ext [at1]

/-- Its values. -/
theorem v_apply (c : Dev nD) (t : Fin cfg0.N) (r : Fin 8) (e : Fin 512) :
    iblk m c 2 t (ix2 r e) = m ((c : Thread nD τ).loc main_arg0)
      (ix2 ⟨8 * (t.val / 4) + r.val, by have := lt128 t; omega⟩ ⟨2048 + (512 * (t.val % 4) + e.val), by omega⟩) := by
  refine Eq.trans ?_ (congrFun (V_main_arg0 m c) _)
  blk_simp [iblk, at2]
  refine congrArg (V m c main_arg0) ?_
  blk_ext [at2]

/-- Its gates. -/
theorem gate_apply (c : Dev nD) (t : Fin cfg0.N) (r : Fin 8) (e : Fin 512) :
    iblk m c 3 t (ix2 r e) = m ((c : Thread nD τ).loc main_arg0)
      (ix2 ⟨8 * (t.val / 4) + r.val, by have := lt128 t; omega⟩ ⟨4096 + (512 * (t.val % 4) + e.val), by omega⟩) := by
  refine Eq.trans ?_ (congrFun (V_main_arg0 m c) _)
  blk_simp [iblk, at3]
  refine congrArg (V m c main_arg0) ?_
  blk_ext [at3]

/-- Its log decays. -/
theorem g_apply (c : Dev nD) (t : Fin cfg0.N) (r : Fin 8) (d : Fin 256) :
    iblk m c 4 t (ix2 r d) = m ((c : Thread nD τ).loc main_arg1)
      (ix2 ⟨8 * (t.val / 4) + r.val, by have := lt128 t; omega⟩ ⟨256 * (t.val % 4) + d.val, by omega⟩) := by
  refine Eq.trans ?_ (congrFun (V_main_arg1 m c) _)
  blk_simp [iblk, at4]
  refine congrArg (V m c main_arg1) ?_
  blk_ext [at4]

/-- The norm's factors, laid out as one row. -/
theorem factors (c : Dev nD) (e : Fin 512) : V m c main_v0 (ix2 0 e) = m ((c : Thread nD τ).loc main_arg2) (ix1 e) := by
  unfold_abbrev_sides
  after_reads_simp
  pointwise

theorem w_apply (c : Dev nD) (t : Fin cfg0.N) (e : Fin 512) :
    iblk m c 5 t (ix2 0 e) = m ((c : Thread nD τ).loc main_arg2) (ix1 e) := by
  refine Eq.trans ?_ (factors m c e)
  blk_simp [iblk, at5]
  refine congrArg (V m c main_v0) ?_
  blk_ext [at5]

/-- Its state. -/
theorem s_apply (c : Dev nD) (t : Fin cfg0.N) (d : Fin 256) (e : Fin 512) :
    iblk m c 6 t (ix4 0 0 d e) = m ((c : Thread nD τ).loc main_arg3)
      (ix4 ⟨t.val / 4, by have := lt128 t; omega⟩ ⟨t.val % 4, by omega⟩ d e) := by
  refine Eq.trans ?_ (congrFun (V_main_arg3 m c) _)
  blk_simp [iblk, at6]
  refine congrArg (V m c main_arg3) ?_
  blk_ext [at6]

/-! ## The results as functions of the arguments -/

variable (H : FVec Ideal S256x6144 .f32) (G : FVec Ideal S256x1024 .f32) (W : FVec Ideal S512 .f32) (S : FVec Ideal S32x4x256x512 .f32)

/-- The rows of a head of a sequence, from column `o` on. -/
def rows {n w : ℕ} (X : FVec Ideal ⟨2, ![256, n]⟩ .f32) (o : ℕ) (h : o + 4 * w ≤ n) (b : Fin 32) (i : Fin 4) (r : Fin 8) (d : Fin w) : EReal :=
  X (ix2 ⟨8 * b.val + r.val, by omega⟩ ⟨o + (w * i.val + d.val), by
    have hd := d.isLt
    have hi : w * i.val ≤ w * 3 := Nat.mul_le_mul_left w (by omega)
    omega⟩)

/-- The gated output at row `r` of sequence `b`, head `i`, column `e`. -/
def gatedAt (b : Fin 32) (i : Fin 4) (r : Fin 8) (e : Fin 512) : EReal :=
  scaled (output (rows (w := 256) H 0 (by decide) b i) (rows (w := 256) H 1024 (by decide) b i) (rows (w := 256) G 0 (by decide) b i)
    (rows (w := 512) H 2048 (by decide) b i) (fun d e => S (ix4 b i d e)) r) (W (ix1 e)) e * silu (rows (w := 512) H 4096 (by decide) b i r e)

/-- The next state of sequence `b`, head `i`. -/
def nextAt (b : Fin 32) (i : Fin 4) (d : Fin 256) (e : Fin 512) : EReal :=
  next (rows (w := 256) H 1024 (by decide) b i) (rows (w := 256) G 0 (by decide) b i)
    (rows (w := 512) H 2048 (by decide) b i) (fun d e => S (ix4 b i d e)) d e

/-- The gated output of all rows. -/
def gated : FVec Ideal S256x2048 .bf16 := fun y =>
  gatedAt H G W S ⟨(y 0).val / 8, by have := (y 0).isLt; change (y 0).val < 256 at this; omega⟩
    ⟨(y 1).val / 512, by have := (y 1).isLt; change (y 1).val < 2048 at this; omega⟩ ⟨(y 0).val % 8, by omega⟩ ⟨(y 1).val % 512, by omega⟩

/-- The next states. -/
def states : FVec Ideal S32x4x256x512 .f32 := fun y => nextAt H G S (y 0) (y 1) (y 2) (y 3)

theorem gated_at (y : S256x2048.Idx) (b : Fin 32) (i : Fin 4) (r : Fin 8) (e : Fin 512)
    (h0 : (y 0).val = 8 * b.val + r.val) (h1 : (y 1).val = 512 * i.val + e.val) : gated H G W S y = gatedAt H G W S b i r e := by
  unfold gated
  congr 1
  · exact Fin.ext (by show (y 0).val / 8 = b.val; omega)
  · exact Fin.ext (by show (y 1).val / 512 = i.val; omega)
  · exact Fin.ext (by show (y 0).val % 8 = r.val; omega)
  · exact Fin.ext (by show (y 1).val % 512 = e.val; omega)

theorem states_at (y : S32x4x256x512.Idx) (b : Fin 32) (i : Fin 4) (d : Fin 256) (e : Fin 512)
    (h0 : (y 0).val = b.val) (h1 : (y 1).val = i.val) (h2 : (y 2).val = d.val) (h3 : (y 3).val = e.val) :
    states H G S y = nextAt H G S b i d e := by
  obtain rfl : y = ix4 b i d e := by
    funext a
    match a with
    | ⟨0, _⟩ => exact Fin.ext h0
    | ⟨1, _⟩ => exact Fin.ext h1
    | ⟨2, _⟩ => exact Fin.ext h2
    | ⟨3, _⟩ => exact Fin.ext h3
  rfl

/-! ## What a point stores -/

/-- The state, turned. -/
theorem turned (s : FVec Ideal S1x1x256x512 .f32) (e : Fin 512) (d : Fin 256) : k0_pay2 (F := Ideal) s (ix2 e d) = s (ix4 0 0 d e) := by
  pointwise [k0_pay2]

/-- The state a point stores. -/
theorem stored_next (k g : FVec Ideal S8x256 .f32) (v : FVec Ideal S8x512 .f32) (s : FVec Ideal S1x1x256x512 .f32)
    (z w : Fin 1) (d : Fin 256) (e : Fin 512) :
    k0_pay12 (F := Ideal) (k0_pay3 g) k (k0_pay5 v) (k0_pay2 (F := Ideal) s : FVec Ideal S512x256 .f32) (ix4 z w d e)
      = next (fun s d => k (ix2 s d)) (fun s d => g (ix2 s d)) (fun s e => v (ix2 s e)) (fun d e => s (ix4 0 0 d e)) d e := by
  rw [next_apply, turned]
  simp only [cum_apply]
  unfold next
  refine congrArg₂ (· + ·) (mul_comm _ _) (Finset.sum_congr rfl fun i _ => ?_)
  exact mul_comm _ _

/-- The row a point stores. -/
theorem stored_row (q k g : FVec Ideal S8x256 .f32) (v x : FVec Ideal S8x512 .f32) (w : FVec Ideal S1x512 .f32) (s : FVec Ideal S1x1x256x512 .f32)
    (t : Fin 8) (e : Fin 512) :
    k0_pay1 (F := Ideal) (k0_pay13 (iota .tc S8x8 32 [0] iota_S8x8_d0_w32) (iota .tc S8x8 32 [1] iota_S8x8_d1_w32) (k0_pay5 v)
      (k0_pay6 g q (k0_pay2 (F := Ideal) s : FVec Ideal S512x256 .f32)) (k0_pay8 g q) (k0_pay9 g k) (constant S8x8 .f32 0x00000000#32) w) x (k0_pay14 x)
        (Scalar.ofBits .f32 0x3F800000#32) (ix2 t e)
      = scaled (output (fun s d => q (ix2 s d)) (fun s d => k (ix2 s d)) (fun s d => g (ix2 s d)) (fun s e => v (ix2 s e))
          (fun d e => s (ix4 0 0 d e)) t) (w (ix2 0 e)) e * silu (x (ix2 t e)) := by
  rw [gated_apply, scaled_apply]
  refine congrArg (· * _) (congrArg (scaled · _ _) (funext fun e => ?_))
  rw [inter_apply]
  simp only [rowq_apply, rowk_apply, turned]
  unfold output
  refine congrArg (_ + ·) (Finset.sum_congr rfl fun i _ => ?_)
  exact congrArg (· * _) (weight_first (fun s d => q (ix2 s d)) (fun s d => k (ix2 s d)) (fun s d => g (ix2 s d)) t i)

/-! ## The arrays -/

/-- The array of the next states. -/
theorem array8 (c : Dev nD) : (dats m 0 c).arrAt 8 cfg0.N
    = states (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  unfold outsAt0
  frame_out
  obtain ⟨z, w, d, e, rfl⟩ : ∃ (z w : Fin 1) (d : Fin 256) (e : Fin 512), y = ix4 z w d e := ⟨y 0, y 1, y 2, y 3, eq_ix4 y⟩
  rw [states_at _ _ _ _ ⟨t.val / 4, by have := lt128 t; omega⟩ ⟨t.val % 4, by omega⟩ d e (by blk_simp [at8]) (by blk_simp [at8]) (by blk_simp [at8]) (by blk_simp [at8])]
  refine (stored_next _ _ _ _ z w d e).trans ?_
  simp only [k_apply, g_apply, v_apply, s_apply]
  unfold nextAt rows
  simp only [Nat.zero_add]

/-- The array of the gated outputs. -/
theorem array7 (c : Dev nD) : (dats m 0 c).arrAt 7 cfg0.N
    = gated (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  blk_simp
  rw [after0_7]
  unfold outsAt0
  frame_out
  obtain ⟨r, e, rfl⟩ : ∃ (r : Fin 8) (e : Fin 512), y = ix2 r e := ⟨y 0, y 1, eq_ix2 y⟩
  rw [gated_at _ _ _ _ _ ⟨t.val / 4, by have := lt128 t; omega⟩ ⟨t.val % 4, by omega⟩ r e (by blk_simp [at7]; exact congrArg (· + _) (mul_comm _ _)) (by blk_simp [at7]; exact congrArg (· + _) (mul_comm _ _))]
  refine (stored_row _ _ _ _ _ _ _ r e).trans ?_
  simp only [q_apply, k_apply, g_apply, v_apply, s_apply, gate_apply, w_apply]
  unfold gatedAt rows
  simp only [Nat.zero_add]

end Cert.KernelChunkIdeal.Block
-- ==== Proof.ChunkRef.lean ====
/-
  The reference of the gated linear attention's chunk, entry by entry: the summed log decays, the decays between rows,
  the weights, and the two results.
-/
module

public import proofs.«01_k».proof.Proof.Gen.ReferenceChunkIdeal.Read
public import proofs.«01_k».proof.Proof.ChunkArrays

@[expose] public section

noncomputable section

namespace Cert.ReferenceChunkIdeal.Rows

open Cert.ReferenceChunkIdeal Cert.ReferenceChunkIdeal.Read Cert.Chunk Idealize.ShloMosaic
open Cert.Attention (silu)
open Cert.KernelChunkIdeal.Block (rows gatedAt nextAt gated states)

/-! ## The sum over a window -/

/-- A fold of sums is a sum. -/
theorem fold_add {n : ℕ} (F : Fin n → EReal) : (List.finRange n).foldl (fun r i => r + F i) 0 = ∑ i, F i := by
  have h (l : List (Fin n)) (z : EReal) : l.foldl (fun r i => r + F i) z = z + (l.map F).sum := by
    induction l generalizing z with
    | nil => simp
    | cons a l ih => rw [List.foldl_cons, ih, List.map_cons, List.sum_cons, add_assoc]
  rw [h, zero_add, Fin.sum_univ_def]

/-- Where a window's element lies along an axis. -/
def spot (n : Fin (⟨4, ![1, 8, 1, 1]⟩ : Shape).numel) (a : Fin 4) : ℕ := ((⟨4, ![1, 8, 1, 1]⟩ : Shape).rowMajor.symm n a).val

/-- Its place along the rows is its number. -/
theorem place : ∀ n : Fin (⟨4, ![1, 8, 1, 1]⟩ : Shape).numel, ∀ a : Fin 4, spot n a = (![0, n.val, 0, 0] : Fin 4 → ℕ) a := by decide +kernel

/-- The last rows of a window that ends at row `t` are the rows up to `t`. -/
theorem window_cum (g : Fin 8 → EReal) (t : Fin 8) :
    (∑ n : Fin 8, if h : 7 ≤ t.val + n.val then g ⟨t.val + n.val - 7, by omega⟩ else 0) = cum g t := by
  unfold cum
  fin_cases t <;> simp [Fin.sum_univ_eight]

/-- The reference's summed log decays. -/
theorem window_apply (x : FVec Ideal S32x8x4x256 .f32) (z : FVec Ideal S_ .f32) (hz : ∀ i, z i = 0)
    (hw : S32x8x4x256.ReduceWindows ![1, 8, 1, 1] ![1, 1, 1, 1] ![0, 7, 0, 0] ![0, 0, 0, 0] S32x8x4x256) (hu : 0 < S_.numel)
    (b : Fin 32) (t : Fin 8) (h : Fin 4) (d : Fin 256) :
    Host.reduceWindowAdd (F := Ideal) ![1, 8, 1, 1] ![1, 1, 1, 1] ![0, 7, 0, 0] ![0, 0, 0, 0] x z hw hu (ix4 b t h d)
      = cum (fun s => x (ix4 b s h d)) t := by
  rw [← window_cum]
  refine Eq.trans ?_ (fold_add (n := (⟨4, ![1, 8, 1, 1]⟩ : Shape).numel)
    (fun n => if h' : 7 ≤ t.val + n.val then x (ix4 b ⟨t.val + n.val - 7, by
      have hn : n.val < 8 := n.isLt
      omega⟩ h d) else 0))
  have e : Host.reduceWindowAdd (F := Ideal) ![1, 8, 1, 1] ![1, 1, 1, 1] ![0, 7, 0, 0] ![0, 0, 0, 0] x z hw hu
      = Host.reduceWindow (fun a b : EReal => a + b) ![1, 8, 1, 1] ![1, 1, 1, 1] ![0, 7, 0, 0] ![0, 0, 0, 0] x
          (fun _ : S_.Idx => z (Shape.Idx.first hu)) hw hu := rfl
  rw [e, hz]
  unfold Host.reduceWindow
  refine congrArg (fun f => List.foldl f 0 _) (funext fun r => funext fun n => congrArg (r + ·) ?_)
  have hp := place n
  have hn : n.val < 8 := n.isLt
  have p0 := hp 0
  have p1 := hp 1
  have p2 := hp 2
  have p3 := hp 3
  dsimp only [Matrix.cons_val] at p0 p1 p2 p3
  by_cases hle : 7 ≤ t.val + n.val
  · rw [dif_pos hle]
    refine (dif_pos ?_).trans (congrArg x (funext fun a => Fin.ext ?_))
    · intro a
      match a with
      | ⟨0, _⟩ => show 0 ≤ b.val * 1 + spot n 0 ∧ b.val * 1 + spot n 0 - 0 < 32; rw [p0]; omega
      | ⟨1, _⟩ => show 7 ≤ t.val * 1 + spot n 1 ∧ t.val * 1 + spot n 1 - 7 < 8; rw [p1]; omega
      | ⟨2, _⟩ => show 0 ≤ h.val * 1 + spot n 2 ∧ h.val * 1 + spot n 2 - 0 < 4; rw [p2]; omega
      | ⟨3, _⟩ => show 0 ≤ d.val * 1 + spot n 3 ∧ d.val * 1 + spot n 3 - 0 < 256; rw [p3]; omega
    · match a with
      | ⟨0, _⟩ => show b.val * 1 + spot n 0 - 0 = b.val; rw [p0]; omega
      | ⟨1, _⟩ => show t.val * 1 + spot n 1 - 7 = t.val + n.val - 7; rw [p1]; omega
      | ⟨2, _⟩ => show h.val * 1 + spot n 2 - 0 = h.val; rw [p2]; omega
      | ⟨3, _⟩ => show d.val * 1 + spot n 3 - 0 = d.val; rw [p3]; omega
  · rw [dif_neg hle]
    refine dif_neg fun hin => hle ?_
    have h1 := (hin 1).1
    change 7 ≤ t.val * 1 + spot n 1 at h1
    rw [p1] at h1
    omega

variable (H : FVec Ideal S256x6144 .f32) (G : FVec Ideal S256x1024 .f32) (W : FVec Ideal S512 .f32) (S : FVec Ideal S32x4x256x512 .f32)

/-- An entry of a head's rows, by its row and its column. -/
theorem rows_eq {n w : ℕ} (X : FVec Ideal ⟨2, ![256, n]⟩ .f32) (o : ℕ) (h : o + 4 * w ≤ n) (b : Fin 32) (i : Fin 4) (r : Fin 8) (d : Fin w)
    (y : Fin 256) (l : Fin n) (hy : y.val = b.val * 8 + r.val) (hl : l.val = o + (i.val * w + d.val)) :
    X (ix2 y l) = rows X o h b i r d := by
  unfold rows
  refine congrArg X (congrArg₂ ix2 (Fin.ext ?_) (Fin.ext ?_))
  · show y.val = 8 * b.val + r.val
    omega
  · show l.val = o + (w * i.val + d.val)
    rw [hl, Nat.mul_comm]

/-- The scaled queries. -/
theorem q_apply (b : Fin 32) (t : Fin 8) (h : Fin 4) (d : Fin 256) :
    val_main_v7 (F := Ideal) H (ix4 b t h d) = rows (w := 256) H 0 (by decide) b h t d * Ideal.ofBits .f32 0x3D800000#32 := by
  pointwise [val_main_v7, val_main_v6, val_main_v5, val_main_v1, val_main_v0, val_main_cst]
  exact congrArg (· * _) (rows_eq H 0 _ b h t d _ _ rfl (Nat.zero_add _).symm)

/-- The keys. -/
theorem k_apply (b : Fin 32) (t : Fin 8) (h : Fin 4) (d : Fin 256) :
    val_main_v8 (F := Ideal) H (ix4 b t h d) = rows (w := 256) H 1024 (by decide) b h t d := by
  pointwise [val_main_v8, val_main_v2, val_main_v0]
  exact rows_eq H 1024 _ b h t d _ _ rfl rfl

/-- The values. -/
theorem v_apply (b : Fin 32) (t : Fin 8) (h : Fin 4) (e : Fin 512) :
    val_main_v9 (F := Ideal) H (ix4 b t h e) = rows (w := 512) H 2048 (by decide) b h t e := by
  pointwise [val_main_v9, val_main_v3, val_main_v0]
  exact rows_eq H 2048 _ b h t e _ _ rfl rfl

/-- The log decays. -/
theorem g_apply (b : Fin 32) (t : Fin 8) (h : Fin 4) (d : Fin 256) :
    val_main_v10 (F := Ideal) G (ix4 b t h d) = rows (w := 256) G 0 (by decide) b h t d := by
  pointwise [val_main_v10]
  exact rows_eq G 0 _ b h t d _ _ rfl (Nat.zero_add _).symm

/-- Their sums. -/
theorem cum_apply (b : Fin 32) (t : Fin 8) (h : Fin 4) (d : Fin 256) :
    val_main_v11 (F := Ideal) G (ix4 b t h d) = cum (rows (w := 256) G 0 (by decide) b h · d) t := by
  unfold val_main_v11
  rw [window_apply _ _ fun i => by
    pointwise [val_main_call0_call0_v0, val_main_call0_call0_cst]]
  simp only [g_apply]

/-- The lower triangle. -/
theorem triangle (t s : Fin 8) : val_main_v15 (F := Ideal) (ix2 t s) = if s.val ≤ t.val then 1#1 else 0#1 := by
  pointwise [val_main_v15, val_main_call1_v5, val_main_call1_c_0, val_main_call1_v4, val_main_call1_v3, val_main_call1_v2, val_main_call1_v1, val_main_call1_c, val_main_call1_v0, val_main_v14, val_main_c]
  revert t s
  decide

theorem exp_mask : Ideal.exp (Ideal.ofBits .f32 0xFF800000#32) = 0 := by
  have h : Ideal.ofBits .f32 0xFF800000#32 = ⊥ := by simp [Ideal.ofBits, Ideal.ieee]
  rw [h]
  rfl

/-- The decay of row `s` in row `t`, with the mask. -/
theorem decay_apply (b : Fin 32) (t s : Fin 8) (h : Fin 4) (d : Fin 256) :
    val_main_v23 (F := Ideal) G (ix5 b t s h d)
      = if s.val ≤ t.val then Ideal.exp (cum (rows (w := 256) G 0 (by decide) b h · d) t - cum (rows (w := 256) G 0 (by decide) b h · d) s) else 0 := by
  pointwise [val_main_v23, val_main_v22, val_main_call2_v2, val_main_call2_v1, val_main_call2_v0, val_main_cst_0, val_main_v21, val_main_v20, val_main_v19, val_main_v18, val_main_v17, val_main_v16]
  simp only [cum_apply, triangle]
  split
  · rfl
  · exact exp_mask

/-- The queries, keys, values, log decays and state of a head of a sequence. -/
abbrev qs (b : Fin 32) (h : Fin 4) : Fin 8 → Fin 256 → EReal := rows (w := 256) H 0 (by decide) b h
abbrev ks (b : Fin 32) (h : Fin 4) : Fin 8 → Fin 256 → EReal := rows (w := 256) H 1024 (by decide) b h
abbrev gs (b : Fin 32) (h : Fin 4) : Fin 8 → Fin 256 → EReal := rows (w := 256) G 0 (by decide) b h
abbrev vs (b : Fin 32) (h : Fin 4) : Fin 8 → Fin 512 → EReal := rows (w := 512) H 2048 (by decide) b h
abbrev ss (b : Fin 32) (h : Fin 4) : Fin 256 → Fin 512 → EReal := fun d e => S (ix4 b h d e)

/-- The weights. -/
theorem weight_apply (b : Fin 32) (h : Fin 4) (t s : Fin 8) :
    val_main_v27 (F := Ideal) H G (ix4 b h t s) = weight (qs H b h) (ks H b h) (gs G b h) t s := by
  pointwise [val_main_v27, val_main_v26, val_main_v25, val_main_v24, dot_S32x8x4x256_S32x8x8x4x256_S32x4x8x8_3_4_n_2_021_031]
  simp only [q_apply, k_apply, decay_apply]
  unfold weight
  split
  · rfl
  · simp only [zero_mul, mul_zero, Finset.sum_const_zero]

/-- The outputs. -/
theorem output_apply (b : Fin 32) (t : Fin 8) (h : Fin 4) (e : Fin 512) :
    val_main_v34 (F := Ideal) H G S (ix4 b t h e) = output (qs H b h) (ks H b h) (gs G b h) (vs H b h) (ss S b h) t e := by
  pointwise [val_main_v34, val_main_v33, val_main_v32, val_main_v31, val_main_v30, val_main_v29, val_main_v28, dot_S32x4x256x512_S32x8x4x256_S32x4x512x8_2_3_3_1_01_02, dot_S32x8x4x512_S32x4x8x8_S32x4x512x8_1_3_3_2_02_01]
  simp only [q_apply, v_apply, cum_apply, weight_apply]
  unfold output
  exact congrArg₂ (· + ·) (Finset.sum_congr rfl fun d _ => mul_comm _ _) (Finset.sum_congr rfl fun i _ => mul_comm _ _)

/-- The next states. -/
theorem next_apply (b : Fin 32) (h : Fin 4) (d : Fin 256) (e : Fin 512) :
    val_main_v45 (F := Ideal) H G S (ix4 b h d e) = next (ks H b h) (gs G b h) (vs H b h) (ss S b h) d e := by
  pointwise [val_main_v45, val_main_v44, val_main_v43, val_main_v42, val_main_v41, val_main_v40, val_main_v39, val_main_v38, val_main_v37, val_main_v36, val_main_v35, val_main_v13, val_main_v12, dot_S32x8x4x256_S32x8x4x512_S32x4x256x512_1_1_3_3_02_02]
  simp only [k_apply, v_apply, cum_apply]
  rfl

/-- The normalised outputs. -/
theorem scaled_apply (b : Fin 32) (t : Fin 8) (h : Fin 4) (e : Fin 512) :
    val_main_v58 (F := Ideal) H G W S (ix4 b t h e)
      = scaled (output (qs H b h) (ks H b h) (gs G b h) (vs H b h) (ss S b h) t) (W (ix1 e)) e := by
  pointwise [val_main_v58, val_main_v57, val_main_v56, val_main_v55, val_main_v54, val_main_v53, val_main_v52, val_main_v51, val_main_cst_3, val_main_v50, val_main_v49, val_main_cst_2, val_main_v48, val_main_v47, val_main_cst_1, val_main_v46]
  simp only [output_apply]
  rfl

/-- The gate's silu. -/
theorem silu_apply (b : Fin 32) (t : Fin 8) (h : Fin 4) (e : Fin 512) :
    val_main_v60 (F := Ideal) H (ix3 b t ⟨512 * h.val + e.val, by omega⟩) = silu (rows (w := 512) H 4096 (by decide) b h t e) := by
  pointwise [val_main_v60, val_main_call3_v5, val_main_call3_v4, val_main_call3_cst_0, val_main_call3_v3, val_main_call3_v2, val_main_call3_cst, val_main_call3_v1, val_main_call3_v0, val_main_v4, val_main_v0]
  rw [rows_eq H 4096 (by decide) b h t e _ _ rfl (congrArg (fun k => 4096 + (k + e.val)) (Nat.mul_comm _ _))]
  rfl

/-- The kernel's gated outputs are the reference's. -/
theorem gated_eq : gated H G W S = val_main_v63 (F := Ideal) H G W S := by
  funext y
  obtain ⟨i, l, rfl⟩ : ∃ i l, y = ix2 i l := ⟨_, _, eq_ix2 y⟩
  pointwise [val_main_v63, val_main_v62, val_main_v61, val_main_v59]
  have hl : l = ⟨512 * (l.val / 512) + l.val % 512, by omega⟩ := Fin.ext (by show l.val = 512 * (l.val / 512) + l.val % 512; omega)
  refine Eq.symm ((congrArg₂ (fun a b : EReal => a * b) (scaled_apply H G W S _ _ _ _) ?_).trans rfl)
  refine (congrArg (fun l => val_main_v60 (F := Ideal) H (ix3 _ _ l)) hl).trans ?_
  exact silu_apply H _ _ ⟨l.val / 512, by omega⟩ ⟨l.val % 512, by omega⟩

/-- The kernel's next states are the reference's. -/
theorem states_eq : states H G S = val_main_v45 (F := Ideal) H G S := by
  funext y
  obtain ⟨b, h, d, e, rfl⟩ : ∃ b h d e, y = ix4 b h d e := ⟨_, _, _, _, eq_ix4 y⟩
  rw [next_apply]
  rfl

end Cert.ReferenceChunkIdeal.Rows
-- ==== Proof.lean ====
/-
  The certificate: the sliding-window attention and the projections are safe, and at the ideal instance each
  computes its reference.
-/
module

public import proofs.«01_k».proof.Defs
public import proofs.«01_k».proof.Proof.Gen.KernelIdeal.Value
public import proofs.«01_k».proof.Proof.Gen.ReferenceIdeal.Read
public import proofs.«01_k».proof.Proof.Equation
public import proofs.«01_k».proof.Proof.Gate
public import proofs.«01_k».proof.Proof.Gla
public import proofs.«01_k».proof.Proof.Norm
public import proofs.«01_k».proof.Proof.Mix
public import proofs.«01_k».proof.Proof.Decay
public import proofs.«01_k».proof.Proof.LoraEq
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelQkv
public import proofs.«01_k».proof.Proof.Gen.KernelQkv.Frame
public import proofs.«01_k».proof.Proof.Gen.KernelQkvIdeal
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Read
public import proofs.«01_k».proof.Proof.Gen.ReferenceQkvIdeal.Run
public import proofs.«01_k».proof.Proof.Gen.KernelGate
public import proofs.«01_k».proof.Proof.Gen.KernelGate.Frame
public import proofs.«01_k».proof.Proof.Gen.KernelGateIdeal
public import proofs.«01_k».proof.Proof.Gen.KernelGateIdeal.Frame
public import proofs.«01_k».proof.Proof.Gen.KernelGateIdeal.Value
public import proofs.«01_k».proof.Proof.Gen.ReferenceGateIdeal
public import proofs.«01_k».proof.Proof.Gen.ReferenceGateIdeal.Read
public import proofs.«01_k».proof.Proof.Gen.ReferenceGateIdeal.Run
public import proofs.«01_k».proof.Proof.Gen.KernelGla
public import proofs.«01_k».proof.Proof.Gen.KernelGla.Frame
public import proofs.«01_k».proof.Proof.Gen.KernelGlaIdeal
public import proofs.«01_k».proof.Proof.Gen.KernelGlaIdeal.Frame
public import proofs.«01_k».proof.Proof.Gen.KernelGlaIdeal.Value
public import proofs.«01_k».proof.Proof.Gen.ReferenceGlaIdeal
public import proofs.«01_k».proof.Proof.Gen.ReferenceGlaIdeal.Read
public import proofs.«01_k».proof.Proof.Gen.ReferenceGlaIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Read
public import proofs.«01_k».proof.Proof.Gen.ReferenceOutIdeal.Run
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Read
public import proofs.«01_k».proof.Proof.Gen.ReferenceMixIdeal.Run
public import proofs.«01_k».proof.Proof.Gen.KernelDecay
public import proofs.«01_k».proof.Proof.Gen.KernelDecay.Frame
public import proofs.«01_k».proof.Proof.Gen.KernelDecayIdeal
public import proofs.«01_k».proof.Proof.Gen.KernelDecayIdeal.Frame
public import proofs.«01_k».proof.Proof.Gen.KernelDecayIdeal.Value
public import proofs.«01_k».proof.Proof.Gen.ReferenceDecayIdeal
public import proofs.«01_k».proof.Proof.Gen.ReferenceDecayIdeal.Read
public import proofs.«01_k».proof.Proof.Gen.ReferenceDecayIdeal.Run
public import proofs.«01_k».proof.Proof.Gen.KernelLora
public import proofs.«01_k».proof.Proof.Gen.KernelLora.Frame
public import proofs.«01_k».proof.Proof.Gen.KernelLoraIdeal
public import proofs.«01_k».proof.Proof.Gen.KernelLoraIdeal.Frame
public import proofs.«01_k».proof.Proof.Gen.KernelLoraIdeal.Value
public import proofs.«01_k».proof.Proof.Gen.ReferenceLoraIdeal
public import proofs.«01_k».proof.Proof.Gen.ReferenceLoraIdeal.Read
public import proofs.«01_k».proof.Proof.Gen.ReferenceLoraIdeal.Run
public import proofs.«01_k».proof.Proof.SampleEquation
public import proofs.«01_k».proof.Proof.OutSample
public import proofs.«01_k».proof.Proof.ChunkRef
public import proofs.«01_k».proof.Proof.Gen.KernelOutSample
public import proofs.«01_k».proof.Proof.Gen.KernelOutSample.Frame
public import proofs.«01_k».proof.Proof.Gen.KernelOutSampleIdeal
public import proofs.«01_k».proof.Proof.Gen.KernelOutSampleIdeal.Frame
public import proofs.«01_k».proof.Proof.Gen.KernelOutSampleIdeal.Value
public import proofs.«01_k».proof.Proof.Gen.ReferenceOutSampleIdeal.Read
public import proofs.«01_k».proof.Proof.Gen.ReferenceOutSampleIdeal.Run
public import proofs.«01_k».proof.Proof.Gen.KernelChunk
public import proofs.«01_k».proof.Proof.Gen.KernelChunk.Frame
public import proofs.«01_k».proof.Proof.Gen.KernelChunkIdeal
public import proofs.«01_k».proof.Proof.Gen.KernelChunkIdeal.Frame
public import proofs.«01_k».proof.Proof.Gen.KernelChunkIdeal.Value
public import proofs.«01_k».proof.Proof.Gen.ReferenceChunkIdeal.Read
public import proofs.«01_k».proof.Proof.Gen.ReferenceChunkIdeal.Run
public import proofs.«01_k».proof.Proof.Gen.KernelSample
public import proofs.«01_k».proof.Proof.Gen.KernelSample.Frame
public import proofs.«01_k».proof.Proof.Gen.KernelSampleIdeal
public import proofs.«01_k».proof.Proof.Gen.KernelSampleIdeal.Frame
public import proofs.«01_k».proof.Proof.Gen.KernelSampleIdeal.Value
public import proofs.«01_k».proof.Proof.Gen.ReferenceSampleIdeal
public import proofs.«01_k».proof.Proof.Gen.ReferenceSampleIdeal.Read
public import proofs.«01_k».proof.Proof.Gen.ReferenceSampleIdeal.Run

@[expose] public section

noncomputable section

namespace Cert.Proof

open Idealize.ShloMosaic Idealize.SL.Sem Cert.Kernel

/-- The reference ends with its arguments unchanged and has no semaphore. -/
theorem attention_reference_frame : Cert.quiescent_ReferenceIdeal (hReferenceIdeal := Cert.ReferenceIdeal.Gen.facts) := by
  intro m g _
  exact (θ_run _ _ _).mono (fun r h => ⟨fun c => (h c).2.2.2, sem_eq_zero_of_no_sems (by decide) r.2⟩)
    (Cert.ReferenceIdeal.Value.run (F := Ideal) m g)

/-- The masking constant is idealized by rule. -/
theorem preserves_mask : Cert.preserves_Kernel_KernelIdeal :=
  IdealRules.named_const.statement Cert.KernelIdeal.κ "mask" .f32 0xF149F2CA#32 ⊥ rfl

/-- The attention call and the reference have equal results. -/
theorem attention_value :
    Cert.algebraic_KernelIdeal_ReferenceIdeal (hKernelIdeal := Cert.KernelIdeal.Gen.facts) (hReferenceIdeal := Cert.ReferenceIdeal.Gen.facts) := by
  intro m g m' g' _ hm
  refine ⟨_, _, _, Cert.KernelIdeal.Value.run_blocks (F := Ideal) m g, ?_⟩
  refine (θ_run _ _ _).mono (fun r h c => ?_) (Cert.ReferenceIdeal.Value.run (F := Ideal) m' g')
  obtain ⟨h0, h1, h2, ha⟩ := h c
  obtain ⟨e0, e1, e2⟩ := hm c
  refine ⟨h0.trans ?_, h1.trans ?_, h2.trans ?_, ha⟩
  · rw [Cert.ReferenceIdeal.Read.val_main_v139_eq, e0, e1, e2, ← Cert.ReferenceIdeal.Rows.attention_eq]
    exact (Cert.KernelIdeal.Block.array9 m c).symm
  · rw [Cert.ReferenceIdeal.Read.val_main_v141_eq, e0, ← Cert.ReferenceIdeal.Rows.lastKeys_eq]
    exact (Cert.KernelIdeal.Block.array10 m c).symm
  · rw [Cert.ReferenceIdeal.Read.val_main_v143_eq, e0, ← Cert.ReferenceIdeal.Rows.lastValues_eq]
    exact (Cert.KernelIdeal.Block.array11 m c).symm

/-- The reference of the queries', keys' and values' projection ends with its arguments unchanged and has no semaphore. -/
theorem qkv_reference_frame : Cert.quiescent_ReferenceQkvIdeal (hReferenceQkvIdeal := Cert.ReferenceQkvIdeal.Gen.facts) := by
  intro m g _
  exact (θ_run _ _ _).mono (fun r h => ⟨fun c => (h c).2, sem_eq_zero_of_no_sems (by decide) r.2⟩)
    (Cert.ReferenceQkvIdeal.Value.run (F := Ideal) m g)

/-- The queries', keys' and values' projection and its reference have equal results. -/
theorem qkv_value : Cert.algebraic_KernelQkvIdeal_ReferenceQkvIdeal (hKernelQkvIdeal := Cert.KernelQkvIdeal.Gen.facts)
    (hReferenceQkvIdeal := Cert.ReferenceQkvIdeal.Gen.facts) := by
  intro m g m' g' _ hm
  refine ⟨_, Cert.KernelQkvIdeal.Value.run_blocks (F := Ideal) m g, ?_⟩
  refine (θ_run _ _ _).mono (fun r h c => ?_) (Cert.ReferenceQkvIdeal.Value.run (F := Ideal) m' g')
  obtain ⟨h0, ha⟩ := h c
  obtain ⟨e0, e1⟩ := hm c
  refine ⟨h0.trans ?_, ha⟩
  rw [Cert.ReferenceQkvIdeal.Read.val_main_v1_eq, e0, e1]
  exact (Cert.KernelQkvIdeal.Block.array2 m c).symm

/-- The reference of the gates' projection ends with its arguments unchanged and has no semaphore. -/
theorem gate_reference_frame : Cert.quiescent_ReferenceGateIdeal (hReferenceGateIdeal := Cert.ReferenceGateIdeal.Gen.facts) := by
  intro m g _
  exact (θ_run _ _ _).mono (fun r h => ⟨fun c => (h c).2, sem_eq_zero_of_no_sems (by decide) r.2⟩)
    (Cert.ReferenceGateIdeal.Value.run (F := Ideal) m g)

/-- The gates' projection and its reference have equal results. -/
theorem gate_value : Cert.algebraic_KernelGateIdeal_ReferenceGateIdeal (hKernelGateIdeal := Cert.KernelGateIdeal.Gen.facts)
    (hReferenceGateIdeal := Cert.ReferenceGateIdeal.Gen.facts) := by
  intro m g m' g' _ hm
  refine ⟨_, Cert.KernelGateIdeal.Value.run_blocks (F := Ideal) m g, ?_⟩
  refine (θ_run _ _ _).mono (fun r h c => ?_) (Cert.ReferenceGateIdeal.Value.run (F := Ideal) m' g')
  obtain ⟨h0, ha⟩ := h c
  obtain ⟨e0, e1⟩ := hm c
  refine ⟨h0.trans ?_, ha⟩
  rw [Cert.ReferenceGateIdeal.Read.val_main_v1_eq, e0, e1]
  exact (Cert.KernelGateIdeal.Block.array2 m c).symm

/-- The reference of the gated linear attention's projection ends with its arguments unchanged and has no semaphore. -/
theorem gla_reference_frame : Cert.quiescent_ReferenceGlaIdeal (hReferenceGlaIdeal := Cert.ReferenceGlaIdeal.Gen.facts) := by
  intro m g _
  exact (θ_run _ _ _).mono (fun r h => ⟨fun c => (h c).2, sem_eq_zero_of_no_sems (by decide) r.2⟩)
    (Cert.ReferenceGlaIdeal.Value.run (F := Ideal) m g)

/-- The gated linear attention's projection and its reference have equal results. -/
theorem gla_value : Cert.algebraic_KernelGlaIdeal_ReferenceGlaIdeal (hKernelGlaIdeal := Cert.KernelGlaIdeal.Gen.facts)
    (hReferenceGlaIdeal := Cert.ReferenceGlaIdeal.Gen.facts) := by
  intro m g m' g' _ hm
  refine ⟨_, Cert.KernelGlaIdeal.Value.run_blocks (F := Ideal) m g, ?_⟩
  refine (θ_run _ _ _).mono (fun r h c => ?_) (Cert.ReferenceGlaIdeal.Value.run (F := Ideal) m' g')
  obtain ⟨h0, ha⟩ := h c
  obtain ⟨e0, e1⟩ := hm c
  refine ⟨h0.trans ?_, ha⟩
  rw [Cert.ReferenceGlaIdeal.Read.val_main_v1_eq, e0, e1]
  exact (Cert.KernelGlaIdeal.Block.array2 m c).symm

/-- The reference of the output projection with its norm ends with its arguments unchanged and has no semaphore. -/
theorem out_reference_frame : Cert.quiescent_ReferenceOutIdeal (hReferenceOutIdeal := Cert.ReferenceOutIdeal.Gen.facts) := by
  intro m g _
  exact (θ_run _ _ _).mono (fun r h => ⟨fun c => (h c).2, sem_eq_zero_of_no_sems (by decide) r.2⟩)
    (Cert.ReferenceOutIdeal.Value.run (F := Ideal) m g)

/-- The output projection with its norm and its reference have equal results. -/
theorem out_value : Cert.algebraic_KernelOutIdeal_ReferenceOutIdeal (hKernelOutIdeal := Cert.KernelOutIdeal.Gen.facts)
    (hReferenceOutIdeal := Cert.ReferenceOutIdeal.Gen.facts) := by
  intro m g m' g' _ hm
  refine ⟨_, Cert.KernelOutIdeal.Value.run_blocks (F := Ideal) m g, ?_⟩
  refine (θ_run _ _ _).mono (fun r h c => ?_) (Cert.ReferenceOutIdeal.Value.run (F := Ideal) m' g')
  obtain ⟨h0, ha⟩ := h c
  obtain ⟨e0, e1, e2, e3, e4⟩ := hm c
  refine ⟨h0.trans ?_, ha⟩
  rw [Cert.ReferenceOutIdeal.Read.val_main_v28_eq, e0, e1, e2, e3, e4]
  exact (Cert.KernelOutIdeal.Block.array5 m c).symm

/-- The reference of the token mixer's projections ends with its arguments unchanged and has no semaphore. -/
theorem mix_reference_frame : Cert.quiescent_ReferenceMixIdeal (hReferenceMixIdeal := Cert.ReferenceMixIdeal.Gen.facts) := by
  intro m g _
  exact (θ_run _ _ _).mono (fun r h => ⟨fun c => (h c).2, sem_eq_zero_of_no_sems (by decide) r.2⟩)
    (Cert.ReferenceMixIdeal.Value.run (F := Ideal) m g)

/-- The token mixer's projections and its reference have equal results. -/
theorem mix_value : Cert.algebraic_KernelMixIdeal_ReferenceMixIdeal (hKernelMixIdeal := Cert.KernelMixIdeal.Gen.facts)
    (hReferenceMixIdeal := Cert.ReferenceMixIdeal.Gen.facts) := by
  intro m g m' g' _ hm
  refine ⟨_, Cert.KernelMixIdeal.Value.run_blocks (F := Ideal) m g, ?_⟩
  refine (θ_run _ _ _).mono (fun r h c => ?_) (Cert.ReferenceMixIdeal.Value.run (F := Ideal) m' g')
  obtain ⟨h0, ha⟩ := h c
  obtain ⟨e0, e1, e2, e3⟩ := hm c
  refine ⟨h0.trans ?_, ha⟩
  rw [Cert.ReferenceMixIdeal.Read.val_main_v49_eq, e0, e1, e2, e3]
  exact (Cert.KernelMixIdeal.Block.array4 m c).symm

/-- The reference of the log decays ends with its arguments unchanged and has no semaphore. -/
theorem decay_reference_frame : Cert.quiescent_ReferenceDecayIdeal (hReferenceDecayIdeal := Cert.ReferenceDecayIdeal.Gen.facts) := by
  intro m g _
  exact (θ_run _ _ _).mono (fun r h => ⟨fun c => (h c).2, sem_eq_zero_of_no_sems (by decide) r.2⟩)
    (Cert.ReferenceDecayIdeal.Value.run (F := Ideal) m g)

/-- The log decays and their reference are equal. -/
theorem decay_value : Cert.algebraic_KernelDecayIdeal_ReferenceDecayIdeal (hKernelDecayIdeal := Cert.KernelDecayIdeal.Gen.facts)
    (hReferenceDecayIdeal := Cert.ReferenceDecayIdeal.Gen.facts) := by
  intro m g m' g' _ hm
  refine ⟨_, Cert.KernelDecayIdeal.Value.run_blocks (F := Ideal) m g, ?_⟩
  refine (θ_run _ _ _).mono (fun r h c => ?_) (Cert.ReferenceDecayIdeal.Value.run (F := Ideal) m' g')
  obtain ⟨h0, ha⟩ := h c
  obtain ⟨e0, e1, e2, e3⟩ := hm c
  refine ⟨h0.trans ?_, ha⟩
  rw [Cert.ReferenceDecayIdeal.Read.val_main_v8_eq, e0, e1, e2, e3]
  exact (Cert.KernelDecayIdeal.Block.array4 m c).symm

/-- The reference of the token mixer's decays and rates ends with its arguments unchanged and has no semaphore. -/
theorem lora_reference_frame : Cert.quiescent_ReferenceLoraIdeal (hReferenceLoraIdeal := Cert.ReferenceLoraIdeal.Gen.facts) := by
  intro m g _
  exact (θ_run _ _ _).mono (fun r h => ⟨fun c => (h c).2.2, sem_eq_zero_of_no_sems (by decide) r.2⟩)
    (Cert.ReferenceLoraIdeal.Value.run (F := Ideal) m g)

/-- The token mixer's decays and rates and their reference are equal. -/
theorem lora_value : Cert.algebraic_KernelLoraIdeal_ReferenceLoraIdeal (hKernelLoraIdeal := Cert.KernelLoraIdeal.Gen.facts)
    (hReferenceLoraIdeal := Cert.ReferenceLoraIdeal.Gen.facts) := by
  intro m g m' g' _ hm
  refine ⟨_, _, Cert.KernelLoraIdeal.Value.run_blocks (F := Ideal) m g, ?_⟩
  refine (θ_run _ _ _).mono (fun r h c => ?_) (Cert.ReferenceLoraIdeal.Value.run (F := Ideal) m' g')
  obtain ⟨h0, h1, ha⟩ := h c
  obtain ⟨e0, e1, e2, e3, e4, e5, e6, e7, e8⟩ := hm c
  refine ⟨h0.trans ?_, h1.trans ?_, ha⟩
  · rw [Cert.ReferenceLoraIdeal.Read.val_main_v42_eq, e0, e1, e2, e3, e4, e5]
    exact (Cert.KernelLoraIdeal.Block.array9 m c).symm
  · rw [Cert.ReferenceLoraIdeal.Read.val_main_v43_eq, e0, e1, e2, e6, e7, e8]
    exact (Cert.KernelLoraIdeal.Block.array10 m c).symm

/-- The sample's reference ends with its arguments unchanged and has no semaphore. -/
theorem sample_reference_frame : Cert.quiescent_ReferenceSampleIdeal (hReferenceSampleIdeal := Cert.ReferenceSampleIdeal.Gen.facts) := by
  intro m g _
  exact (θ_run _ _ _).mono (fun r h => ⟨fun c => (h c).2.2.2, sem_eq_zero_of_no_sems (by decide) r.2⟩)
    (Cert.ReferenceSampleIdeal.Value.run (F := Ideal) m g)

/-- The sample's masking constant is idealized by rule. -/
theorem preserves_sample_mask : Cert.preserves_KernelSample_KernelSampleIdeal :=
  IdealRules.named_const.statement Cert.KernelSampleIdeal.κ "mask" .f32 0xF149F2CA#32 ⊥ rfl

/-- The sample's attention call and its reference have equal results. -/
theorem sample_value : Cert.algebraic_KernelSampleIdeal_ReferenceSampleIdeal (hKernelSampleIdeal := Cert.KernelSampleIdeal.Gen.facts)
    (hReferenceSampleIdeal := Cert.ReferenceSampleIdeal.Gen.facts) := by
  intro m g m' g' _ hm
  refine ⟨_, _, _, Cert.KernelSampleIdeal.Value.run_blocks (F := Ideal) m g, ?_⟩
  refine (θ_run _ _ _).mono (fun r h c => ?_) (Cert.ReferenceSampleIdeal.Value.run (F := Ideal) m' g')
  obtain ⟨h0, h1, h2, ha⟩ := h c
  obtain ⟨e0, e1, e2, e3, e4⟩ := hm c
  refine ⟨h0.trans ?_, h1.trans ?_, h2.trans ?_, ha⟩
  · rw [Cert.ReferenceSampleIdeal.Read.val_main_v118_eq, e0, e1, e2, e3, e4, ← Cert.ReferenceSampleIdeal.Rows.attention_eq]
    exact (Cert.KernelSampleIdeal.Block.array9 m c).symm
  · rw [Cert.ReferenceSampleIdeal.Read.val_main_v120_eq, e0, e3, ← Cert.ReferenceSampleIdeal.Rows.nextKeys_eq]
    exact (Cert.KernelSampleIdeal.Block.array10 m c).symm
  · rw [Cert.ReferenceSampleIdeal.Read.val_main_v122_eq, e0, e4, ← Cert.ReferenceSampleIdeal.Rows.nextValues_eq]
    exact (Cert.KernelSampleIdeal.Block.array11 m c).symm

/-- The reference of the output projection at the sample's rows with its norm ends with its arguments unchanged and has no semaphore. -/
theorem out_sample_reference_frame : Cert.quiescent_ReferenceOutSampleIdeal (hReferenceOutSampleIdeal := Cert.ReferenceOutSampleIdeal.Gen.facts) := by
  intro m g _
  exact (θ_run _ _ _).mono (fun r h => ⟨fun c => (h c).2, sem_eq_zero_of_no_sems (by decide) r.2⟩)
    (Cert.ReferenceOutSampleIdeal.Value.run (F := Ideal) m g)

/-- The output projection at the sample's rows with its norm and its reference have equal results. -/
theorem out_sample_value : Cert.algebraic_KernelOutSampleIdeal_ReferenceOutSampleIdeal (hKernelOutSampleIdeal := Cert.KernelOutSampleIdeal.Gen.facts)
    (hReferenceOutSampleIdeal := Cert.ReferenceOutSampleIdeal.Gen.facts) := by
  intro m g m' g' _ hm
  refine ⟨_, Cert.KernelOutSampleIdeal.Value.run_blocks (F := Ideal) m g, ?_⟩
  refine (θ_run _ _ _).mono (fun r h c => ?_) (Cert.ReferenceOutSampleIdeal.Value.run (F := Ideal) m' g')
  obtain ⟨h0, ha⟩ := h c
  obtain ⟨e0, e1, e2, e3, e4⟩ := hm c
  refine ⟨h0.trans ?_, ha⟩
  rw [Cert.ReferenceOutSampleIdeal.Read.val_main_v28_eq, e0, e1, e2, e3, e4]
  exact (Cert.KernelOutSampleIdeal.Block.array5 m c).symm

/-- The chunk's reference ends with its arguments unchanged and has no semaphore. -/
theorem chunk_reference_frame : Cert.quiescent_ReferenceChunkIdeal (hReferenceChunkIdeal := Cert.ReferenceChunkIdeal.Gen.facts) := by
  intro m g _
  exact (θ_run _ _ _).mono (fun r h => ⟨fun c => (h c).2.2, sem_eq_zero_of_no_sems (by decide) r.2⟩)
    (Cert.ReferenceChunkIdeal.Value.run (F := Ideal) m g)

/-- The gated linear attention's chunk and its reference have equal results. -/
theorem chunk_value : Cert.algebraic_KernelChunkIdeal_ReferenceChunkIdeal (hKernelChunkIdeal := Cert.KernelChunkIdeal.Gen.facts)
    (hReferenceChunkIdeal := Cert.ReferenceChunkIdeal.Gen.facts) := by
  intro m g m' g' _ hm
  refine ⟨_, _, Cert.KernelChunkIdeal.Value.run_blocks (F := Ideal) m g, ?_⟩
  refine (θ_run _ _ _).mono (fun r h c => ?_) (Cert.ReferenceChunkIdeal.Value.run (F := Ideal) m' g')
  obtain ⟨h0, h1, ha⟩ := h c
  obtain ⟨e0, e1, e2, e3⟩ := hm c
  refine ⟨h0.trans ?_, h1.trans ?_, ha⟩
  · rw [Cert.ReferenceChunkIdeal.Read.val_main_v63_eq, e0, e1, e2, e3, ← Cert.ReferenceChunkIdeal.Rows.gated_eq]
    exact (Cert.KernelChunkIdeal.Block.array7 m c).symm
  · rw [Cert.ReferenceChunkIdeal.Read.val_main_v45_eq, e0, e1, e3, ← Cert.ReferenceChunkIdeal.Rows.states_eq]
    exact (Cert.KernelChunkIdeal.Block.array8 m c).symm

/-- The certificate's claim. -/
theorem claim : Cert.Claim :=
  ⟨Cert.Kernel.Gen.facts, Cert.KernelIdeal.Gen.facts, Cert.ReferenceIdeal.Gen.facts,
    Cert.KernelQkv.Gen.facts, Cert.KernelQkvIdeal.Gen.facts, Cert.ReferenceQkvIdeal.Gen.facts,
    Cert.KernelGate.Gen.facts, Cert.KernelGateIdeal.Gen.facts, Cert.ReferenceGateIdeal.Gen.facts,
    Cert.KernelGla.Gen.facts, Cert.KernelGlaIdeal.Gen.facts, Cert.ReferenceGlaIdeal.Gen.facts,
    Cert.KernelOut.Gen.facts, Cert.KernelOutIdeal.Gen.facts, Cert.ReferenceOutIdeal.Gen.facts,
    Cert.KernelMix.Gen.facts, Cert.KernelMixIdeal.Gen.facts, Cert.ReferenceMixIdeal.Gen.facts,
    Cert.KernelDecay.Gen.facts, Cert.KernelDecayIdeal.Gen.facts, Cert.ReferenceDecayIdeal.Gen.facts,
    Cert.KernelLora.Gen.facts, Cert.KernelLoraIdeal.Gen.facts, Cert.ReferenceLoraIdeal.Gen.facts,
    Cert.KernelSample.Gen.facts, Cert.KernelSampleIdeal.Gen.facts, Cert.ReferenceSampleIdeal.Gen.facts,
    Cert.KernelOutSample.Gen.facts, Cert.KernelOutSampleIdeal.Gen.facts, Cert.ReferenceOutSampleIdeal.Gen.facts,
    Cert.KernelChunk.Gen.facts, Cert.KernelChunkIdeal.Gen.facts, Cert.ReferenceChunkIdeal.Gen.facts,
    fun m g _ => Cert.Kernel.Gen.frame (F := Bits) m g, fun m g _ => Cert.KernelIdeal.Gen.frame (F := Ideal) m g, attention_reference_frame,
    fun m g _ => Cert.KernelQkv.Gen.frame (F := Bits) m g, fun m g _ => Cert.KernelQkvIdeal.Gen.frame (F := Ideal) m g, qkv_reference_frame,
    fun m g _ => Cert.KernelGate.Gen.frame (F := Bits) m g, fun m g _ => Cert.KernelGateIdeal.Gen.frame (F := Ideal) m g, gate_reference_frame,
    fun m g _ => Cert.KernelGla.Gen.frame (F := Bits) m g, fun m g _ => Cert.KernelGlaIdeal.Gen.frame (F := Ideal) m g, gla_reference_frame,
    fun m g _ => Cert.KernelOut.Gen.frame (F := Bits) m g, fun m g _ => Cert.KernelOutIdeal.Gen.frame (F := Ideal) m g, out_reference_frame,
    fun m g _ => Cert.KernelMix.Gen.frame (F := Bits) m g, fun m g _ => Cert.KernelMixIdeal.Gen.frame (F := Ideal) m g, mix_reference_frame,
    fun m g _ => Cert.KernelDecay.Gen.frame (F := Bits) m g, fun m g _ => Cert.KernelDecayIdeal.Gen.frame (F := Ideal) m g, decay_reference_frame,
    fun m g _ => Cert.KernelLora.Gen.frame (F := Bits) m g, fun m g _ => Cert.KernelLoraIdeal.Gen.frame (F := Ideal) m g, lora_reference_frame,
    fun m g _ => Cert.KernelSample.Gen.frame (F := Bits) m g, fun m g _ => Cert.KernelSampleIdeal.Gen.frame (F := Ideal) m g, sample_reference_frame,
    fun m g _ => Cert.KernelOutSample.Gen.frame (F := Bits) m g, fun m g _ => Cert.KernelOutSampleIdeal.Gen.frame (F := Ideal) m g,
    out_sample_reference_frame,
    fun m g _ => Cert.KernelChunk.Gen.frame (F := Bits) m g, fun m g _ => Cert.KernelChunkIdeal.Gen.frame (F := Ideal) m g, chunk_reference_frame,
    preserves_mask, attention_value, trivial, qkv_value, trivial, gate_value, trivial, gla_value, trivial, out_value, trivial, mix_value,
    trivial, decay_value, trivial, lora_value, preserves_sample_mask, sample_value, trivial, out_sample_value,
    trivial, chunk_value⟩

end Cert.Proof

end
